-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25_0) = v0 c
          ∧ r.2.mem ((c.tc : Thread Cert.ReferenceIdeal.nD Cert.ReferenceIdeal.τ).loc Cert.ReferenceIdeal.main_v25_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_rows_in_range : Cert.Pre_rows_in_range.Facts),
    quiescent_Kernel (hKernel := hKernel) (hPre_rows_in_range := hPre_rows_in_range)
    ∧ quiescent_KernelIdeal (hKernelIdeal := hKernelIdeal) (hPre_rows_in_range := hPre_rows_in_range)
    ∧ quiescent_ReferenceIdeal (hReferenceIdeal := hReferenceIdeal) (hPre_rows_in_range := hPre_rows_in_range)
    ∧ preserves_Kernel_KernelIdeal
    ∧ algebraic_KernelIdeal_ReferenceIdeal (hKernelIdeal := hKernelIdeal) (hReferenceIdeal := hReferenceIdeal) (hPre_rows_in_range := hPre_rows_in_range)
-- ==== Pre_rows_in_range.lean ====
abbrev S2048x7168 : Shape := ⟨2, ![2048, 7168]⟩
abbrev S2048 : Shape := ⟨1, ![2048]⟩
abbrev S16384x7168 : Shape := ⟨2, ![16384, 7168]⟩
abbrev S16384x56 : Shape := ⟨2, ![16384, 56]⟩
abbrev S2048x8 : Shape := ⟨2, ![2048, 8]⟩
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S2048x7168 8) (main_arg1 : FVec F S2048 .f32) (main_arg2 : FVec F S16384x7168 .fp8e4m3) (main_arg3 : FVec F S16384x56 .f32) (main_arg4 : FVec F S2048x8 .f32) (main_arg5 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg5 main_v0
  let main_c_0 : IVec S_ 32 := constantI S_ 32 16384#32
  let main_v2 : IVec S16384 32 := broadcastInDim S16384 ![] bcast_S_S16384 main_c_0
  let main_v3 : IVec S16384 1 := cmpi .slt main_arg5 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S2048x7168 : Shape := ⟨2, ![2048, 7168]⟩
abbrev S2048 : Shape := ⟨1, ![2048]⟩
abbrev S16384x7168 : Shape := ⟨2, ![16384, 7168]⟩
abbrev S16384x56 : Shape := ⟨2, ![16384, 56]⟩
abbrev S2048x8 : Shape := ⟨2, ![2048, 8]⟩
abbrev S16384 : Shape := ⟨1, ![16384]⟩
abbrev S1x16384 : Shape := ⟨2, ![1, 16384]⟩
abbrev S1x2048 : Shape := ⟨2, ![1, 2048]⟩
abbrev S56x16384 : Shape := ⟨2, ![56, 16384]⟩
abbrev S8x2048 : Shape := ⟨2, ![8, 2048]⟩
abbrev S1x256 : Shape := ⟨2, ![1, 256]⟩
abbrev S256x7168 : Shape := ⟨2, ![256, 7168]⟩
abbrev S56x256 : Shape := ⟨2, ![56, 256]⟩
abbrev S30728x128 : Shape := ⟨2, ![30728, 128]⟩
abbrev S2048x128 : Shape := ⟨2, ![2048, 128]⟩
abbrev S4352x128 : Shape := ⟨2, ![4352, 128]⟩
abbrev S256x128 : Shape := ⟨2, ![256, 128]⟩
abbrev S128x128 : Shape := ⟨2, ![128, 128]⟩
abbrev S2x256x7168 : Shape := ⟨3, ![2, 256, 7168]⟩
abbrev S2 : Shape := ⟨1, ![2]⟩
abbrev S8x128 : Shape := ⟨2, ![8, 128]⟩
abbrev S1 : Shape := ⟨1, ![1]⟩
abbrev S_ : Shape := ⟨0, ![]⟩
abbrev S1x256x7168 : Shape := ⟨3, ![1, 256, 7168]⟩
abbrev S32x128 : Shape := ⟨2, ![32, 128]⟩
abbrev S1x32x128 : Shape := ⟨3, ![1, 32, 128]⟩
abbrev S32 : Shape := ⟨1, ![32]⟩
abbrev S32x1 : Shape := ⟨2, ![32, 1]⟩
abbrev S1x128 : Shape := ⟨2, ![1, 128]⟩
abbrev S256x8x128 : Shape := ⟨3, ![256, 8, 128]⟩
abbrev S1x8x128 : Shape := ⟨3, ![1, 8, 128]⟩
abbrev S88x128 : Shape := ⟨2, ![88, 128]⟩
abbrev S128 : Shape := ⟨1, ![128]⟩
abbrev S256x256 : Shape := ⟨2, ![256, 256]⟩
abbrev S32x256 : Shape := ⟨2, ![32, 256]⟩
abbrev S56x128 : Shape := ⟨2, ![56, 128]⟩

abbrev nBuf : Space → Nat
  | .hbm => 12
  | .vmem => 20
  | .smem => 1
  | _ => 0

abbrev bufTy : (tb : Table) → Fin (tcTables nBuf tb) → BufTy
  | .hbm, ⟨0, _⟩ => ⟨S2048x7168, .i8⟩
  | .hbm, ⟨1, _⟩ => ⟨S2048, .f32⟩
  | .hbm, ⟨2, _⟩ => ⟨S16384x7168, .fp8e4m3⟩
  | .hbm, ⟨3, _⟩ => ⟨S16384x56, .f32⟩
  | .hbm, ⟨4, _⟩ => ⟨S2048x8, .f32⟩
  | .hbm, ⟨5, _⟩ => ⟨S1x16384, .i32⟩
  | .hbm, ⟨6, _⟩ => ⟨S1x2048, .f32⟩
  | .hbm, ⟨7, _⟩ => ⟨S56x16384, .f32⟩
  | .hbm, ⟨8, _⟩ => ⟨S8x2048, .f32⟩
  | .hbm, ⟨9, _⟩ => ⟨S16384x7168, .fp8e5m2⟩
  | .hbm, ⟨10, _⟩ => ⟨S1x16384, .f32⟩
  | .hbm, ⟨11, _⟩ => ⟨S8x2048, .f32⟩
  | .local _ .vmem, ⟨0, _⟩ => ⟨S1x256, .i32⟩
  | .local _ .vmem, ⟨1, _⟩ => ⟨S1x256, .i32⟩
  | .local _ .vmem, ⟨2, _⟩ => ⟨S1x2048, .f32⟩
  | .local _ .vmem, ⟨3, _⟩ => ⟨S256x7168, .fp8e4m3⟩
  | .local _ .vmem, ⟨4, _⟩ => ⟨S256x7168, .fp8e4m3⟩
  | .local _ .vmem, ⟨5, _⟩ => ⟨S56x256, .f32⟩
  | .local _ .vmem, ⟨6, _⟩ => ⟨S56x256, .f32⟩
  | .local _ .vmem, ⟨7, _⟩ => ⟨S8x2048, .f32⟩
  | .local _ .vmem, ⟨8, _⟩ => ⟨S256x7168, .fp8e5m2⟩
  | .local _ .vmem, ⟨9, _⟩ => ⟨S256x7168, .fp8e5m2⟩
  | .local _ .vmem, ⟨10, _⟩ => ⟨S1x256, .f32⟩
  | .local _ .vmem, ⟨11, _⟩ => ⟨S1x256, .f32⟩
  | .local _ .vmem, ⟨12, _⟩ => ⟨S8x2048, .f32⟩
  | .local _ .vmem, ⟨13, _⟩ => ⟨S30728x128, .i32⟩
  | .local _ .vmem, ⟨14, _⟩ => ⟨S2048x128, .f32⟩
  | .local _ .vmem, ⟨15, _⟩ => ⟨S4352x128, .i32⟩
  | .local _ .vmem, ⟨16, _⟩ => ⟨S256x128, .f32⟩
  | .local _ .vmem, ⟨17, _⟩ => ⟨S256x128, .f32⟩
  | .local _ .vmem, ⟨18, _⟩ => ⟨S128x128, .f32⟩
  | .local _ .vmem, ⟨19, _⟩ => ⟨S2x256x7168, .i8⟩
  | .local _ .smem, ⟨0, _⟩ => ⟨S16384, .i32⟩
  | _, _ => ⟨S2048x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_r0 : BitVec 32 := 0#32
  let v2_r0 : BitVec 1 := Scalar.cmpi .eq arg0 c0_i32_r0
  let v3_r0 : BitVec 32 := Scalar.extui v2_r0
  let c0_i32_0_r0 : BitVec 32 := 0#32
  let v4_r0 : BitVec 1 := Scalar.cmpi .ne v3_r0 c0_i32_0_r0
  v4_r0

@[reducible] def k0_t1_loop : Scf.Loop 32 :=
  let c0_i32_51_r0 : BitVec 32 := 0#32
  let c8_i32_r0 : BitVec 32 := 8#32
  let v149_r0 : BitVec 32 := Scalar.addi c0_i32_51_r0 c8_i32_r0
  let c1_i32_52_r0 : BitVec 32 := 1#32
  ⟨c0_i32_51_r0, v149_r0, c1_i32_52_r0⟩
def k0_cond2 (k0_t1 : Fin k0_t1_loop.trips) : BitVec 1 :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c1_i32_56_r0 : BitVec 32 := 1#32
  let v153_r0 : BitVec 32 := Scalar.addi v151_r0 c1_i32_56_r0
  let c8_i32_57_r0 : BitVec 32 := 8#32
  let v154_r0 : BitVec 1 := Scalar.cmpi .slt v153_r0 c8_i32_57_r0
  let v155_r0 : BitVec 32 := Scalar.extui v154_r0
  let c0_i32_58_r0 : BitVec 32 := 0#32
  let v156_r0 : BitVec 1 := Scalar.cmpi .ne v155_r0 c0_i32_58_r0
  v156_r0

def k0_off1 (k0_t1 : Fin k0_t1_loop.trips) : Fin 1 → Nat :=
  let c1_i32_68_r0 : BitVec 32 := 1#32
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v165_r0 : BitVec 32 := Scalar.subi c1_i32_68_r0 v152_r0
  ![v165_r0.toNat]
def k0_off2 (k0_t1 : Fin k0_t1_loop.trips) : Fin 3 → Nat :=
  let c1_i32_68_r0 : BitVec 32 := 1#32
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v165_r0 : BitVec 32 := Scalar.subi c1_i32_68_r0 v152_r0
  let c0_i32_70_r0 : BitVec 32 := 0#32
  let c0_i32_71_r0 : BitVec 32 := 0#32
  ![v165_r0.toNat, 0, 0]
def k0_off3 (k0_t1 : Fin k0_t1_loop.trips) : Fin 2 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c1_i32_67_r0 : BitVec 32 := 1#32
  let v164_r0 : BitVec 32 := Scalar.addi v151_r0 c1_i32_67_r0
  let c256_i32_69_r0 : BitVec 32 := 256#32
  let v166_r0 : BitVec 32 := Scalar.muli v164_r0 c256_i32_69_r0
  let c0_i32_72_r0 : BitVec 32 := 0#32
  ![v166_r0.toNat, 0]
def k0_off4 (k0_t1 : Fin k0_t1_loop.trips) : Fin 1 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  ![v152_r0.toNat]
def k0_off5 (k0_t1 : Fin k0_t1_loop.trips) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let c0_i32_60_r0 : BitVec 32 := 0#32
  let c0_i32_61_r0 : BitVec 32 := 0#32
  ![v152_r0.toNat, 0, 0]
def k0_off6 (k0_t1 : Fin k0_t1_loop.trips) : Fin 2 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c256_i32_59_r0 : BitVec 32 := 256#32
  let v157_r0 : BitVec 32 := Scalar.muli v151_r0 c256_i32_59_r0
  let c0_i32_62_r0 : BitVec 32 := 0#32
  ![v157_r0.toNat, 0]
@[reducible] def k0_t2_loop : Scf.Loop 32 :=
  let c0_i32_63_r0 : BitVec 32 := 0#32
  let c2_i32_64_r0 : BitVec 32 := 2#32
  let v163_r0 : BitVec 32 := Scalar.addi c0_i32_63_r0 c2_i32_64_r0
  let c1_i32_65_r0 : BitVec 32 := 1#32
  ⟨c0_i32_63_r0, v163_r0, c1_i32_65_r0⟩
def k0_off7 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v171_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v172_r0 : Index := Scalar.indexCast v167_r0
  let c0_72_r0 : Index := 0#32
  ![v171_r0.toNat, v172_r0.toNat, 0]
def k0_off8 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v180_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v181_r0 : Index := Scalar.indexCast v167_r0
  let c128_73_r0 : Index := 128#32
  ![v180_r0.toNat, v181_r0.toNat, 128]
def k0_off9 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v189_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v190_r0 : Index := Scalar.indexCast v167_r0
  let c256_r0 : Index := 256#32
  ![v189_r0.toNat, v190_r0.toNat, 256]
def k0_off10 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v198_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v199_r0 : Index := Scalar.indexCast v167_r0
  let c384_r0 : Index := 384#32
  ![v198_r0.toNat, v199_r0.toNat, 384]
def k0_off11 (k0_t1 : Fin k0_t1_loop.trips) (k0_t2 : Fin k0_t2_loop.trips) (c0_i32_69_r0 : BitVec 32) (c0_i32_83_r0 : BitVec 32) (c0_i32_84_r0 : BitVec 32) : Fin 2 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c256_i32_70_r0 : BitVec 32 := 256#32
  let v168_r0 : BitVec 32 := Scalar.muli v151_r0 c256_i32_70_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v169_r0 : BitVec 32 := Scalar.addi v168_r0 v167_r0
  let v243_r0 : BitVec 32 := Scalar.addi v169_r0 c0_i32_83_r0
  let c15_i32_r0 : BitVec 32 := 15#32
  let v244_r0 : BitVec 32 := Scalar.muli v243_r0 c15_i32_r0
  let v245_r0 : BitVec 32 := Scalar.addi v244_r0 c0_i32_84_r0
  let v246_r0 : Index := Scalar.indexCast v245_r0
  let c0_85_r0 : Index := 0#32
  ![v246_r0.toNat, 0]
def k0_off12 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v271_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v272_r0 : Index := Scalar.indexCast v167_r0
  let c512_r0 : Index := 512#32
  ![v271_r0.toNat, v272_r0.toNat, 512]
def k0_off13 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v280_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v281_r0 : Index := Scalar.indexCast v167_r0
  let c640_r0 : Index := 640#32
  ![v280_r0.toNat, v281_r0.toNat, 640]
def k0_off14 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v289_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v290_r0 : Index := Scalar.indexCast v167_r0
  let c768_r0 : Index := 768#32
  ![v289_r0.toNat, v290_r0.toNat, 768]
def k0_off15 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v298_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v299_r0 : Index := Scalar.indexCast v167_r0
  let c896_r0 : Index := 896#32
  ![v298_r0.toNat, v299_r0.toNat, 896]
def k0_off16 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v371_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v372_r0 : Index := Scalar.indexCast v167_r0
  let c1024_r0 : Index := 1024#32
  ![v371_r0.toNat, v372_r0.toNat, 1024]
def k0_off17 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v380_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v381_r0 : Index := Scalar.indexCast v167_r0
  let c1152_r0 : Index := 1152#32
  ![v380_r0.toNat, v381_r0.toNat, 1152]
def k0_off18 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v389_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v390_r0 : Index := Scalar.indexCast v167_r0
  let c1280_r0 : Index := 1280#32
  ![v389_r0.toNat, v390_r0.toNat, 1280]
def k0_off19 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v398_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v399_r0 : Index := Scalar.indexCast v167_r0
  let c1408_r0 : Index := 1408#32
  ![v398_r0.toNat, v399_r0.toNat, 1408]
def k0_off20 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v471_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v472_r0 : Index := Scalar.indexCast v167_r0
  let c1536_r0 : Index := 1536#32
  ![v471_r0.toNat, v472_r0.toNat, 1536]
def k0_off21 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v480_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v481_r0 : Index := Scalar.indexCast v167_r0
  let c1664_r0 : Index := 1664#32
  ![v480_r0.toNat, v481_r0.toNat, 1664]
def k0_off22 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v489_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v490_r0 : Index := Scalar.indexCast v167_r0
  let c1792_r0 : Index := 1792#32
  ![v489_r0.toNat, v490_r0.toNat, 1792]
def k0_off23 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v498_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v499_r0 : Index := Scalar.indexCast v167_r0
  let c1920_r0 : Index := 1920#32
  ![v498_r0.toNat, v499_r0.toNat, 1920]
def k0_off24 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v571_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v572_r0 : Index := Scalar.indexCast v167_r0
  let c2048_r0 : Index := 2048#32
  ![v571_r0.toNat, v572_r0.toNat, 2048]
def k0_off25 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v580_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v581_r0 : Index := Scalar.indexCast v167_r0
  let c2176_r0 : Index := 2176#32
  ![v580_r0.toNat, v581_r0.toNat, 2176]
def k0_off26 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v589_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v590_r0 : Index := Scalar.indexCast v167_r0
  let c2304_r0 : Index := 2304#32
  ![v589_r0.toNat, v590_r0.toNat, 2304]
def k0_off27 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v598_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v599_r0 : Index := Scalar.indexCast v167_r0
  let c2432_r0 : Index := 2432#32
  ![v598_r0.toNat, v599_r0.toNat, 2432]
def k0_off28 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v671_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v672_r0 : Index := Scalar.indexCast v167_r0
  let c2560_r0 : Index := 2560#32
  ![v671_r0.toNat, v672_r0.toNat, 2560]
def k0_off29 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v680_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v681_r0 : Index := Scalar.indexCast v167_r0
  let c2688_r0 : Index := 2688#32
  ![v680_r0.toNat, v681_r0.toNat, 2688]
def k0_off30 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v689_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v690_r0 : Index := Scalar.indexCast v167_r0
  let c2816_r0 : Index := 2816#32
  ![v689_r0.toNat, v690_r0.toNat, 2816]
def k0_off31 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v698_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v699_r0 : Index := Scalar.indexCast v167_r0
  let c2944_r0 : Index := 2944#32
  ![v698_r0.toNat, v699_r0.toNat, 2944]
def k0_off32 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v771_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v772_r0 : Index := Scalar.indexCast v167_r0
  let c3072_r0 : Index := 3072#32
  ![v771_r0.toNat, v772_r0.toNat, 3072]
def k0_off33 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v780_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v781_r0 : Index := Scalar.indexCast v167_r0
  let c3200_r0 : Index := 3200#32
  ![v780_r0.toNat, v781_r0.toNat, 3200]
def k0_off34 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v789_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v790_r0 : Index := Scalar.indexCast v167_r0
  let c3328_r0 : Index := 3328#32
  ![v789_r0.toNat, v790_r0.toNat, 3328]
def k0_off35 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v798_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v799_r0 : Index := Scalar.indexCast v167_r0
  let c3456_r0 : Index := 3456#32
  ![v798_r0.toNat, v799_r0.toNat, 3456]
def k0_off36 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v871_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v872_r0 : Index := Scalar.indexCast v167_r0
  let c3584_r0 : Index := 3584#32
  ![v871_r0.toNat, v872_r0.toNat, 3584]
def k0_off37 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v880_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v881_r0 : Index := Scalar.indexCast v167_r0
  let c3712_r0 : Index := 3712#32
  ![v880_r0.toNat, v881_r0.toNat, 3712]
def k0_off38 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v889_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v890_r0 : Index := Scalar.indexCast v167_r0
  let c3840_r0 : Index := 3840#32
  ![v889_r0.toNat, v890_r0.toNat, 3840]
def k0_off39 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v898_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v899_r0 : Index := Scalar.indexCast v167_r0
  let c3968_r0 : Index := 3968#32
  ![v898_r0.toNat, v899_r0.toNat, 3968]
def k0_off40 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v971_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v972_r0 : Index := Scalar.indexCast v167_r0
  let c4096_r0 : Index := 4096#32
  ![v971_r0.toNat, v972_r0.toNat, 4096]
def k0_off41 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v980_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v981_r0 : Index := Scalar.indexCast v167_r0
  let c4224_r0 : Index := 4224#32
  ![v980_r0.toNat, v981_r0.toNat, 4224]
def k0_off42 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v989_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v990_r0 : Index := Scalar.indexCast v167_r0
  let c4352_r0 : Index := 4352#32
  ![v989_r0.toNat, v990_r0.toNat, 4352]
def k0_off43 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v998_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v999_r0 : Index := Scalar.indexCast v167_r0
  let c4480_r0 : Index := 4480#32
  ![v998_r0.toNat, v999_r0.toNat, 4480]
def k0_off44 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v1071_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v1072_r0 : Index := Scalar.indexCast v167_r0
  let c4608_r0 : Index := 4608#32
  ![v1071_r0.toNat, v1072_r0.toNat, 4608]
def k0_off45 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v1080_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v1081_r0 : Index := Scalar.indexCast v167_r0
  let c4736_r0 : Index := 4736#32
  ![v1080_r0.toNat, v1081_r0.toNat, 4736]
def k0_off46 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v1089_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v1090_r0 : Index := Scalar.indexCast v167_r0
  let c4864_r0 : Index := 4864#32
  ![v1089_r0.toNat, v1090_r0.toNat, 4864]
def k0_off47 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v1098_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v1099_r0 : Index := Scalar.indexCast v167_r0
  let c4992_r0 : Index := 4992#32
  ![v1098_r0.toNat, v1099_r0.toNat, 4992]
def k0_off48 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v1171_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v1172_r0 : Index := Scalar.indexCast v167_r0
  let c5120_r0 : Index := 5120#32
  ![v1171_r0.toNat, v1172_r0.toNat, 5120]
def k0_off49 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v1180_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v1181_r0 : Index := Scalar.indexCast v167_r0
  let c5248_r0 : Index := 5248#32
  ![v1180_r0.toNat, v1181_r0.toNat, 5248]
def k0_off50 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v1189_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v1190_r0 : Index := Scalar.indexCast v167_r0
  let c5376_r0 : Index := 5376#32
  ![v1189_r0.toNat, v1190_r0.toNat, 5376]
def k0_off51 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v1198_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v1199_r0 : Index := Scalar.indexCast v167_r0
  let c5504_r0 : Index := 5504#32
  ![v1198_r0.toNat, v1199_r0.toNat, 5504]
def k0_off52 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v1271_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v1272_r0 : Index := Scalar.indexCast v167_r0
  let c5632_r0 : Index := 5632#32
  ![v1271_r0.toNat, v1272_r0.toNat, 5632]
def k0_off53 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v1280_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v1281_r0 : Index := Scalar.indexCast v167_r0
  let c5760_r0 : Index := 5760#32
  ![v1280_r0.toNat, v1281_r0.toNat, 5760]
def k0_off54 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v1289_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v1290_r0 : Index := Scalar.indexCast v167_r0
  let c5888_r0 : Index := 5888#32
  ![v1289_r0.toNat, v1290_r0.toNat, 5888]
def k0_off55 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v1298_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v1299_r0 : Index := Scalar.indexCast v167_r0
  let c6016_r0 : Index := 6016#32
  ![v1298_r0.toNat, v1299_r0.toNat, 6016]
def k0_off56 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v1371_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v1372_r0 : Index := Scalar.indexCast v167_r0
  let c6144_r0 : Index := 6144#32
  ![v1371_r0.toNat, v1372_r0.toNat, 6144]
def k0_off57 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v1380_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v1381_r0 : Index := Scalar.indexCast v167_r0
  let c6272_r0 : Index := 6272#32
  ![v1380_r0.toNat, v1381_r0.toNat, 6272]
def k0_off58 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v1389_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v1390_r0 : Index := Scalar.indexCast v167_r0
  let c6400_r0 : Index := 6400#32
  ![v1389_r0.toNat, v1390_r0.toNat, 6400]
def k0_off59 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v1398_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v1399_r0 : Index := Scalar.indexCast v167_r0
  let c6528_r0 : Index := 6528#32
  ![v1398_r0.toNat, v1399_r0.toNat, 6528]
def k0_off60 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v1471_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v1472_r0 : Index := Scalar.indexCast v167_r0
  let c6656_r0 : Index := 6656#32
  ![v1471_r0.toNat, v1472_r0.toNat, 6656]
def k0_off61 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v1480_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v1481_r0 : Index := Scalar.indexCast v167_r0
  let c6784_r0 : Index := 6784#32
  ![v1480_r0.toNat, v1481_r0.toNat, 6784]
def k0_off62 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v1489_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v1490_r0 : Index := Scalar.indexCast v167_r0
  let c6912_r0 : Index := 6912#32
  ![v1489_r0.toNat, v1490_r0.toNat, 6912]
def k0_off63 (k0_t1 : Fin k0_t1_loop.trips) (k0_t2 : Fin k0_t2_loop.trips) (c0_i32_69_r0 : BitVec 32) : Fin 3 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c2_i32_r0 : BitVec 32 := 2#32
  let v152_r0 : BitVec 32 := Scalar.remsi v151_r0 c2_i32_r0
  let v1498_r0 : Index := Scalar.indexCast v152_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_r0 : BitVec 32 := 128#32
  let v166_r0 : BitVec 32 := Scalar.muli v165_r0 c128_i32_r0
  let v167_r0 : BitVec 32 := Scalar.addi v166_r0 c0_i32_69_r0
  let v1499_r0 : Index := Scalar.indexCast v167_r0
  let c7040_r0 : Index := 7040#32
  ![v1498_r0.toNat, v1499_r0.toNat, 7040]
def k0_mult1 (k0_t1 : Fin k0_t1_loop.trips) (k0_t2 : Fin k0_t2_loop.trips) : BitVec 32 :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c256_i32_1817_r0 : BitVec 32 := 256#32
  let v5818_r0 : BitVec 32 := Scalar.muli v151_r0 c256_i32_1817_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_1818_r0 : BitVec 32 := 128#32
  let v5819_r0 : BitVec 32 := Scalar.muli v165_r0 c128_i32_1818_r0
  let v5820_r0 : BitVec 32 := Scalar.addi v5818_r0 v5819_r0
  v5820_r0
def k0_off64 (k0_t1 : Fin k0_t1_loop.trips) (k0_t2 : Fin k0_t2_loop.trips) : Fin 2 → Nat :=
  let c0_1821_r0 : Index := 0#32
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c256_i32_1817_r0 : BitVec 32 := 256#32
  let v5818_r0 : BitVec 32 := Scalar.muli v151_r0 c256_i32_1817_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_1818_r0 : BitVec 32 := 128#32
  let v5819_r0 : BitVec 32 := Scalar.muli v165_r0 c128_i32_1818_r0
  let v5820_r0 : BitVec 32 := Scalar.addi v5818_r0 v5819_r0
  let v5821_r0 : BitVec 32 := v5820_r0
  let v5825_r0 : Index := Scalar.indexCast v5821_r0
  ![0, v5825_r0.toNat]
def k0_off65 (k0_t1 : Fin k0_t1_loop.trips) (k0_t2 : Fin k0_t2_loop.trips) : Fin 2 → Nat :=
  let c0_1822_r0 : Index := 0#32
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c256_i32_1817_r0 : BitVec 32 := 256#32
  let v5818_r0 : BitVec 32 := Scalar.muli v151_r0 c256_i32_1817_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_1818_r0 : BitVec 32 := 128#32
  let v5819_r0 : BitVec 32 := Scalar.muli v165_r0 c128_i32_1818_r0
  let v5820_r0 : BitVec 32 := Scalar.addi v5818_r0 v5819_r0
  let v5821_r0 : BitVec 32 := v5820_r0
  let v5828_r0 : Index := Scalar.indexCast v5821_r0
  ![0, v5828_r0.toNat]
def k0_off66 (k0_t1 : Fin k0_t1_loop.trips) (k0_t2 : Fin k0_t2_loop.trips) (c0_i32_1830_r0 : BitVec 32) : Fin 2 → Nat :=
  let c0_i32_55_r0 : BitVec 32 := 0#32
  let c0_i32_51_r0 : BitVec 32 := 0#32
  let c1_i32_52_r0 : BitVec 32 := 1#32
  let arg19_r0 : BitVec 32 := Scf.iv c0_i32_51_r0 c1_i32_52_r0 k0_t1
  let c1_i32_54_r0 : BitVec 32 := 1#32
  let v150_r0 : BitVec 32 := Scalar.muli arg19_r0 c1_i32_54_r0
  let v151_r0 : BitVec 32 := Scalar.addi c0_i32_55_r0 v150_r0
  let c256_i32_1817_r0 : BitVec 32 := 256#32
  let v5818_r0 : BitVec 32 := Scalar.muli v151_r0 c256_i32_1817_r0
  let c0_i32_68_r0 : BitVec 32 := 0#32
  let c0_i32_63_r0 : BitVec 32 := 0#32
  let c1_i32_65_r0 : BitVec 32 := 1#32
  let arg20_r0 : BitVec 32 := Scf.iv c0_i32_63_r0 c1_i32_65_r0 k0_t2
  let c1_i32_67_r0 : BitVec 32 := 1#32
  let v164_r0 : BitVec 32 := Scalar.muli arg20_r0 c1_i32_67_r0
  let v165_r0 : BitVec 32 := Scalar.addi c0_i32_68_r0 v164_r0
  let c128_i32_1818_r0 : BitVec 32 := 128#32
  let v5819_r0 : BitVec 32 := Scalar.muli v165_r0 c128_i32_1818_r0
  let v5820_r0 : BitVec 32 := Scalar.addi v5818_r0 v5819_r0
  let v5821_r0 : BitVec 32 := v5820_r0
  let v5862_r0 : BitVec 32 := Scalar.addi v5821_r0 c0_i32_1830_r0
  let v5863_r0 : Index := Scalar.indexCast v5862_r0
  let c0_1831_r0 : Index := 0#32
  ![v5863_r0.toNat, 0]
@[reducible] def k0_t3_loop : Scf.Loop 32 :=
  let c0_i32_1_r0 : BitVec 32 := 0#32
  let c64_i32_r0 : BitVec 32 := 64#32
  let v6_r0 : BitVec 32 := Scalar.addi c0_i32_1_r0 c64_i32_r0
  let c1_i32_r0 : BitVec 32 := 1#32
  ⟨c0_i32_1_r0, v6_r0, c1_i32_r0⟩
def k0_off67 (i : grid0.Coords) (k0_t3 : Fin k0_t3_loop.trips) (c0_i32_44_r0 : BitVec 32) : Fin 1 → Nat :=
  let arg0 : BitVec 32 := BitVec.ofNat 32 (i 0).val
  let c256_i32_r0 : BitVec 32 := 256#32
  let v5_r0 : BitVec 32 := Scalar.muli arg0 c256_i32_r0
  let c0_i32_43_r0 : BitVec 32 := 0#32
  let c0_i32_1_r0 : BitVec 32 := 0#32
  let c1_i32_r0 : BitVec 32 := 1#32
  let arg19_r0 : BitVec 32 := Scf.iv c0_i32_1_r0 c1_i32_r0 k0_t3
  let c1_i32_42_r0 : BitVec 32 := 1#32
  let v140_r0 : BitVec 32 := Scalar.muli arg19_r0 c1_i32_42_r0
  let v141_r0 : BitVec 32 := Scalar.addi c0_i32_43_r0 v140_r0
  let c4_i32_r0 : BitVec 32 := 4#32
  let v142_r0 : BitVec 32 := Scalar.muli v141_r0 c4_i32_r0
  let v143_r0 : BitVec 32 := Scalar.addi v5_r0 v142_r0
  let v144_r0 : BitVec 32 := Scalar.addi v143_r0 c0_i32_44_r0
  let v145_r0 : Index := Scalar.indexCast v144_r0
  ![v145_r0.toNat]
def k0_off68 (v146_r0 : BitVec 32) : Fin 2 → Nat :=
  let c3_i32_r0 : BitVec 32 := 3#32
  let v147_r0 : BitVec 32 := Scalar.shrui v146_r0 c3_i32_r0
  let c15_i32_r0 : BitVec 32 := 15#32
  let v148_r0 : BitVec 32 := Scalar.muli v147_r0 c15_i32_r0
  let c0_i32_56_r0 : BitVec 32 := 0#32
  let v170_r0 : BitVec 32 := Scalar.addi v148_r0 c0_i32_56_r0
  let v171_r0 : Index := Scalar.indexCast v170_r0
  let c0_57_r0 : Index := 0#32
  ![v171_r0.toNat, 0]

def k0_off69 (v153_r0 : BitVec 32) : Fin 2 → Nat :=
  let c3_i32_47_r0 : BitVec 32 := 3#32
  let v154_r0 : BitVec 32 := Scalar.shrui v153_r0 c3_i32_47_r0
  let c15_i32_48_r0 : BitVec 32 := 15#32
  let v155_r0 : BitVec 32 := Scalar.muli v154_r0 c15_i32_48_r0
  let c0_i32_58_r0 : BitVec 32 := 0#32
  let v173_r0 : BitVec 32 := Scalar.addi v155_r0 c0_i32_58_r0
  let v174_r0 : Index := Scalar.indexCast v173_r0
  let c0_59_r0 : Index := 0#32
  ![v174_r0.toNat, 0]

def k0_off70 (v160_r0 : BitVec 32) : Fin 2 → Nat :=
  let c3_i32_50_r0 : BitVec 32 := 3#32
  let v161_r0 : BitVec 32 := Scalar.shrui v160_r0 c3_i32_50_r0
  let c15_i32_51_r0 : BitVec 32 := 15#32
  let v162_r0 : BitVec 32 := Scalar.muli v161_r0 c15_i32_51_r0
  let c0_i32_60_r0 : BitVec 32 := 0#32
  let v176_r0 : BitVec 32 := Scalar.addi v162_r0 c0_i32_60_r0
  let v177_r0 : Index := Scalar.indexCast v176_r0
  let c0_61_r0 : Index := 0#32
  ![v177_r0.toNat, 0]

def k0_off71 (v167_r0 : BitVec 32) (c0_i32_62_r0 : BitVec 32) : Fin 2 → Nat :=
  let c3_i32_54_r0 : BitVec 32 := 3#32
  let v168_r0 : BitVec 32 := Scalar.shrui v167_r0 c3_i32_54_r0
  let c15_i32_55_r0 : BitVec 32 := 15#32
  let v169_r0 : BitVec 32 := Scalar.muli v168_r0 c15_i32_55_r0
  let v179_r0 : BitVec 32 := Scalar.addi v169_r0 c0_i32_62_r0
  let v180_r0 : Index := Scalar.indexCast v179_r0
  let c0_63_r0 : Index := 0#32
  ![v180_r0.toNat, 0]

def k0_off72 (k0_t3 : Fin k0_t3_loop.trips) (c0_i32_72_r0 : BitVec 32) : Fin 2 → Nat :=
  let c0_i32_43_r0 : BitVec 32 := 0#32
  let c0_i32_1_r0 : BitVec 32 := 0#32
  let c1_i32_r0 : BitVec 32 := 1#32
  let arg19_r0 : BitVec 32 := Scf.iv c0_i32_1_r0 c1_i32_r0 k0_t3
  let c1_i32_42_r0 : BitVec 32 := 1#32
  let v140_r0 : BitVec 32 := Scalar.muli arg19_r0 c1_i32_42_r0
  let v141_r0 : BitVec 32 := Scalar.addi c0_i32_43_r0 v140_r0
  let v218_r0 : BitVec 32 := Scalar.addi c0_i32_72_r0 v141_r0
  let v219_r0 : Index := Scalar.indexCast v218_r0
  let c0_73_r0 : Index := 0#32
  ![v219_r0.toNat, 0]
def k0_off73 (v146_r0 : BitVec 32) : Fin 2 → Nat :=
  let c3_i32_r0 : BitVec 32 := 3#32
  let v147_r0 : BitVec 32 := Scalar.shrui v146_r0 c3_i32_r0
  let c15_i32_r0 : BitVec 32 := 15#32
  let v148_r0 : BitVec 32 := Scalar.muli v147_r0 c15_i32_r0
  let c8_i32_77_r0 : BitVec 32 := 8#32
  let v238_r0 : BitVec 32 := Scalar.addi v148_r0 c8_i32_77_r0
  let v239_r0 : Index := Scalar.indexCast v238_r0
  let c0_78_r0 : Index := 0#32
  ![v239_r0.toNat, 0]
def k0_off74 (v153_r0 : BitVec 32) : Fin 2 → Nat :=
  let c3_i32_47_r0 : BitVec 32 := 3#32
  let v154_r0 : BitVec 32 := Scalar.shrui v153_r0 c3_i32_47_r0
  let c15_i32_48_r0 : BitVec 32 := 15#32
  let v155_r0 : BitVec 32 := Scalar.muli v154_r0 c15_i32_48_r0
  let c8_i32_79_r0 : BitVec 32 := 8#32
  let v241_r0 : BitVec 32 := Scalar.addi v155_r0 c8_i32_79_r0
  let v242_r0 : Index := Scalar.indexCast v241_r0
  let c0_80_r0 : Index := 0#32
  ![v242_r0.toNat, 0]
def k0_off75 (v160_r0 : BitVec 32) : Fin 2 → Nat :=
  let c3_i32_50_r0 : BitVec 32 := 3#32
  let v161_r0 : BitVec 32 := Scalar.shrui v160_r0 c3_i32_50_r0
  let c15_i32_51_r0 : BitVec 32 := 15#32
  let v162_r0 : BitVec 32 := Scalar.muli v161_r0 c15_i32_51_r0
  let c8_i32_81_r0 : BitVec 32 := 8#32
  let v244_r0 : BitVec 32 := Scalar.addi v162_r0 c8_i32_81_r0
  let v245_r0 : Index := Scalar.indexCast v244_r0
  let c0_82_r0 : Index := 0#32
  ![v245_r0.toNat, 0]
def k0_off76 (v146_r0 : BitVec 32) : Fin 2 → Nat :=
  let c3_i32_r0 : BitVec 32 := 3#32
  let v147_r0 : BitVec 32 := Scalar.shrui v146_r0 c3_i32_r0
  let v306_r0 : Index := Scalar.indexCast v147_r0
  let c0_101_r0 : Index := 0#32
  ![v306_r0.toNat, 0]

def k0_chk1 (v146_r0 : BitVec 32) : Prop :=
  (∀ a, (k0_off68 v146_r0) a + S8x128.size a ≤ S30728x128.size a) ∧
  (∀ a, (k0_off73 v146_r0) a + S8x128.size a ≤ S30728x128.size a) ∧
  (∀ a, (k0_off76 v146_r0) a + S1x128.size a ≤ S2048x128.size a)
theorem k0_off68_inb : ∀ (v146_r0 : BitVec 32) (k0_hw1 : k0_chk1 v146_r0), ∀ a, (k0_off68 v146_r0) a + S8x128.size a ≤ S30728x128.size a := fun v146_r0 k0_hw1 => k0_hw1.1
theorem k0_off73_inb : ∀ (v146_r0 : BitVec 32) (k0_hw1 : k0_chk1 v146_r0), ∀ a, (k0_off73 v146_r0) a + S8x128.size a ≤ S30728x128.size a := fun v146_r0 k0_hw1 => k0_hw1.2.1
theorem k0_off76_inb : ∀ (v146_r0 : BitVec 32) (k0_hw1 : k0_chk1 v146_r0), ∀ a, (k0_off76 v146_r0) a + S1x128.size a ≤ S2048x128.size a := fun v146_r0 k0_hw1 => k0_hw1.2.2

def k0_off77 (k0_t3 : Fin k0_t3_loop.trips) (c0_i32_103_r0 : BitVec 32) : Fin 2 → Nat :=
  let c0_i32_43_r0 : BitVec 32 := 0#32
  let c0_i32_1_r0 : BitVec 32 := 0#32
  let c1_i32_r0 : BitVec 32 := 1#32
  let arg19_r0 : BitVec 32 := Scf.iv c0_i32_1_r0 c1_i32_r0 k0_t3
  let c1_i32_42_r0 : BitVec 32 := 1#32
  let v140_r0 : BitVec 32 := Scalar.muli arg19_r0 c1_i32_42_r0
  let v141_r0 : BitVec 32 := Scalar.addi c0_i32_43_r0 v140_r0
  let c4_i32_102_r0 : BitVec 32 := 4#32
  let v308_r0 : BitVec 32 := Scalar.muli v141_r0 c4_i32_102_r0
  let v309_r0 : BitVec 32 := Scalar.addi v308_r0 c0_i32_103_r0
  let v310_r0 : Index := Scalar.indexCast v309_r0
  let c0_104_r0 : Index := 0#32
  ![v310_r0.toNat, 0]
def k0_off78 (v153_r0 : BitVec 32) : Fin 2 → Nat :=
  let c3_i32_47_r0 : BitVec 32 := 3#32
  let v154_r0 : BitVec 32 := Scalar.shrui v153_r0 c3_i32_47_r0
  let v314_r0 : Index := Scalar.indexCast v154_r0
  let c0_105_r0 : Index := 0#32
  ![v314_r0.toNat, 0]

def k0_chk2 (v153_r0 : BitVec 32) : Prop :=
  (∀ a, (k0_off69 v153_r0) a + S8x128.size a ≤ S30728x128.size a) ∧
  (∀ a, (k0_off74 v153_r0) a + S8x128.size a ≤ S30728x128.size a) ∧
  (∀ a, (k0_off78 v153_r0) a + S1x128.size a ≤ S2048x128.size a)
theorem k0_off69_inb : ∀ (v153_r0 : BitVec 32) (k0_hw2 : k0_chk2 v153_r0), ∀ a, (k0_off69 v153_r0) a + S8x128.size a ≤ S30728x128.size a := fun v153_r0 k0_hw2 => k0_hw2.1
theorem k0_off74_inb : ∀ (v153_r0 : BitVec 32) (k0_hw2 : k0_chk2 v153_r0), ∀ a, (k0_off74 v153_r0) a + S8x128.size a ≤ S30728x128.size a := fun v153_r0 k0_hw2 => k0_hw2.2.1
theorem k0_off78_inb : ∀ (v153_r0 : BitVec 32) (k0_hw2 : k0_chk2 v153_r0), ∀ a, (k0_off78 v153_r0) a + S1x128.size a ≤ S2048x128.size a := fun v153_r0 k0_hw2 => k0_hw2.2.2

def k0_off79 (v160_r0 : BitVec 32) : Fin 2 → Nat :=
  let c3_i32_50_r0 : BitVec 32 := 3#32
  let v161_r0 : BitVec 32 := Scalar.shrui v160_r0 c3_i32_50_r0
  let v322_r0 : Index := Scalar.indexCast v161_r0
  let c0_109_r0 : Index := 0#32
  ![v322_r0.toNat, 0]

def k0_chk3 (v160_r0 : BitVec 32) : Prop :=
  (∀ a, (k0_off70 v160_r0) a + S8x128.size a ≤ S30728x128.size a) ∧
  (∀ a, (k0_off75 v160_r0) a + S8x128.size a ≤ S30728x128.size a) ∧
  (∀ a, (k0_off79 v160_r0) a + S1x128.size a ≤ S2048x128.size a)
theorem k0_off70_inb : ∀ (v160_r0 : BitVec 32) (k0_hw3 : k0_chk3 v160_r0), ∀ a, (k0_off70 v160_r0) a + S8x128.size a ≤ S30728x128.size a := fun v160_r0 k0_hw3 => k0_hw3.1
theorem k0_off75_inb : ∀ (v160_r0 : BitVec 32) (k0_hw3 : k0_chk3 v160_r0), ∀ a, (k0_off75 v160_r0) a + S8x128.size a ≤ S30728x128.size a := fun v160_r0 k0_hw3 => k0_hw3.2.1
theorem k0_off79_inb : ∀ (v160_r0 : BitVec 32) (k0_hw3 : k0_chk3 v160_r0), ∀ a, (k0_off79 v160_r0) a + S1x128.size a ≤ S2048x128.size a := fun v160_r0 k0_hw3 => k0_hw3.2.2

def k0_off80 (v167_r0 : BitVec 32) : Fin 2 → Nat :=
  let c3_i32_54_r0 : BitVec 32 := 3#32
  let v168_r0 : BitVec 32 := Scalar.shrui v167_r0 c3_i32_54_r0
  let v330_r0 : Index := Scalar.indexCast v168_r0
  let c0_113_r0 : Index := 0#32
  ![v330_r0.toNat, 0]

def k0_chk4 (v167_r0 : BitVec 32) : Prop :=
  (∀ (r : Fin 2), ∀ a, (k0_off71 v167_r0 (BitVec.ofNat 32 (8 * r.val))) a + S8x128.size a ≤ S30728x128.size a) ∧
  (∀ a, (k0_off80 v167_r0) a + S1x128.size a ≤ S2048x128.size a)
theorem k0_off71_inb : ∀ (v167_r0 : BitVec 32) (k0_hw4 : k0_chk4 v167_r0), ∀ (r : Fin 2), ∀ a, (k0_off71 v167_r0 (BitVec.ofNat 32 (8 * r.val))) a + S8x128.size a ≤ S30728x128.size a := fun v167_r0 k0_hw4 r => k0_hw4.1 r
theorem k0_off80_inb : ∀ (v167_r0 : BitVec 32) (k0_hw4 : k0_chk4 v167_r0), ∀ a, (k0_off80 v167_r0) a + S1x128.size a ≤ S2048x128.size a := fun v167_r0 k0_hw4 => k0_hw4.2

@[reducible] def k0_t4_loop : Scf.Loop 32 :=
  let c0_i32_25_r0 : BitVec 32 := 0#32
  let c14_i32_r0 : BitVec 32 := 14#32
  let v61_r0 : BitVec 32 := Scalar.addi c0_i32_25_r0 c14_i32_r0
  let c1_i32_26_r0 : BitVec 32 := 1#32
  ⟨c0_i32_25_r0, v61_r0, c1_i32_26_r0⟩
def k0_mult2 (k0_t4 : Fin k0_t4_loop.trips) : BitVec 32 :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_57_r0 : BitVec 32 := 4#32
  let v171_r0 : BitVec 32 := Scalar.muli v141_r0 c4_i32_57_r0
  let c0_i32_58_r0 : BitVec 32 := 0#32
  let v172_r0 : BitVec 32 := Scalar.addi v171_r0 c0_i32_58_r0
  let c128_i32_59_r0 : BitVec 32 := 128#32
  let v173_r0 : BitVec 32 := Scalar.muli v172_r0 c128_i32_59_r0
  v173_r0
def k0_off81 (k0_t4 : Fin k0_t4_loop.trips) (c0_i32_60_r0 : BitVec 32) (c0_i32_61_r0 : BitVec 32) : Fin 2 → Nat :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let v175_r0 : BitVec 32 := Scalar.addi c0_i32_60_r0 v141_r0
  let c68_i32_r0 : BitVec 32 := 68#32
  let v176_r0 : BitVec 32 := Scalar.muli v175_r0 c68_i32_r0
  let v177_r0 : BitVec 32 := Scalar.addi v176_r0 c0_i32_61_r0
  let v178_r0 : Index := Scalar.indexCast v177_r0
  let c0_62_r0 : Index := 0#32
  ![v178_r0.toNat, 0]
def k0_off82 (k0_t4 : Fin k0_t4_loop.trips) (c0_i32_58_r0 : BitVec 32) : Fin 2 → Nat :=
  let c0_63_r0 : Index := 0#32
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_57_r0 : BitVec 32 := 4#32
  let v171_r0 : BitVec 32 := Scalar.muli v141_r0 c4_i32_57_r0
  let v172_r0 : BitVec 32 := Scalar.addi v171_r0 c0_i32_58_r0
  let c128_i32_59_r0 : BitVec 32 := 128#32
  let v173_r0 : BitVec 32 := Scalar.muli v172_r0 c128_i32_59_r0
  let v174_r0 : BitVec 32 := v173_r0
  let v182_r0 : Index := Scalar.indexCast v174_r0
  ![0, v182_r0.toNat]
def k0_mult3 (k0_t4 : Fin k0_t4_loop.trips) : BitVec 32 :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_65_r0 : BitVec 32 := 4#32
  let v191_r0 : BitVec 32 := Scalar.muli v141_r0 c4_i32_65_r0
  let c1_i32_66_r0 : BitVec 32 := 1#32
  let v192_r0 : BitVec 32 := Scalar.addi v191_r0 c1_i32_66_r0
  let c128_i32_67_r0 : BitVec 32 := 128#32
  let v193_r0 : BitVec 32 := Scalar.muli v192_r0 c128_i32_67_r0
  v193_r0
def k0_mult4 (k0_t4 : Fin k0_t4_loop.trips) : BitVec 32 :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_73_r0 : BitVec 32 := 4#32
  let v212_r0 : BitVec 32 := Scalar.muli v141_r0 c4_i32_73_r0
  let c2_i32_74_r0 : BitVec 32 := 2#32
  let v213_r0 : BitVec 32 := Scalar.addi v212_r0 c2_i32_74_r0
  let c128_i32_75_r0 : BitVec 32 := 128#32
  let v214_r0 : BitVec 32 := Scalar.muli v213_r0 c128_i32_75_r0
  v214_r0
def k0_mult5 (k0_t4 : Fin k0_t4_loop.trips) : BitVec 32 :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_82_r0 : BitVec 32 := 4#32
  let v232_r0 : BitVec 32 := Scalar.muli v141_r0 c4_i32_82_r0
  let c3_i32_r0 : BitVec 32 := 3#32
  let v233_r0 : BitVec 32 := Scalar.addi v232_r0 c3_i32_r0
  let c128_i32_83_r0 : BitVec 32 := 128#32
  let v234_r0 : BitVec 32 := Scalar.muli v233_r0 c128_i32_83_r0
  v234_r0
def k0_mult6 (k0_t4 : Fin k0_t4_loop.trips) : BitVec 32 :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_90_r0 : BitVec 32 := 4#32
  let v254_r0 : BitVec 32 := Scalar.muli v141_r0 c4_i32_90_r0
  let c0_i32_91_r0 : BitVec 32 := 0#32
  let v255_r0 : BitVec 32 := Scalar.addi v254_r0 c0_i32_91_r0
  let c128_i32_92_r0 : BitVec 32 := 128#32
  let v256_r0 : BitVec 32 := Scalar.muli v255_r0 c128_i32_92_r0
  v256_r0
def k0_off83 (k0_t4 : Fin k0_t4_loop.trips) (c0_i32_91_r0 : BitVec 32) : Fin 2 → Nat :=
  let c32_96_r0 : Index := 32#32
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_90_r0 : BitVec 32 := 4#32
  let v254_r0 : BitVec 32 := Scalar.muli v141_r0 c4_i32_90_r0
  let v255_r0 : BitVec 32 := Scalar.addi v254_r0 c0_i32_91_r0
  let c128_i32_92_r0 : BitVec 32 := 128#32
  let v256_r0 : BitVec 32 := Scalar.muli v255_r0 c128_i32_92_r0
  let v257_r0 : BitVec 32 := v256_r0
  let v265_r0 : Index := Scalar.indexCast v257_r0
  ![32, v265_r0.toNat]
def k0_mult7 (k0_t4 : Fin k0_t4_loop.trips) : BitVec 32 :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_98_r0 : BitVec 32 := 4#32
  let v274_r0 : BitVec 32 := Scalar.muli v141_r0 c4_i32_98_r0
  let c1_i32_99_r0 : BitVec 32 := 1#32
  let v275_r0 : BitVec 32 := Scalar.addi v274_r0 c1_i32_99_r0
  let c128_i32_100_r0 : BitVec 32 := 128#32
  let v276_r0 : BitVec 32 := Scalar.muli v275_r0 c128_i32_100_r0
  v276_r0
def k0_mult8 (k0_t4 : Fin k0_t4_loop.trips) : BitVec 32 :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_107_r0 : BitVec 32 := 4#32
  let v295_r0 : BitVec 32 := Scalar.muli v141_r0 c4_i32_107_r0
  let c2_i32_108_r0 : BitVec 32 := 2#32
  let v296_r0 : BitVec 32 := Scalar.addi v295_r0 c2_i32_108_r0
  let c128_i32_109_r0 : BitVec 32 := 128#32
  let v297_r0 : BitVec 32 := Scalar.muli v296_r0 c128_i32_109_r0
  v297_r0
def k0_mult9 (k0_t4 : Fin k0_t4_loop.trips) : BitVec 32 :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_116_r0 : BitVec 32 := 4#32
  let v315_r0 : BitVec 32 := Scalar.muli v141_r0 c4_i32_116_r0
  let c3_i32_117_r0 : BitVec 32 := 3#32
  let v316_r0 : BitVec 32 := Scalar.addi v315_r0 c3_i32_117_r0
  let c128_i32_118_r0 : BitVec 32 := 128#32
  let v317_r0 : BitVec 32 := Scalar.muli v316_r0 c128_i32_118_r0
  v317_r0
def k0_mult10 (k0_t4 : Fin k0_t4_loop.trips) : BitVec 32 :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_126_r0 : BitVec 32 := 4#32
  let v337_r0 : BitVec 32 := Scalar.muli v141_r0 c4_i32_126_r0
  let c0_i32_127_r0 : BitVec 32 := 0#32
  let v338_r0 : BitVec 32 := Scalar.addi v337_r0 c0_i32_127_r0
  let c128_i32_128_r0 : BitVec 32 := 128#32
  let v339_r0 : BitVec 32 := Scalar.muli v338_r0 c128_i32_128_r0
  v339_r0
def k0_off84 (k0_t4 : Fin k0_t4_loop.trips) (c0_i32_127_r0 : BitVec 32) : Fin 2 → Nat :=
  let c64_133_r0 : Index := 64#32
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_126_r0 : BitVec 32 := 4#32
  let v337_r0 : BitVec 32 := Scalar.muli v141_r0 c4_i32_126_r0
  let v338_r0 : BitVec 32 := Scalar.addi v337_r0 c0_i32_127_r0
  let c128_i32_128_r0 : BitVec 32 := 128#32
  let v339_r0 : BitVec 32 := Scalar.muli v338_r0 c128_i32_128_r0
  let v340_r0 : BitVec 32 := v339_r0
  let v348_r0 : Index := Scalar.indexCast v340_r0
  ![64, v348_r0.toNat]
def k0_mult11 (k0_t4 : Fin k0_t4_loop.trips) : BitVec 32 :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_135_r0 : BitVec 32 := 4#32
  let v357_r0 : BitVec 32 := Scalar.muli v141_r0 c4_i32_135_r0
  let c1_i32_136_r0 : BitVec 32 := 1#32
  let v358_r0 : BitVec 32 := Scalar.addi v357_r0 c1_i32_136_r0
  let c128_i32_137_r0 : BitVec 32 := 128#32
  let v359_r0 : BitVec 32 := Scalar.muli v358_r0 c128_i32_137_r0
  v359_r0
def k0_mult12 (k0_t4 : Fin k0_t4_loop.trips) : BitVec 32 :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_144_r0 : BitVec 32 := 4#32
  let v378_r0 : BitVec 32 := Scalar.muli v141_r0 c4_i32_144_r0
  let c2_i32_145_r0 : BitVec 32 := 2#32
  let v379_r0 : BitVec 32 := Scalar.addi v378_r0 c2_i32_145_r0
  let c128_i32_146_r0 : BitVec 32 := 128#32
  let v380_r0 : BitVec 32 := Scalar.muli v379_r0 c128_i32_146_r0
  v380_r0
def k0_mult13 (k0_t4 : Fin k0_t4_loop.trips) : BitVec 32 :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_153_r0 : BitVec 32 := 4#32
  let v398_r0 : BitVec 32 := Scalar.muli v141_r0 c4_i32_153_r0
  let c3_i32_154_r0 : BitVec 32 := 3#32
  let v399_r0 : BitVec 32 := Scalar.addi v398_r0 c3_i32_154_r0
  let c128_i32_155_r0 : BitVec 32 := 128#32
  let v400_r0 : BitVec 32 := Scalar.muli v399_r0 c128_i32_155_r0
  v400_r0
def k0_mult14 (k0_t4 : Fin k0_t4_loop.trips) : BitVec 32 :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_163_r0 : BitVec 32 := 4#32
  let v420_r0 : BitVec 32 := Scalar.muli v141_r0 c4_i32_163_r0
  let c0_i32_164_r0 : BitVec 32 := 0#32
  let v421_r0 : BitVec 32 := Scalar.addi v420_r0 c0_i32_164_r0
  let c128_i32_165_r0 : BitVec 32 := 128#32
  let v422_r0 : BitVec 32 := Scalar.muli v421_r0 c128_i32_165_r0
  v422_r0
def k0_off85 (k0_t4 : Fin k0_t4_loop.trips) (c0_i32_164_r0 : BitVec 32) : Fin 2 → Nat :=
  let c96_169_r0 : Index := 96#32
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_163_r0 : BitVec 32 := 4#32
  let v420_r0 : BitVec 32 := Scalar.muli v141_r0 c4_i32_163_r0
  let v421_r0 : BitVec 32 := Scalar.addi v420_r0 c0_i32_164_r0
  let c128_i32_165_r0 : BitVec 32 := 128#32
  let v422_r0 : BitVec 32 := Scalar.muli v421_r0 c128_i32_165_r0
  let v423_r0 : BitVec 32 := v422_r0
  let v431_r0 : Index := Scalar.indexCast v423_r0
  ![96, v431_r0.toNat]
def k0_mult15 (k0_t4 : Fin k0_t4_loop.trips) : BitVec 32 :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_171_r0 : BitVec 32 := 4#32
  let v440_r0 : BitVec 32 := Scalar.muli v141_r0 c4_i32_171_r0
  let c1_i32_172_r0 : BitVec 32 := 1#32
  let v441_r0 : BitVec 32 := Scalar.addi v440_r0 c1_i32_172_r0
  let c128_i32_173_r0 : BitVec 32 := 128#32
  let v442_r0 : BitVec 32 := Scalar.muli v441_r0 c128_i32_173_r0
  v442_r0
def k0_mult16 (k0_t4 : Fin k0_t4_loop.trips) : BitVec 32 :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_180_r0 : BitVec 32 := 4#32
  let v461_r0 : BitVec 32 := Scalar.muli v141_r0 c4_i32_180_r0
  let c2_i32_181_r0 : BitVec 32 := 2#32
  let v462_r0 : BitVec 32 := Scalar.addi v461_r0 c2_i32_181_r0
  let c128_i32_182_r0 : BitVec 32 := 128#32
  let v463_r0 : BitVec 32 := Scalar.muli v462_r0 c128_i32_182_r0
  v463_r0
def k0_mult17 (k0_t4 : Fin k0_t4_loop.trips) : BitVec 32 :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_189_r0 : BitVec 32 := 4#32
  let v481_r0 : BitVec 32 := Scalar.muli v141_r0 c4_i32_189_r0
  let c3_i32_190_r0 : BitVec 32 := 3#32
  let v482_r0 : BitVec 32 := Scalar.addi v481_r0 c3_i32_190_r0
  let c128_i32_191_r0 : BitVec 32 := 128#32
  let v483_r0 : BitVec 32 := Scalar.muli v482_r0 c128_i32_191_r0
  v483_r0
def k0_mult18 (k0_t4 : Fin k0_t4_loop.trips) : BitVec 32 :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_200_r0 : BitVec 32 := 4#32
  let v503_r0 : BitVec 32 := Scalar.muli v141_r0 c4_i32_200_r0
  let c0_i32_201_r0 : BitVec 32 := 0#32
  let v504_r0 : BitVec 32 := Scalar.addi v503_r0 c0_i32_201_r0
  let c128_i32_202_r0 : BitVec 32 := 128#32
  let v505_r0 : BitVec 32 := Scalar.muli v504_r0 c128_i32_202_r0
  v505_r0
def k0_off86 (k0_t4 : Fin k0_t4_loop.trips) (c0_i32_201_r0 : BitVec 32) : Fin 2 → Nat :=
  let c128_207_r0 : Index := 128#32
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_200_r0 : BitVec 32 := 4#32
  let v503_r0 : BitVec 32 := Scalar.muli v141_r0 c4_i32_200_r0
  let v504_r0 : BitVec 32 := Scalar.addi v503_r0 c0_i32_201_r0
  let c128_i32_202_r0 : BitVec 32 := 128#32
  let v505_r0 : BitVec 32 := Scalar.muli v504_r0 c128_i32_202_r0
  let v506_r0 : BitVec 32 := v505_r0
  let v514_r0 : Index := Scalar.indexCast v506_r0
  ![128, v514_r0.toNat]
def k0_mult19 (k0_t4 : Fin k0_t4_loop.trips) : BitVec 32 :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_209_r0 : BitVec 32 := 4#32
  let v523_r0 : BitVec 32 := Scalar.muli v141_r0 c4_i32_209_r0
  let c1_i32_210_r0 : BitVec 32 := 1#32
  let v524_r0 : BitVec 32 := Scalar.addi v523_r0 c1_i32_210_r0
  let c128_i32_211_r0 : BitVec 32 := 128#32
  let v525_r0 : BitVec 32 := Scalar.muli v524_r0 c128_i32_211_r0
  v525_r0
def k0_mult20 (k0_t4 : Fin k0_t4_loop.trips) : BitVec 32 :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_218_r0 : BitVec 32 := 4#32
  let v544_r0 : BitVec 32 := Scalar.muli v141_r0 c4_i32_218_r0
  let c2_i32_219_r0 : BitVec 32 := 2#32
  let v545_r0 : BitVec 32 := Scalar.addi v544_r0 c2_i32_219_r0
  let c128_i32_220_r0 : BitVec 32 := 128#32
  let v546_r0 : BitVec 32 := Scalar.muli v545_r0 c128_i32_220_r0
  v546_r0
def k0_mult21 (k0_t4 : Fin k0_t4_loop.trips) : BitVec 32 :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_227_r0 : BitVec 32 := 4#32
  let v564_r0 : BitVec 32 := Scalar.muli v141_r0 c4_i32_227_r0
  let c3_i32_228_r0 : BitVec 32 := 3#32
  let v565_r0 : BitVec 32 := Scalar.addi v564_r0 c3_i32_228_r0
  let c128_i32_229_r0 : BitVec 32 := 128#32
  let v566_r0 : BitVec 32 := Scalar.muli v565_r0 c128_i32_229_r0
  v566_r0
def k0_mult22 (k0_t4 : Fin k0_t4_loop.trips) : BitVec 32 :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_237_r0 : BitVec 32 := 4#32
  let v586_r0 : BitVec 32 := Scalar.muli v141_r0 c4_i32_237_r0
  let c0_i32_238_r0 : BitVec 32 := 0#32
  let v587_r0 : BitVec 32 := Scalar.addi v586_r0 c0_i32_238_r0
  let c128_i32_239_r0 : BitVec 32 := 128#32
  let v588_r0 : BitVec 32 := Scalar.muli v587_r0 c128_i32_239_r0
  v588_r0
def k0_off87 (k0_t4 : Fin k0_t4_loop.trips) (c0_i32_238_r0 : BitVec 32) : Fin 2 → Nat :=
  let c160_243_r0 : Index := 160#32
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_237_r0 : BitVec 32 := 4#32
  let v586_r0 : BitVec 32 := Scalar.muli v141_r0 c4_i32_237_r0
  let v587_r0 : BitVec 32 := Scalar.addi v586_r0 c0_i32_238_r0
  let c128_i32_239_r0 : BitVec 32 := 128#32
  let v588_r0 : BitVec 32 := Scalar.muli v587_r0 c128_i32_239_r0
  let v589_r0 : BitVec 32 := v588_r0
  let v597_r0 : Index := Scalar.indexCast v589_r0
  ![160, v597_r0.toNat]
def k0_mult23 (k0_t4 : Fin k0_t4_loop.trips) : BitVec 32 :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_245_r0 : BitVec 32 := 4#32
  let v606_r0 : BitVec 32 := Scalar.muli v141_r0 c4_i32_245_r0
  let c1_i32_246_r0 : BitVec 32 := 1#32
  let v607_r0 : BitVec 32 := Scalar.addi v606_r0 c1_i32_246_r0
  let c128_i32_247_r0 : BitVec 32 := 128#32
  let v608_r0 : BitVec 32 := Scalar.muli v607_r0 c128_i32_247_r0
  v608_r0
def k0_mult24 (k0_t4 : Fin k0_t4_loop.trips) : BitVec 32 :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_254_r0 : BitVec 32 := 4#32
  let v627_r0 : BitVec 32 := Scalar.muli v141_r0 c4_i32_254_r0
  let c2_i32_255_r0 : BitVec 32 := 2#32
  let v628_r0 : BitVec 32 := Scalar.addi v627_r0 c2_i32_255_r0
  let c128_i32_256_r0 : BitVec 32 := 128#32
  let v629_r0 : BitVec 32 := Scalar.muli v628_r0 c128_i32_256_r0
  v629_r0
def k0_mult25 (k0_t4 : Fin k0_t4_loop.trips) : BitVec 32 :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_263_r0 : BitVec 32 := 4#32
  let v647_r0 : BitVec 32 := Scalar.muli v141_r0 c4_i32_263_r0
  let c3_i32_264_r0 : BitVec 32 := 3#32
  let v648_r0 : BitVec 32 := Scalar.addi v647_r0 c3_i32_264_r0
  let c128_i32_265_r0 : BitVec 32 := 128#32
  let v649_r0 : BitVec 32 := Scalar.muli v648_r0 c128_i32_265_r0
  v649_r0
def k0_mult26 (k0_t4 : Fin k0_t4_loop.trips) : BitVec 32 :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_273_r0 : BitVec 32 := 4#32
  let v669_r0 : BitVec 32 := Scalar.muli v141_r0 c4_i32_273_r0
  let c0_i32_274_r0 : BitVec 32 := 0#32
  let v670_r0 : BitVec 32 := Scalar.addi v669_r0 c0_i32_274_r0
  let c128_i32_275_r0 : BitVec 32 := 128#32
  let v671_r0 : BitVec 32 := Scalar.muli v670_r0 c128_i32_275_r0
  v671_r0
def k0_off88 (k0_t4 : Fin k0_t4_loop.trips) (c0_i32_274_r0 : BitVec 32) : Fin 2 → Nat :=
  let c192_280_r0 : Index := 192#32
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_273_r0 : BitVec 32 := 4#32
  let v669_r0 : BitVec 32 := Scalar.muli v141_r0 c4_i32_273_r0
  let v670_r0 : BitVec 32 := Scalar.addi v669_r0 c0_i32_274_r0
  let c128_i32_275_r0 : BitVec 32 := 128#32
  let v671_r0 : BitVec 32 := Scalar.muli v670_r0 c128_i32_275_r0
  let v672_r0 : BitVec 32 := v671_r0
  let v680_r0 : Index := Scalar.indexCast v672_r0
  ![192, v680_r0.toNat]
def k0_mult27 (k0_t4 : Fin k0_t4_loop.trips) : BitVec 32 :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_282_r0 : BitVec 32 := 4#32
  let v689_r0 : BitVec 32 := Scalar.muli v141_r0 c4_i32_282_r0
  let c1_i32_283_r0 : BitVec 32 := 1#32
  let v690_r0 : BitVec 32 := Scalar.addi v689_r0 c1_i32_283_r0
  let c128_i32_284_r0 : BitVec 32 := 128#32
  let v691_r0 : BitVec 32 := Scalar.muli v690_r0 c128_i32_284_r0
  v691_r0
def k0_mult28 (k0_t4 : Fin k0_t4_loop.trips) : BitVec 32 :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_291_r0 : BitVec 32 := 4#32
  let v710_r0 : BitVec 32 := Scalar.muli v141_r0 c4_i32_291_r0
  let c2_i32_292_r0 : BitVec 32 := 2#32
  let v711_r0 : BitVec 32 := Scalar.addi v710_r0 c2_i32_292_r0
  let c128_i32_293_r0 : BitVec 32 := 128#32
  let v712_r0 : BitVec 32 := Scalar.muli v711_r0 c128_i32_293_r0
  v712_r0
def k0_mult29 (k0_t4 : Fin k0_t4_loop.trips) : BitVec 32 :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_300_r0 : BitVec 32 := 4#32
  let v730_r0 : BitVec 32 := Scalar.muli v141_r0 c4_i32_300_r0
  let c3_i32_301_r0 : BitVec 32 := 3#32
  let v731_r0 : BitVec 32 := Scalar.addi v730_r0 c3_i32_301_r0
  let c128_i32_302_r0 : BitVec 32 := 128#32
  let v732_r0 : BitVec 32 := Scalar.muli v731_r0 c128_i32_302_r0
  v732_r0
def k0_mult30 (k0_t4 : Fin k0_t4_loop.trips) : BitVec 32 :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_310_r0 : BitVec 32 := 4#32
  let v752_r0 : BitVec 32 := Scalar.muli v141_r0 c4_i32_310_r0
  let c0_i32_311_r0 : BitVec 32 := 0#32
  let v753_r0 : BitVec 32 := Scalar.addi v752_r0 c0_i32_311_r0
  let c128_i32_312_r0 : BitVec 32 := 128#32
  let v754_r0 : BitVec 32 := Scalar.muli v753_r0 c128_i32_312_r0
  v754_r0
def k0_off89 (k0_t4 : Fin k0_t4_loop.trips) (c0_i32_311_r0 : BitVec 32) : Fin 2 → Nat :=
  let c224_316_r0 : Index := 224#32
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_310_r0 : BitVec 32 := 4#32
  let v752_r0 : BitVec 32 := Scalar.muli v141_r0 c4_i32_310_r0
  let v753_r0 : BitVec 32 := Scalar.addi v752_r0 c0_i32_311_r0
  let c128_i32_312_r0 : BitVec 32 := 128#32
  let v754_r0 : BitVec 32 := Scalar.muli v753_r0 c128_i32_312_r0
  let v755_r0 : BitVec 32 := v754_r0
  let v763_r0 : Index := Scalar.indexCast v755_r0
  ![224, v763_r0.toNat]
def k0_mult31 (k0_t4 : Fin k0_t4_loop.trips) : BitVec 32 :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_318_r0 : BitVec 32 := 4#32
  let v772_r0 : BitVec 32 := Scalar.muli v141_r0 c4_i32_318_r0
  let c1_i32_319_r0 : BitVec 32 := 1#32
  let v773_r0 : BitVec 32 := Scalar.addi v772_r0 c1_i32_319_r0
  let c128_i32_320_r0 : BitVec 32 := 128#32
  let v774_r0 : BitVec 32 := Scalar.muli v773_r0 c128_i32_320_r0
  v774_r0
def k0_mult32 (k0_t4 : Fin k0_t4_loop.trips) : BitVec 32 :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_327_r0 : BitVec 32 := 4#32
  let v793_r0 : BitVec 32 := Scalar.muli v141_r0 c4_i32_327_r0
  let c2_i32_328_r0 : BitVec 32 := 2#32
  let v794_r0 : BitVec 32 := Scalar.addi v793_r0 c2_i32_328_r0
  let c128_i32_329_r0 : BitVec 32 := 128#32
  let v795_r0 : BitVec 32 := Scalar.muli v794_r0 c128_i32_329_r0
  v795_r0
def k0_mult33 (k0_t4 : Fin k0_t4_loop.trips) : BitVec 32 :=
  let c0_i32_43_r0 : BitVec 32 := 0#32
  let c0_i32_25_r0 : BitVec 32 := 0#32
  let c1_i32_26_r0 : BitVec 32 := 1#32
  let arg19_r0 : BitVec 32 := Scf.iv c0_i32_25_r0 c1_i32_26_r0 k0_t4
  let c1_i32_42_r0 : BitVec 32 := 1#32
  let v140_r0 : BitVec 32 := Scalar.muli arg19_r0 c1_i32_42_r0
  let v141_r0 : BitVec 32 := Scalar.addi c0_i32_43_r0 v140_r0
  let c4_i32_336_r0 : BitVec 32 := 4#32
  let v813_r0 : BitVec 32 := Scalar.muli v141_r0 c4_i32_336_r0
  let c3_i32_337_r0 : BitVec 32 := 3#32
  let v814_r0 : BitVec 32 := Scalar.addi v813_r0 c3_i32_337_r0
  let c128_i32_338_r0 : BitVec 32 := 128#32
  let v815_r0 : BitVec 32 := Scalar.muli v814_r0 c128_i32_338_r0
  v815_r0
@[reducible] def k0_t5_loop : Scf.Loop 32 :=
  let c0_i32_38_r0 : BitVec 32 := 0#32
  let c32_i32_r0 : BitVec 32 := 32#32
  let v136_r0 : BitVec 32 := Scalar.addi c0_i32_38_r0 c32_i32_r0
  let c1_i32_39_r0 : BitVec 32 := 1#32
  ⟨c0_i32_38_r0, v136_r0, c1_i32_39_r0⟩
def k0_off90 (i : grid0.Coords) (k0_t5 : Fin k0_t5_loop.trips) : Fin 1 → Nat :=
  let arg0 : BitVec 32 := BitVec.ofNat 32 (i 0).val
  let c256_i32_r0 : BitVec 32 := 256#32
  let v5_r0 : BitVec 32 := Scalar.muli arg0 c256_i32_r0
  let c0_i32_43_r0 : BitVec 32 := 0#32
  let c0_i32_38_r0 : BitVec 32 := 0#32
  let c1_i32_39_r0 : BitVec 32 := 1#32
  let arg19_r0 : BitVec 32 := Scf.iv c0_i32_38_r0 c1_i32_39_r0 k0_t5
  let c1_i32_42_r0 : BitVec 32 := 1#32
  let v140_r0 : BitVec 32 := Scalar.muli arg19_r0 c1_i32_42_r0
  let v141_r0 : BitVec 32 := Scalar.addi c0_i32_43_r0 v140_r0
  let c8_i32_r0 : BitVec 32 := 8#32
  let v142_r0 : BitVec 32 := Scalar.muli v141_r0 c8_i32_r0
  let v143_r0 : BitVec 32 := Scalar.addi v5_r0 v142_r0
  let c0_i32_44_r0 : BitVec 32 := 0#32
  let v144_r0 : BitVec 32 := Scalar.addi v143_r0 c0_i32_44_r0
  let v145_r0 : Index := Scalar.indexCast v144_r0
  ![v145_r0.toNat]
def k0_off91 (k0_t5 : Fin k0_t5_loop.trips) : Fin 2 → Nat :=
  let c0_i32_43_r0 : BitVec 32 := 0#32
  let c0_i32_38_r0 : BitVec 32 := 0#32
  let c1_i32_39_r0 : BitVec 32 := 1#32
  let arg19_r0 : BitVec 32 := Scf.iv c0_i32_38_r0 c1_i32_39_r0 k0_t5
  let c1_i32_42_r0 : BitVec 32 := 1#32
  let v140_r0 : BitVec 32 := Scalar.muli arg19_r0 c1_i32_42_r0
  let v141_r0 : BitVec 32 := Scalar.addi c0_i32_43_r0 v140_r0
  let c8_i32_48_r0 : BitVec 32 := 8#32
  let v152_r0 : BitVec 32 := Scalar.muli v141_r0 c8_i32_48_r0
  let c0_i32_49_r0 : BitVec 32 := 0#32
  let v153_r0 : BitVec 32 := Scalar.addi v152_r0 c0_i32_49_r0
  let v154_r0 : Index := Scalar.indexCast v153_r0
  let c0_50_r0 : Index := 0#32
  ![v154_r0.toNat, 0]
def k0_off92 (v146_r0 : BitVec 32) : Fin 2 → Nat :=
  let c3_i32_r0 : BitVec 32 := 3#32
  let v147_r0 : BitVec 32 := Scalar.shrui v146_r0 c3_i32_r0
  let c7_i32_46_r0 : BitVec 32 := 7#32
  let v149_r0 : BitVec 32 := Scalar.shrui v147_r0 c7_i32_46_r0
  let c8_i32_47_r0 : BitVec 32 := 8#32
  let v150_r0 : BitVec 32 := Scalar.muli v149_r0 c8_i32_47_r0
  let c7_i32_45_r0 : BitVec 32 := 7#32
  let v148_r0 : BitVec 32 := Scalar.andi v146_r0 c7_i32_45_r0
  let v151_r0 : BitVec 32 := Scalar.addi v150_r0 v148_r0
  let v160_r0 : Index := Scalar.indexCast v151_r0
  let c0_51_r0 : Index := 0#32
  ![v160_r0.toNat, 0]

def k0_chk5 (v146_r0 : BitVec 32) : Prop :=
  (∀ a, (k0_off92 v146_r0) a + S1x128.size a ≤ S128x128.size a)
theorem k0_off92_inb : ∀ (v146_r0 : BitVec 32) (k0_hw5 : k0_chk5 v146_r0), ∀ a, (k0_off92 v146_r0) a + S1x128.size a ≤ S128x128.size a := fun v146_r0 k0_hw5 => k0_hw5

def k0_off93 (i : grid0.Coords) (k0_t5 : Fin k0_t5_loop.trips) : Fin 1 → Nat :=
  let arg0 : BitVec 32 := BitVec.ofNat 32 (i 0).val
  let c256_i32_r0 : BitVec 32 := 256#32
  let v5_r0 : BitVec 32 := Scalar.muli arg0 c256_i32_r0
  let c0_i32_43_r0 : BitVec 32 := 0#32
  let c0_i32_38_r0 : BitVec 32 := 0#32
  let c1_i32_39_r0 : BitVec 32 := 1#32
  let arg19_r0 : BitVec 32 := Scf.iv c0_i32_38_r0 c1_i32_39_r0 k0_t5
  let c1_i32_42_r0 : BitVec 32 := 1#32
  let v140_r0 : BitVec 32 := Scalar.muli arg19_r0 c1_i32_42_r0
  let v141_r0 : BitVec 32 := Scalar.addi c0_i32_43_r0 v140_r0
  let c8_i32_52_r0 : BitVec 32 := 8#32
  let v165_r0 : BitVec 32 := Scalar.muli v141_r0 c8_i32_52_r0
  let v166_r0 : BitVec 32 := Scalar.addi v5_r0 v165_r0
  let c1_i32_53_r0 : BitVec 32 := 1#32
  let v167_r0 : BitVec 32 := Scalar.addi v166_r0 c1_i32_53_r0
  let v168_r0 : Index := Scalar.indexCast v167_r0
  ![v168_r0.toNat]
def k0_off94 (k0_t5 : Fin k0_t5_loop.trips) : Fin 2 → Nat :=
  let c0_i32_43_r0 : BitVec 32 := 0#32
  let c0_i32_38_r0 : BitVec 32 := 0#32
  let c1_i32_39_r0 : BitVec 32 := 1#32
  let arg19_r0 : BitVec 32 := Scf.iv c0_i32_38_r0 c1_i32_39_r0 k0_t5
  let c1_i32_42_r0 : BitVec 32 := 1#32
  let v140_r0 : BitVec 32 := Scalar.muli arg19_r0 c1_i32_42_r0
  let v141_r0 : BitVec 32 := Scalar.addi c0_i32_43_r0 v140_r0
  let c8_i32_58_r0 : BitVec 32 := 8#32
  let v175_r0 : BitVec 32 := Scalar.muli v141_r0 c8_i32_58_r0
  let c1_i32_59_r0 : BitVec 32 := 1#32
  let v176_r0 : BitVec 32 := Scalar.addi v175_r0 c1_i32_59_r0
  let v177_r0 : Index := Scalar.indexCast v176_r0
  let c0_60_r0 : Index := 0#32
  ![v177_r0.toNat, 0]
def k0_off95 (v169_r0 : BitVec 32) : Fin 2 → Nat :=
  let c3_i32_54_r0 : BitVec 32 := 3#32
  let v170_r0 : BitVec 32 := Scalar.shrui v169_r0 c3_i32_54_r0
  let c7_i32_56_r0 : BitVec 32 := 7#32
  let v172_r0 : BitVec 32 := Scalar.shrui v170_r0 c7_i32_56_r0
  let c8_i32_57_r0 : BitVec 32 := 8#32
  let v173_r0 : BitVec 32 := Scalar.muli v172_r0 c8_i32_57_r0
  let c7_i32_55_r0 : BitVec 32 := 7#32
  let v171_r0 : BitVec 32 := Scalar.andi v169_r0 c7_i32_55_r0
  let v174_r0 : BitVec 32 := Scalar.addi v173_r0 v171_r0
  let v183_r0 : Index := Scalar.indexCast v174_r0
  let c0_62_r0 : Index := 0#32
  ![v183_r0.toNat, 0]

def k0_chk6 (v169_r0 : BitVec 32) : Prop :=
  (∀ a, (k0_off95 v169_r0) a + S1x128.size a ≤ S128x128.size a)
theorem k0_off95_inb : ∀ (v169_r0 : BitVec 32) (k0_hw6 : k0_chk6 v169_r0), ∀ a, (k0_off95 v169_r0) a + S1x128.size a ≤ S128x128.size a := fun v169_r0 k0_hw6 => k0_hw6

def k0_off96 (i : grid0.Coords) (k0_t5 : Fin k0_t5_loop.trips) : Fin 1 → Nat :=
  let arg0 : BitVec 32 := BitVec.ofNat 32 (i 0).val
  let c256_i32_r0 : BitVec 32 := 256#32
  let v5_r0 : BitVec 32 := Scalar.muli arg0 c256_i32_r0
  let c0_i32_43_r0 : BitVec 32 := 0#32
  let c0_i32_38_r0 : BitVec 32 := 0#32
  let c1_i32_39_r0 : BitVec 32 := 1#32
  let arg19_r0 : BitVec 32 := Scf.iv c0_i32_38_r0 c1_i32_39_r0 k0_t5
  let c1_i32_42_r0 : BitVec 32 := 1#32
  let v140_r0 : BitVec 32 := Scalar.muli arg19_r0 c1_i32_42_r0
  let v141_r0 : BitVec 32 := Scalar.addi c0_i32_43_r0 v140_r0
  let c8_i32_63_r0 : BitVec 32 := 8#32
  let v188_r0 : BitVec 32 := Scalar.muli v141_r0 c8_i32_63_r0
  let v189_r0 : BitVec 32 := Scalar.addi v5_r0 v188_r0
  let c2_i32_r0 : BitVec 32 := 2#32
  let v190_r0 : BitVec 32 := Scalar.addi v189_r0 c2_i32_r0
  let v191_r0 : Index := Scalar.indexCast v190_r0
  ![v191_r0.toNat]
def k0_off97 (k0_t5 : Fin k0_t5_loop.trips) : Fin 2 → Nat :=
  let c0_i32_43_r0 : BitVec 32 := 0#32
  let c0_i32_38_r0 : BitVec 32 := 0#32
  let c1_i32_39_r0 : BitVec 32 := 1#32
  let arg19_r0 : BitVec 32 := Scf.iv c0_i32_38_r0 c1_i32_39_r0 k0_t5
  let c1_i32_42_r0 : BitVec 32 := 1#32
  let v140_r0 : BitVec 32 := Scalar.muli arg19_r0 c1_i32_42_r0
  let v141_r0 : BitVec 32 := Scalar.addi c0_i32_43_r0 v140_r0
  let c8_i32_68_r0 : BitVec 32 := 8#32
  let v198_r0 : BitVec 32 := Scalar.muli v141_r0 c8_i32_68_r0
  let c2_i32_69_r0 : BitVec 32 := 2#32
  let v199_r0 : BitVec 32 := Scalar.addi v198_r0 c2_i32_69_r0
  let v200_r0 : Index := Scalar.indexCast v199_r0
  let c0_70_r0 : Index := 0#32
  ![v200_r0.toNat, 0]
def k0_off98 (v192_r0 : BitVec 32) : Fin 2 → Nat :=
  let c3_i32_64_r0 : BitVec 32 := 3#32
  let v193_r0 : BitVec 32 := Scalar.shrui v192_r0 c3_i32_64_r0
  let c7_i32_66_r0 : BitVec 32 := 7#32
  let v195_r0 : BitVec 32 := Scalar.shrui v193_r0 c7_i32_66_r0
  let c8_i32_67_r0 : BitVec 32 := 8#32
  let v196_r0 : BitVec 32 := Scalar.muli v195_r0 c8_i32_67_r0
  let c7_i32_65_r0 : BitVec 32 := 7#32
  let v194_r0 : BitVec 32 := Scalar.andi v192_r0 c7_i32_65_r0
  let v197_r0 : BitVec 32 := Scalar.addi v196_r0 v194_r0
  let v206_r0 : Index := Scalar.indexCast v197_r0
  let c0_72_r0 : Index := 0#32
  ![v206_r0.toNat, 0]

def k0_chk7 (v192_r0 : BitVec 32) : Prop :=
  (∀ a, (k0_off98 v192_r0) a + S1x128.size a ≤ S128x128.size a)
theorem k0_off98_inb : ∀ (v192_r0 : BitVec 32) (k0_hw7 : k0_chk7 v192_r0), ∀ a, (k0_off98 v192_r0) a + S1x128.size a ≤ S128x128.size a := fun v192_r0 k0_hw7 => k0_hw7

def k0_off99 (i : grid0.Coords) (k0_t5 : Fin k0_t5_loop.trips) : Fin 1 → Nat :=
  let arg0 : BitVec 32 := BitVec.ofNat 32 (i 0).val
  let c256_i32_r0 : BitVec 32 := 256#32
  let v5_r0 : BitVec 32 := Scalar.muli arg0 c256_i32_r0
  let c0_i32_43_r0 : BitVec 32 := 0#32
  let c0_i32_38_r0 : BitVec 32 := 0#32
  let c1_i32_39_r0 : BitVec 32 := 1#32
  let arg19_r0 : BitVec 32 := Scf.iv c0_i32_38_r0 c1_i32_39_r0 k0_t5
  let c1_i32_42_r0 : BitVec 32 := 1#32
  let v140_r0 : BitVec 32 := Scalar.muli arg19_r0 c1_i32_42_r0
  let v141_r0 : BitVec 32 := Scalar.addi c0_i32_43_r0 v140_r0
  let c8_i32_73_r0 : BitVec 32 := 8#32
  let v211_r0 : BitVec 32 := Scalar.muli v141_r0 c8_i32_73_r0
  let v212_r0 : BitVec 32 := Scalar.addi v5_r0 v211_r0
  let c3_i32_74_r0 : BitVec 32 := 3#32
  let v213_r0 : BitVec 32 := Scalar.addi v212_r0 c3_i32_74_r0
  let v214_r0 : Index := Scalar.indexCast v213_r0
  ![v214_r0.toNat]
def k0_off100 (k0_t5 : Fin k0_t5_loop.trips) : Fin 2 → Nat :=
  let c0_i32_43_r0 : BitVec 32 := 0#32
  let c0_i32_38_r0 : BitVec 32 := 0#32
  let c1_i32_39_r0 : BitVec 32 := 1#32
  let arg19_r0 : BitVec 32 := Scf.iv c0_i32_38_r0 c1_i32_39_r0 k0_t5
  let c1_i32_42_r0 : BitVec 32 := 1#32
  let v140_r0 : BitVec 32 := Scalar.muli arg19_r0 c1_i32_42_r0
  let v141_r0 : BitVec 32 := Scalar.addi c0_i32_43_r0 v140_r0
  let c8_i32_79_r0 : BitVec 32 := 8#32
  let v221_r0 : BitVec 32 := Scalar.muli v141_r0 c8_i32_79_r0
  let c3_i32_80_r0 : BitVec 32 := 3#32
  let v222_r0 : BitVec 32 := Scalar.addi v221_r0 c3_i32_80_r0
  let v223_r0 : Index := Scalar.indexCast v222_r0
  let c0_81_r0 : Index := 0#32
  ![v223_r0.toNat, 0]
def k0_off101 (v215_r0 : BitVec 32) : Fin 2 → Nat :=
  let c3_i32_75_r0 : BitVec 32 := 3#32
  let v216_r0 : BitVec 32 := Scalar.shrui v215_r0 c3_i32_75_r0
  let c7_i32_77_r0 : BitVec 32 := 7#32
  let v218_r0 : BitVec 32 := Scalar.shrui v216_r0 c7_i32_77_r0
  let c8_i32_78_r0 : BitVec 32 := 8#32
  let v219_r0 : BitVec 32 := Scalar.muli v218_r0 c8_i32_78_r0
  let c7_i32_76_r0 : BitVec 32 := 7#32
  let v217_r0 : BitVec 32 := Scalar.andi v215_r0 c7_i32_76_r0
  let v220_r0 : BitVec 32 := Scalar.addi v219_r0 v217_r0
  let v229_r0 : Index := Scalar.indexCast v220_r0
  let c0_83_r0 : Index := 0#32
  ![v229_r0.toNat, 0]

def k0_chk8 (v215_r0 : BitVec 32) : Prop :=
  (∀ a, (k0_off101 v215_r0) a + S1x128.size a ≤ S128x128.size a)
theorem k0_off101_inb : ∀ (v215_r0 : BitVec 32) (k0_hw8 : k0_chk8 v215_r0), ∀ a, (k0_off101 v215_r0) a + S1x128.size a ≤ S128x128.size a := fun v215_r0 k0_hw8 => k0_hw8

def k0_off102 (i : grid0.Coords) (k0_t5 : Fin k0_t5_loop.trips) : Fin 1 → Nat :=
  let arg0 : BitVec 32 := BitVec.ofNat 32 (i 0).val
  let c256_i32_r0 : BitVec 32 := 256#32
  let v5_r0 : BitVec 32 := Scalar.muli arg0 c256_i32_r0
  let c0_i32_43_r0 : BitVec 32 := 0#32
  let c0_i32_38_r0 : BitVec 32 := 0#32
  let c1_i32_39_r0 : BitVec 32 := 1#32
  let arg19_r0 : BitVec 32 := Scf.iv c0_i32_38_r0 c1_i32_39_r0 k0_t5
  let c1_i32_42_r0 : BitVec 32 := 1#32
  let v140_r0 : BitVec 32 := Scalar.muli arg19_r0 c1_i32_42_r0
  let v141_r0 : BitVec 32 := Scalar.addi c0_i32_43_r0 v140_r0
  let c8_i32_84_r0 : BitVec 32 := 8#32
  let v234_r0 : BitVec 32 := Scalar.muli v141_r0 c8_i32_84_r0
  let v235_r0 : BitVec 32 := Scalar.addi v5_r0 v234_r0
  let c4_i32_r0 : BitVec 32 := 4#32
  let v236_r0 : BitVec 32 := Scalar.addi v235_r0 c4_i32_r0
  let v237_r0 : Index := Scalar.indexCast v236_r0
  ![v237_r0.toNat]
def k0_off103 (k0_t5 : Fin k0_t5_loop.trips) : Fin 2 → Nat :=
  let c0_i32_43_r0 : BitVec 32 := 0#32
  let c0_i32_38_r0 : BitVec 32 := 0#32
  let c1_i32_39_r0 : BitVec 32 := 1#32
  let arg19_r0 : BitVec 32 := Scf.iv c0_i32_38_r0 c1_i32_39_r0 k0_t5
  let c1_i32_42_r0 : BitVec 32 := 1#32
  let v140_r0 : BitVec 32 := Scalar.muli arg19_r0 c1_i32_42_r0
  let v141_r0 : BitVec 32 := Scalar.addi c0_i32_43_r0 v140_r0
  let c8_i32_89_r0 : BitVec 32 := 8#32
  let v244_r0 : BitVec 32 := Scalar.muli v141_r0 c8_i32_89_r0
  let c4_i32_90_r0 : BitVec 32 := 4#32
  let v245_r0 : BitVec 32 := Scalar.addi v244_r0 c4_i32_90_r0
  let v246_r0 : Index := Scalar.indexCast v245_r0
  let c0_91_r0 : Index := 0#32
  ![v246_r0.toNat, 0]
def k0_off104 (v238_r0 : BitVec 32) : Fin 2 → Nat :=
  let c3_i32_85_r0 : BitVec 32 := 3#32
  let v239_r0 : BitVec 32 := Scalar.shrui v238_r0 c3_i32_85_r0
  let c7_i32_87_r0 : BitVec 32 := 7#32
  let v241_r0 : BitVec 32 := Scalar.shrui v239_r0 c7_i32_87_r0
  let c8_i32_88_r0 : BitVec 32 := 8#32
  let v242_r0 : BitVec 32 := Scalar.muli v241_r0 c8_i32_88_r0
  let c7_i32_86_r0 : BitVec 32 := 7#32
  let v240_r0 : BitVec 32 := Scalar.andi v238_r0 c7_i32_86_r0
  let v243_r0 : BitVec 32 := Scalar.addi v242_r0 v240_r0
  let v252_r0 : Index := Scalar.indexCast v243_r0
  let c0_93_r0 : Index := 0#32
  ![v252_r0.toNat, 0]

def k0_chk9 (v238_r0 : BitVec 32) : Prop :=
  (∀ a, (k0_off104 v238_r0) a + S1x128.size a ≤ S128x128.size a)
theorem k0_off104_inb : ∀ (v238_r0 : BitVec 32) (k0_hw9 : k0_chk9 v238_r0), ∀ a, (k0_off104 v238_r0) a + S1x128.size a ≤ S128x128.size a := fun v238_r0 k0_hw9 => k0_hw9

def k0_off105 (i : grid0.Coords) (k0_t5 : Fin k0_t5_loop.trips) : Fin 1 → Nat :=
  let arg0 : BitVec 32 := BitVec.ofNat 32 (i 0).val
  let c256_i32_r0 : BitVec 32 := 256#32
  let v5_r0 : BitVec 32 := Scalar.muli arg0 c256_i32_r0
  let c0_i32_43_r0 : BitVec 32 := 0#32
  let c0_i32_38_r0 : BitVec 32 := 0#32
  let c1_i32_39_r0 : BitVec 32 := 1#32
  let arg19_r0 : BitVec 32 := Scf.iv c0_i32_38_r0 c1_i32_39_r0 k0_t5
  let c1_i32_42_r0 : BitVec 32 := 1#32
  let v140_r0 : BitVec 32 := Scalar.muli arg19_r0 c1_i32_42_r0
  let v141_r0 : BitVec 32 := Scalar.addi c0_i32_43_r0 v140_r0
  let c8_i32_94_r0 : BitVec 32 := 8#32
  let v257_r0 : BitVec 32 := Scalar.muli v141_r0 c8_i32_94_r0
  let v258_r0 : BitVec 32 := Scalar.addi v5_r0 v257_r0
  let c5_i32_r0 : BitVec 32 := 5#32
  let v259_r0 : BitVec 32 := Scalar.addi v258_r0 c5_i32_r0
  let v260_r0 : Index := Scalar.indexCast v259_r0
  ![v260_r0.toNat]
def k0_off106 (k0_t5 : Fin k0_t5_loop.trips) : Fin 2 → Nat :=
  let c0_i32_43_r0 : BitVec 32 := 0#32
  let c0_i32_38_r0 : BitVec 32 := 0#32
  let c1_i32_39_r0 : BitVec 32 := 1#32
  let arg19_r0 : BitVec 32 := Scf.iv c0_i32_38_r0 c1_i32_39_r0 k0_t5
  let c1_i32_42_r0 : BitVec 32 := 1#32
  let v140_r0 : BitVec 32 := Scalar.muli arg19_r0 c1_i32_42_r0
  let v141_r0 : BitVec 32 := Scalar.addi c0_i32_43_r0 v140_r0
  let c8_i32_99_r0 : BitVec 32 := 8#32
  let v267_r0 : BitVec 32 := Scalar.muli v141_r0 c8_i32_99_r0
  let c5_i32_100_r0 : BitVec 32 := 5#32
  let v268_r0 : BitVec 32 := Scalar.addi v267_r0 c5_i32_100_r0
  let v269_r0 : Index := Scalar.indexCast v268_r0
  let c0_101_r0 : Index := 0#32
  ![v269_r0.toNat, 0]
def k0_off107 (v261_r0 : BitVec 32) : Fin 2 → Nat :=
  let c3_i32_95_r0 : BitVec 32 := 3#32
  let v262_r0 : BitVec 32 := Scalar.shrui v261_r0 c3_i32_95_r0
  let c7_i32_97_r0 : BitVec 32 := 7#32
  let v264_r0 : BitVec 32 := Scalar.shrui v262_r0 c7_i32_97_r0
  let c8_i32_98_r0 : BitVec 32 := 8#32
  let v265_r0 : BitVec 32 := Scalar.muli v264_r0 c8_i32_98_r0
  let c7_i32_96_r0 : BitVec 32 := 7#32
  let v263_r0 : BitVec 32 := Scalar.andi v261_r0 c7_i32_96_r0
  let v266_r0 : BitVec 32 := Scalar.addi v265_r0 v263_r0
  let v275_r0 : Index := Scalar.indexCast v266_r0
  let c0_103_r0 : Index := 0#32
  ![v275_r0.toNat, 0]

def k0_chk10 (v261_r0 : BitVec 32) : Prop :=
  (∀ a, (k0_off107 v261_r0) a + S1x128.size a ≤ S128x128.size a)
theorem k0_off107_inb : ∀ (v261_r0 : BitVec 32) (k0_hw10 : k0_chk10 v261_r0), ∀ a, (k0_off107 v261_r0) a + S1x128.size a ≤ S128x128.size a := fun v261_r0 k0_hw10 => k0_hw10

def k0_off108 (i : grid0.Coords) (k0_t5 : Fin k0_t5_loop.trips) : Fin 1 → Nat :=
  let arg0 : BitVec 32 := BitVec.ofNat 32 (i 0).val
  let c256_i32_r0 : BitVec 32 := 256#32
  let v5_r0 : BitVec 32 := Scalar.muli arg0 c256_i32_r0
  let c0_i32_43_r0 : BitVec 32 := 0#32
  let c0_i32_38_r0 : BitVec 32 := 0#32
  let c1_i32_39_r0 : BitVec 32 := 1#32
  let arg19_r0 : BitVec 32 := Scf.iv c0_i32_38_r0 c1_i32_39_r0 k0_t5
  let c1_i32_42_r0 : BitVec 32 := 1#32
  let v140_r0 : BitVec 32 := Scalar.muli arg19_r0 c1_i32_42_r0
  let v141_r0 : BitVec 32 := Scalar.addi c0_i32_43_r0 v140_r0
  let c8_i32_104_r0 : BitVec 32 := 8#32
  let v280_r0 : BitVec 32 := Scalar.muli v141_r0 c8_i32_104_r0
  let v281_r0 : BitVec 32 := Scalar.addi v5_r0 v280_r0
  let c6_i32_r0 : BitVec 32 := 6#32
  let v282_r0 : BitVec 32 := Scalar.addi v281_r0 c6_i32_r0
  let v283_r0 : Index := Scalar.indexCast v282_r0
  ![v283_r0.toNat]
def k0_off109 (k0_t5 : Fin k0_t5_loop.trips) : Fin 2 → Nat :=
  let c0_i32_43_r0 : BitVec 32 := 0#32
  let c0_i32_38_r0 : BitVec 32 := 0#32
  let c1_i32_39_r0 : BitVec 32 := 1#32
  let arg19_r0 : BitVec 32 := Scf.iv c0_i32_38_r0 c1_i32_39_r0 k0_t5
  let c1_i32_42_r0 : BitVec 32 := 1#32
  let v140_r0 : BitVec 32 := Scalar.muli arg19_r0 c1_i32_42_r0
  let v141_r0 : BitVec 32 := Scalar.addi c0_i32_43_r0 v140_r0
  let c8_i32_109_r0 : BitVec 32 := 8#32
  let v290_r0 : BitVec 32 := Scalar.muli v141_r0 c8_i32_109_r0
  let c6_i32_110_r0 : BitVec 32 := 6#32
  let v291_r0 : BitVec 32 := Scalar.addi v290_r0 c6_i32_110_r0
  let v292_r0 : Index := Scalar.indexCast v291_r0
  let c0_111_r0 : Index := 0#32
  ![v292_r0.toNat, 0]
def k0_off110 (v284_r0 : BitVec 32) : Fin 2 → Nat :=
  let c3_i32_105_r0 : BitVec 32 := 3#32
  let v285_r0 : BitVec 32 := Scalar.shrui v284_r0 c3_i32_105_r0
  let c7_i32_107_r0 : BitVec 32 := 7#32
  let v287_r0 : BitVec 32 := Scalar.shrui v285_r0 c7_i32_107_r0
  let c8_i32_108_r0 : BitVec 32 := 8#32
  let v288_r0 : BitVec 32 := Scalar.muli v287_r0 c8_i32_108_r0
  let c7_i32_106_r0 : BitVec 32 := 7#32
  let v286_r0 : BitVec 32 := Scalar.andi v284_r0 c7_i32_106_r0
  let v289_r0 : BitVec 32 := Scalar.addi v288_r0 v286_r0
  let v298_r0 : Index := Scalar.indexCast v289_r0
  let c0_113_r0 : Index := 0#32
  ![v298_r0.toNat, 0]

def k0_chk11 (v284_r0 : BitVec 32) : Prop :=
  (∀ a, (k0_off110 v284_r0) a + S1x128.size a ≤ S128x128.size a)
theorem k0_off110_inb : ∀ (v284_r0 : BitVec 32) (k0_hw11 : k0_chk11 v284_r0), ∀ a, (k0_off110 v284_r0) a + S1x128.size a ≤ S128x128.size a := fun v284_r0 k0_hw11 => k0_hw11

def k0_off111 (i : grid0.Coords) (k0_t5 : Fin k0_t5_loop.trips) : Fin 1 → Nat :=
  let arg0 : BitVec 32 := BitVec.ofNat 32 (i 0).val
  let c256_i32_r0 : BitVec 32 := 256#32
  let v5_r0 : BitVec 32 := Scalar.muli arg0 c256_i32_r0
  let c0_i32_43_r0 : BitVec 32 := 0#32
  let c0_i32_38_r0 : BitVec 32 := 0#32
  let c1_i32_39_r0 : BitVec 32 := 1#32
  let arg19_r0 : BitVec 32 := Scf.iv c0_i32_38_r0 c1_i32_39_r0 k0_t5
  let c1_i32_42_r0 : BitVec 32 := 1#32
  let v140_r0 : BitVec 32 := Scalar.muli arg19_r0 c1_i32_42_r0
  let v141_r0 : BitVec 32 := Scalar.addi c0_i32_43_r0 v140_r0
  let c8_i32_114_r0 : BitVec 32 := 8#32
  let v303_r0 : BitVec 32 := Scalar.muli v141_r0 c8_i32_114_r0
  let v304_r0 : BitVec 32 := Scalar.addi v5_r0 v303_r0
  let c7_i32_115_r0 : BitVec 32 := 7#32
  let v305_r0 : BitVec 32 := Scalar.addi v304_r0 c7_i32_115_r0
  let v306_r0 : Index := Scalar.indexCast v305_r0
  ![v306_r0.toNat]
def k0_off112 (k0_t5 : Fin k0_t5_loop.trips) : Fin 2 → Nat :=
  let c0_i32_43_r0 : BitVec 32 := 0#32
  let c0_i32_38_r0 : BitVec 32 := 0#32
  let c1_i32_39_r0 : BitVec 32 := 1#32
  let arg19_r0 : BitVec 32 := Scf.iv c0_i32_38_r0 c1_i32_39_r0 k0_t5
  let c1_i32_42_r0 : BitVec 32 := 1#32
  let v140_r0 : BitVec 32 := Scalar.muli arg19_r0 c1_i32_42_r0
  let v141_r0 : BitVec 32 := Scalar.addi c0_i32_43_r0 v140_r0
  let c8_i32_120_r0 : BitVec 32 := 8#32
  let v313_r0 : BitVec 32 := Scalar.muli v141_r0 c8_i32_120_r0
  let c7_i32_121_r0 : BitVec 32 := 7#32
  let v314_r0 : BitVec 32 := Scalar.addi v313_r0 c7_i32_121_r0
  let v315_r0 : Index := Scalar.indexCast v314_r0
  let c0_122_r0 : Index := 0#32
  ![v315_r0.toNat, 0]
def k0_off113 (v307_r0 : BitVec 32) : Fin 2 → Nat :=
  let c3_i32_116_r0 : BitVec 32 := 3#32
  let v308_r0 : BitVec 32 := Scalar.shrui v307_r0 c3_i32_116_r0
  let c7_i32_118_r0 : BitVec 32 := 7#32
  let v310_r0 : BitVec 32 := Scalar.shrui v308_r0 c7_i32_118_r0
  let c8_i32_119_r0 : BitVec 32 := 8#32
  let v311_r0 : BitVec 32 := Scalar.muli v310_r0 c8_i32_119_r0
  let c7_i32_117_r0 : BitVec 32 := 7#32
  let v309_r0 : BitVec 32 := Scalar.andi v307_r0 c7_i32_117_r0
  let v312_r0 : BitVec 32 := Scalar.addi v311_r0 v309_r0
  let v321_r0 : Index := Scalar.indexCast v312_r0
  let c0_124_r0 : Index := 0#32
  ![v321_r0.toNat, 0]

def k0_chk12 (v307_r0 : BitVec 32) : Prop :=
  (∀ a, (k0_off113 v307_r0) a + S1x128.size a ≤ S128x128.size a)
theorem k0_off113_inb : ∀ (v307_r0 : BitVec 32) (k0_hw12 : k0_chk12 v307_r0), ∀ a, (k0_off113 v307_r0) a + S1x128.size a ≤ S128x128.size a := fun v307_r0 k0_hw12 => k0_hw12

def k0_cond3 (i : grid0.Coords) : BitVec 1 :=
  let arg0 : BitVec 32 := BitVec.ofNat 32 (i 0).val
  let c63_i32_r0 : BitVec 32 := 63#32
  let v137_r0 : BitVec 1 := Scalar.cmpi .eq arg0 c63_i32_r0
  let v138_r0 : BitVec 32 := Scalar.extui v137_r0
  let c0_i32_41_r0 : BitVec 32 := 0#32
  let v139_r0 : BitVec 1 := Scalar.cmpi .ne v138_r0 c0_i32_41_r0
  v139_r0

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x7168 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S56x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x7168 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S2048x7168 : Shape := ⟨2, ![2048, 7168]⟩
abbrev S2048 : Shape := ⟨1, ![2048]⟩
abbrev S16384x7168 : Shape := ⟨2, ![16384, 7168]⟩
abbrev S16384x56 : Shape := ⟨2, ![16384, 56]⟩
abbrev S2048x8 : Shape := ⟨2, ![2048, 8]⟩
abbrev S16384 : Shape := ⟨1, ![16384]⟩
abbrev S_ : Shape := ⟨0, ![]⟩
abbrev S16384x1 : Shape := ⟨2, ![16384, 1]⟩
abbrev S1x16384 : Shape := ⟨2, ![1, 16384]⟩

abbrev nBuf : Space → Nat
  | .hbm => 56
  | .vmem => 5
  | .smem => 0
  | _ => 0

abbrev bufTy : (tb : Table) → Fin (tcTables nBuf tb) → BufTy
  | .hbm, ⟨0, _⟩ => ⟨S2048x7168, .i8⟩
  | .hbm, ⟨1, _⟩ => ⟨S2048, .f32⟩
  | .hbm, ⟨2, _⟩ => ⟨S16384x7168, .fp8e4m3⟩
  | .hbm, ⟨3, _⟩ => ⟨S16384x56, .f32⟩
  | .hbm, ⟨4, _⟩ => ⟨S2048x8, .f32⟩
  | .hbm, ⟨5, _⟩ => ⟨S16384, .i32⟩
  | .hbm, ⟨6, _⟩ => ⟨S_, .i32⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S16384, .i32⟩
  | .hbm, ⟨15, _⟩ => ⟨S16384, .i32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S16384, .i1⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S_, .i32⟩
  | .hbm, ⟨25, _⟩ => ⟨S16384, .i32⟩
  | .hbm, ⟨26, _⟩ => ⟨S16384, .i1⟩
  | .hbm, ⟨27, _⟩ => ⟨S_, .i32⟩
  | .hbm, ⟨28, _⟩ => ⟨S16384, .i32⟩
  | .hbm, ⟨29, _⟩ => ⟨S16384, .i32⟩
  | .hbm, ⟨30, _⟩ => ⟨S16384, .i32⟩
  | .hbm, ⟨31, _⟩ => ⟨S16384x1, .i32⟩
  | .hbm, ⟨32, _⟩ => ⟨S16384x7168, .i8⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S16384, .f32⟩
  | .hbm, ⟨42, _⟩ => ⟨S16384, .f32⟩
  | .hbm, ⟨43, _⟩ => ⟨S_, .i32⟩
  | .hbm, ⟨44, _⟩ => ⟨S16384, .i32⟩
  | .hbm, ⟨45, _⟩ => ⟨S16384, .i1⟩
  | .hbm, ⟨46, _⟩ => ⟨S_, .i32⟩
  | .hbm, ⟨47, _⟩ => ⟨S16384, .i32⟩
  | .hbm, ⟨48, _⟩ => ⟨S16384, .i32⟩
  | .hbm, ⟨49, _⟩ => ⟨S16384, .i32⟩
  | .hbm, ⟨50, _⟩ => ⟨S16384x1, .i32⟩
  | .hbm, ⟨51, _⟩ => ⟨S16384, .f32⟩
  | .hbm, ⟨52, _⟩ => ⟨S16384x1, .f32⟩
  | .hbm, ⟨53, _⟩ => ⟨S16384x1, .f32⟩
  | .hbm, ⟨54, _⟩ => ⟨S16384x7168, .fp8e5m2⟩
  | .hbm, ⟨55, _⟩ => ⟨S1x16384, .f32⟩
  | .local _ .vmem, ⟨0, _⟩ => ⟨S16384x7168, .i8⟩
  | .local _ .vmem, ⟨1, _⟩ => ⟨S16384x1, .f32⟩
  | .local _ .vmem, ⟨2, _⟩ => ⟨S16384x1, .f32⟩
  | .local _ .vmem, ⟨3, _⟩ => ⟨S16384x7168, .fp8e5m2⟩
  | .local _ .vmem, ⟨4, _⟩ => ⟨S1x16384, .f32⟩
  | _, _ => ⟨S2048x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v0 : Ref sig .tc := ⟨.hbm, 23, rfl⟩
abbrev main_c_0 : Ref sig .tc := ⟨.hbm, 24, rfl⟩
abbrev main_v1 : Ref sig .tc := ⟨.hbm, 25, rfl⟩
abbrev main_v2 : Ref sig .tc := ⟨.hbm, 26, rfl⟩
abbrev main_c_1 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_c_2 : Ref sig .tc := ⟨.hbm, 33, rfl⟩
abbrev main_v8 : Ref sig .tc := ⟨.hbm, 34, rfl⟩
abbrev main_v9 : Ref sig .tc := ⟨.hbm, 35, rfl⟩
abbrev main_c_3 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c_4 : Ref sig .tc := ⟨.hbm, 43, rfl⟩
abbrev main_v16 : Ref sig .tc := ⟨.hbm, 44, rfl⟩
abbrev main_v17 : Ref sig .tc := ⟨.hbm, 45, rfl⟩
abbrev main_c_5 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25_0 : Ref sig .tc := ⟨.hbm, 54, rfl⟩
abbrev main_v25_1 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16384x7168 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x7168 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Fill.lean ====
module

public import proofs.«01_k».proof.Proof.Gen.KernelIdeal.Skeleton
public import Idealize.ShloMosaic.Lib.Pipeline.Regions

@[expose] public section

set_option synthInstance.maxSize 4096

/-! The body of the loop that fills the table, written as four groups of fourteen equal chunks. -/

noncomputable section

namespace Cert.KernelIdeal.Own

open Idealize.ShloMosaic Idealize.SL.Sem Cert.KernelIdeal.Gen

variable {F : FTy → Type} [FloatOps F]

/-- Where a chunk reads the staged rows: slot, first row, first column. -/
def offS (k0_t1 : Fin k0_t1_loop.trips) (k0_t2 : Fin k0_t2_loop.trips) (g : BitVec 32) (col : Nat) : Fin 3 → Nat :=
  ![k0_off7 k0_t1 k0_t2 g 0, k0_off7 k0_t1 k0_t2 g 1, col]

theorem offS_inb (i : grid0.Coords) (k0_h1 : k0_cond1 i = 1#1) (k0_t1 : Fin k0_t1_loop.trips) (k0_t2 : Fin k0_t2_loop.trips)
    (g : Fin 4) (ci : Fin 14) (c : Fin 4) :
    ∀ a, offS k0_t1 k0_t2 (BitVec.ofNat 32 (32 * g.val)) (128 * (ci.val * 4 + c.val)) a + S1x32x128.size a ≤ S2x256x7168.size a := by
  intro a
  have h := k0_off7_inb i k0_t1 k0_t2 k0_h1 g
  match a with
  | 0 => exact h 0
  | 1 => exact h 1
  | 2 =>
    have := ci.2; have := c.2
    show 128 * (ci.val * 4 + c.val) + 128 ≤ 7168
    omega

/-- Runs `f` for the numbers below `n`, in order, handing a value on. -/
def upTo {E : Type → Type} {α : Type} : (n : Nat) → (Fin n → α → Prog E α) → α → Prog E α
  | 0, _, a => pure a
  | n + 1, f, a => do
    let b ← f 0 a
    upTo n (fun k => f k.succ) b

section
variable (i : grid0.Coords) (arg3 : Memref sig .tc .vmem S1x2048 .f32) (arg6 : Memref sig .tc .vmem S8x2048 .f32)
  (arg11 : Memref sig .tc .vmem S30728x128 .i32) (arg12 : Memref sig .tc .vmem S2048x128 .f32)
  (arg15 : Memref sig .tc .vmem S256x128 .f32) (arg17 : Memref sig .tc .vmem S2x256x7168 .i8)
  (k0_h1 : k0_cond1 i = 1#1) (k0_t1 : Fin k0_t1_loop.trips) (k0_t2 : Fin k0_t2_loop.trips)

/-- The magnitudes of a block of codes. -/
def mags (x : IVec S32x128 8) : FVec F S32x128 .bf16 :=
  absf (extf .bf16 (bitcastToFloat .fp8e5m2 x) bitsLt_fp8e5m2_bf16)

def tr (x y : IVec S8x128 32) (k m : BitVec 32) : IVec S8x128 32 :=
  andi (xori (shrui x (broadcast S8x128 k)) y) (broadcast S8x128 m)

def trX (x y : IVec S8x128 32) (k m : BitVec 32) : IVec S8x128 32 :=
  xori x (shli (tr x y k m) (broadcast S8x128 k))

def trY (x y : IVec S8x128 32) (k m : BitVec 32) : IVec S8x128 32 :=
  xori y (tr x y k m)

/-- The four words a chunk stores: the bytes of four blocks, exchanged. -/
def words (a b c d : IVec S8x128 32) : Fin 4 → IVec S8x128 32 :=
  ![trX (trX a c 16#32 65535#32) (trX b d 16#32 65535#32) 8#32 16711935#32,
    trY (trX a c 16#32 65535#32) (trX b d 16#32 65535#32) 8#32 16711935#32,
    trX (trY a c 16#32 65535#32) (trY b d 16#32 65535#32) 8#32 16711935#32,
    trY (trY a c 16#32 65535#32) (trY b d 16#32 65535#32) 8#32 16711935#32]

def asWord (x : IVec S32x128 8) : IVec S8x128 32 := bitcast S8x128 32 x bitcasts_S32x128_w8_S8x128_w32

/-- One block of a chunk. -/
def ldS (g : Fin 4) (ci : Fin 14) (c : Fin 4) : Prog (TpuEff nD τ sig (Elt F) Λ₀ .tc) (IVec S32x128 8) := do
  let x : Vec F S1x32x128 .i8 ← Prog.lift (.load arg17 (Rect.unit (s := S2x256x7168)
    (offS k0_t1 k0_t2 (BitVec.ofNat 32 (32 * g.val)) (128 * (ci.val * 4 + c.val))) S1x32x128.size
    (offS_inb i k0_h1 k0_t1 k0_t2 g ci c)).toLoadRect (View.loadsAt_vmem h_S1x32x128))
  pure (shapeCast S32x128 x shapeCasts_S1x32x128_S32x128)

/-- The rows of the table a chunk's store `b` writes. -/
def rTab (g : Fin 4) (ci : Fin 14) (b : Fin 4) : LoadRect S30728x128 :=
  ⟨k0_off11 k0_t1 k0_t2 (BitVec.ofNat 32 (32 * g.val)) (BitVec.ofNat 32 b.val) (BitVec.ofNat 32 ci.val), S8x128.size, ![60, 1],
    k0_off11_inb i k0_t1 k0_t2 k0_h1 g b ci⟩

def stT (g : Fin 4) (ci : Fin 14) (b : Fin 4) (w : IVec S8x128 32) : Prog (TpuEff nD τ sig (Elt F) Λ₀ .tc) Unit := do
  let _ : Vec F S8x128 .i32 ← Prog.lift (.load arg11 (rTab i k0_h1 k0_t1 k0_t2 g ci b) (View.loadsAt_vmem h_S8x128))
  Prog.lift (.store arg11 ⟨rTab i k0_h1 k0_t1 k0_t2 g ci b, spos_60_1⟩ (shapeCast S8x128 w shapeCasts_S8x128_S8x128)
    Finset.univ (View.stores_vmem_bits_univ h_S8x128 rfl) (.inl rfl))

def chunk (g : Fin 4) (ci : Fin 14) (am : FVec F S32x128 .bf16) : Prog (TpuEff nD τ sig (Elt F) Λ₀ .tc) (FVec F S32x128 .bf16) := do
  let x0 ← ldS i arg17 k0_h1 k0_t1 k0_t2 g ci 0
  let x1 ← ldS i arg17 k0_h1 k0_t1 k0_t2 g ci 1
  let x2 ← ldS i arg17 k0_h1 k0_t1 k0_t2 g ci 2
  let x3 ← ldS i arg17 k0_h1 k0_t1 k0_t2 g ci 3
  stT i arg11 k0_h1 k0_t1 k0_t2 g ci 0 (words (asWord x0) (asWord x1) (asWord x2) (asWord x3) 0)
  stT i arg11 k0_h1 k0_t1 k0_t2 g ci 1 (words (asWord x0) (asWord x1) (asWord x2) (asWord x3) 1)
  stT i arg11 k0_h1 k0_t1 k0_t2 g ci 2 (words (asWord x0) (asWord x1) (asWord x2) (asWord x3) 2)
  stT i arg11 k0_h1 k0_t1 k0_t2 g ci 3 (words (asWord x0) (asWord x1) (asWord x2) (asWord x3) 3)
  pure (maximumf (maximumf (maximumf (maximumf am (mags x0)) (mags x1)) (mags x2)) (mags x3))

theorem arow_inb (g : Fin 4) : ∀ a, (![32 * g.val, 0] : Fin 2 → Nat) a + S32x128.size a ≤ S256x128.size a := by
  intro a
  match a with
  | 0 => have := g.2; show 32 * g.val + 32 ≤ 256; omega
  | 1 => show 0 + 128 ≤ 128; omega

/-- The row maxima of a group, each in all its lanes. -/
def rowMax (am : FVec F S32x128 .bf16) : FVec F S32x128 .f32 :=
  broadcastTo S32x128 (shapeCast S32x1 (shapeCast S32x1
    (multiReduction .maximumf [1] S32 (extf .f32 am bitsLt_bf16_f32) 0xFF800000#32 reduces_S32x128_S32 (.inl rfl) rfl)
    shapeCasts_S32_S32x1) shapeCasts_S32x1_S32x1) broadcasts_S32x1_S32x128

def group (g : Fin 4) : Prog (TpuEff nD τ sig (Elt F) Λ₀ .tc) Unit := do
  let am ← upTo 14 (chunk i arg11 arg17 k0_h1 k0_t1 k0_t2 g) (broadcast S32x128 (Scalar.ofBits .bf16 0x0000#16))
  let _ : Vec F S32x128 .f32 ← Prog.lift (.load arg15 (Rect.unit (s := S256x128) ![32 * g.val, 0] S32x128.size (arow_inb g)).toLoadRect (View.loadsAt_vmem h_S32x128))
  Prog.lift (.store arg15 (Rect.unit (s := S256x128) ![32 * g.val, 0] S32x128.size (arow_inb g)) (shapeCast S32x128 (rowMax am) shapeCasts_S32x128_S32x128) Finset.univ (View.stores_vmem_bits_univ h_S32x128 rfl) (.inl rfl))

/-- The largest magnitude of each assignment of 128 tokens. -/
def amaxes (a : FVec F S128x128 .f32) (s : FVec F S1x128 .f32) (g : FVec F S8x128 .f32) : FVec F S8x128 .f32 :=
  absf (mulf (shapeCast S8x128 g shapeCasts_S8x128_S8x128) (broadcastTo S8x128 (mulf (extractStridedSlice S1x128 ![0, 0]
    (transpose S128x128 [1, 0] a transposes_S128x128_p1_0_S128x128) slices_S128x128_o0_0_S1x128)
    (shapeCast S1x128 s shapeCasts_S1x128_S1x128)) broadcasts_S1x128_S8x128))
def pow2 : FVec F S256x8x128 .f32 :=
  bitcastToFloat .f32 (shli (iota .tc S256x8x128 32 [0] iota_S256x8x128_d0_w32) (broadcast S256x8x128 23#32))

/-- The scale of each assignment: the smallest power of two above the bound, or one. -/
def scales (a : FVec F S8x128 .f32) : FVec F S8x128 .f32 :=
  select (cmpf .oeq a (broadcast S8x128 (Scalar.ofBits .f32 0x00000000#32)))
    (broadcast S8x128 (Scalar.ofBits .f32 0x3F800000#32))
    (multiReduction .minimumf [0] S8x128
      (select (cmpf .ogt pow2 (broadcastTo S256x8x128 (shapeCast S1x8x128
          (mulf a (broadcast S8x128 (Scalar.ofBits .f32 0x37924925#32))) shapeCasts_S8x128_S1x8x128) broadcasts_S1x8x128_S256x8x128))
        pow2 (broadcast S256x8x128 (Scalar.ofBits .f32 0x7F800000#32)))
      0x7F800000#32 reduces_S256x8x128_S8x128 (.inl rfl) rfl)

def invs (a : FVec F S8x128 .f32) : FVec F S8x128 .f32 :=
  divf (broadcast S8x128 (Scalar.ofBits .f32 0x3F800000#32)) (scales a)

/-- The factors of 128 tokens, one token a row. -/
def metaRows (ar : FVec F S128x128 .f32) (s : FVec F S1x128 .f32) (g : FVec F S8x128 .f32) : FVec F S128x128 .f32 :=
  transpose S128x128 [1, 0] (concatenate S128x128 0
    [⟨S8x128, mulf (shapeCast S8x128 g shapeCasts_S8x128_S8x128)
        (mulf (broadcastTo S8x128 (shapeCast S1x128 s shapeCasts_S1x128_S1x128) broadcasts_S1x128_S8x128) (invs (amaxes ar s g)))⟩,
     ⟨S8x128, scales (amaxes ar s g)⟩, ⟨S8x128, shapeCast S8x128 g shapeCasts_S8x128_S8x128⟩, ⟨S8x128, invs (amaxes ar s g)⟩,
     ⟨S8x128, broadcastTo S8x128 (shapeCast S1x128 (shapeCast S1x128 s shapeCasts_S1x128_S1x128) shapeCasts_S1x128_S1x128) broadcasts_S1x128_S8x128⟩,
     ⟨S88x128, broadcast S88x128 (Scalar.ofBits .f32 0x00000000#32)⟩]
    concatenates_S8x128_S8x128_S8x128_S8x128_S8x128_S88x128_S128x128_d0) transposes_S128x128_p1_0_S128x128

theorem slices_meta (q : Fin 16) : S128x128.Slices ![8 * q.val, 0] S8x128 := by
  revert q; decide

def stM (x : FVec F S128x128 .f32) (q : Fin 16) (_ : Unit) : Prog (TpuEff nD τ sig (Elt F) Λ₀ .tc) Unit := do
  let _ : Vec F S8x128 .f32 ← Prog.lift (.load arg12 (Rect.unit (s := S2048x128) (k0_off66 k0_t1 k0_t2 (BitVec.ofNat 32 (8 * q.val))) S8x128.size (k0_off66_inb i k0_t1 k0_t2 k0_h1 q)).toLoadRect (View.loadsAt_vmem h_S8x128))
  Prog.lift (.store arg12 (Rect.unit (s := S2048x128) (k0_off66 k0_t1 k0_t2 (BitVec.ofNat 32 (8 * q.val))) S8x128.size (k0_off66_inb i k0_t1 k0_t2 k0_h1 q)) (shapeCast S8x128 (extractStridedSlice S8x128 ![8 * q.val, 0] x (slices_meta q)) shapeCasts_S8x128_S8x128) Finset.univ (View.stores_vmem_bits_univ h_S8x128 rfl) (.inl rfl))

def fill : Prog (TpuEff nD τ sig (Elt F) Λ₀ .tc) Unit := do
  group i arg11 arg15 arg17 k0_h1 k0_t1 k0_t2 0
  group i arg11 arg15 arg17 k0_h1 k0_t1 k0_t2 1
  group i arg11 arg15 arg17 k0_h1 k0_t1 k0_t2 2
  group i arg11 arg15 arg17 k0_h1 k0_t1 k0_t2 3
  let ar : Vec F S128x128 .f32 ← Prog.lift (.load arg15 (Rect.unit (s := S256x128) ![0, 0] S128x128.size inb_S256x128_S128x128_0_0).toLoadRect (View.loadsAt_vmem h_S128x128))
  let s : Vec F S1x128 .f32 ← Prog.lift (.load arg3 (Rect.unit (s := S1x2048) (k0_off64 k0_t1 k0_t2) S1x128.size (k0_off64_inb i k0_t1 k0_t2 k0_h1)).toLoadRect (View.loadsAt_vmem h_S1x128))
  let g : Vec F S8x128 .f32 ← Prog.lift (.load arg6 (Rect.unit (s := S8x2048) (k0_off65 k0_t1 k0_t2) S8x128.size (k0_off65_inb i k0_t1 k0_t2 k0_h1)).toLoadRect (View.loadsAt_vmem h_S8x128))
  upTo 16 (stM i arg12 k0_h1 k0_t1 k0_t2 (metaRows ar s g)) ()
end

set_option maxRecDepth 1000000 in
theorem k0_t2_body_eq (i : grid0.Coords) (arg1 : Memref sig .tc .smem S16384 .i32) (harg1 : arg1.IsWhole) (arg2 : Memref sig .tc .vmem S1x256 .i32) (harg2 : arg2.IsWhole) (arg3 : Memref sig .tc .vmem S1x2048 .f32) (harg3 : arg3.IsWhole) (arg4 : Memref sig .tc .vmem S256x7168 .fp8e4m3) (harg4 : arg4.IsWhole) (arg5 : Memref sig .tc .vmem S56x256 .f32) (harg5 : arg5.IsWhole) (arg6 : Memref sig .tc .vmem S8x2048 .f32) (harg6 : arg6.IsWhole) (arg7 : Memref sig .tc .hbm S2048x7168 .i8) (harg7 : arg7.IsWhole) (arg8 : Memref sig .tc .vmem S256x7168 .fp8e5m2) (harg8 : arg8.IsWhole) (arg9 : Memref sig .tc .vmem S1x256 .f32) (harg9 : arg9.IsWhole) (arg10 : Memref sig .tc .vmem S8x2048 .f32) (harg10 : arg10.IsWhole) (arg11 : Memref sig .tc .vmem S30728x128 .i32) (harg11 : arg11.IsWhole) (arg12 : Memref sig .tc .vmem S2048x128 .f32) (harg12 : arg12.IsWhole) (arg13 : Memref sig .tc .vmem S4352x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S128x128 .f32) (harg16 : arg16.IsWhole) (arg17 : Memref sig .tc .vmem S2x256x7168 .i8) (harg17 : arg17.IsWhole) (arg18 : DmaSems sig S2) (k0_h1 : k0_cond1 i = 1#1) (k0_t1 : Fin k0_t1_loop.trips) (k0_t2 : Fin k0_t2_loop.trips) :
    (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 k0_t1 (Scalar.addi 0#32 (Scalar.muli (Scf.iv 0#32 1#32 k0_t1) 1#32)) (Scalar.remsi (Scalar.addi 0#32 (Scalar.muli (Scf.iv 0#32 1#32 k0_t1) 1#32)) 2#32) k0_t2 () : Prog (TpuEff nD τ sig (Elt F) Λ₀ .tc) Unit) =
      fill i arg3 arg6 arg11 arg12 arg15 arg17 k0_h1 k0_t1 k0_t2 := by
  chain_rfl
end Cert.KernelIdeal.Own
end
end
-- ==== Proof.Logic.lean ====
module

public import proofs.«01_k».proof.Proof.Fill
public import Idealize.ShloMosaic.Lib.Pipeline.Frame
public import Idealize.ShloMosaic.Lib.Tactic
public import Idealize.ShloMosaic.Lib.Transfers

@[expose] public section

/-! Triples over the contents the kernel's buffers are read at: each buffer is owned on a set of its elements,
and a step changes the contents of one buffer. -/

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The buffers the body reads and writes. -/
inductive Slot
  | ord | ordv | s | e | es | g | de | sc | dg | tab | mtab | gbuf | mbuf | arow | dgs | stage
  deriving DecidableEq

namespace Slot

def all : List Slot := [ord, ordv, s, e, es, g, de, sc, dg, tab, mtab, gbuf, mbuf, arow, dgs, stage]

instance : Fintype Slot := ⟨all.toFinset, fun j => by cases j <;> decide⟩

@[reducible] def sp : Slot → CoreSpace
  | ord => .smem
  | _ => .vmem

@[reducible] def sh : Slot → Shape
  | ord => S16384 | ordv => S1x256 | s => S1x2048 | e => S256x7168 | es => S56x256 | g => S8x2048
  | de => S256x7168 | sc => S1x256 | dg => S8x2048 | tab => S30728x128 | mtab => S2048x128 | gbuf => S4352x128
  | mbuf => S256x128 | arow => S256x128 | dgs => S128x128 | stage => S2x256x7168

@[reducible] def el : Slot → EltTy
  | ord => .i32 | ordv => .i32 | s => .f32 | e => .fp8e4m3 | es => .f32 | g => .f32
  | de => .fp8e5m2 | sc => .f32 | dg => .f32 | tab => .i32 | mtab => .f32 | gbuf => .i32
  | mbuf => .f32 | arow => .f32 | dgs => .f32 | stage => .i8

end Slot

/-- Core `c` owns the memref's elements under `D` at share `q`, and reads `X` there. -/
def ownsOn (c : Dev nD) {sp : Space} {sh : Shape} {e : EltTy} (m : Memref sig .tc sp sh e) (D : Finset sh.Idx)
    (q : PosShare TreeShare) (X : sh.Idx → Elt F e) : sProp 𝕄 :=
  iprop(∃ f, ⌜∀ y ∈ D, m.view.read (Elt F) f y = X y⌝ ∗ (m.view.loc (c : Thread nD τ) ↦[m.view.setOn D]{q} f))

variable (F) in
/-- What each buffer is read at. -/
abbrev St : Type := (j : Slot) → j.sh.Idx → Elt F j.el

variable (F) in
/-- The buffers of a call: the memrefs, the elements owned, the shares. -/
structure Env where
  c : Dev nD
  V : (j : Slot) → Memref sig .tc j.sp j.sh j.el
  D : (j : Slot) → Finset j.sh.Idx
  q : Slot → PosShare TreeShare
  𝒱 : Variants

variable (E : Env)

def own (σ : St F) : sProp 𝕄 := bigSep Finset.univ fun j => ownsOn E.c (E.V j) (E.D j) (E.q j) (σ j)

theorem Prog.lift_eq {E : Type → Type} {α : Type} (e : E α) : (Prog.lift e : Prog E α) = .op e .ret := rfl

theorem own_focus (σ : St F) (j : Slot) :
    own E σ ⊢ iprop(ownsOn E.c (E.V j) (E.D j) (E.q j) (σ j)
      ∗ (∀ X, ownsOn E.c (E.V j) (E.D j) (E.q j) X -∗ own E (Function.update σ j X))) := by
  have h : ∀ X, own E (Function.update σ j X) = iprop(ownsOn E.c (E.V j) (E.D j) (E.q j) X
      ∗ bigSep (Finset.univ.erase j) fun k => ownsOn E.c (E.V k) (E.D k) (E.q k) (σ k)) := by
    intro X
    unfold own
    rw [bigSep_univ_split j, Function.update_self,
      bigSep_congr (s := Finset.univ.erase j) (Ψ := fun k => ownsOn E.c (E.V k) (E.D k) (E.q k) (σ k))
        fun k hk => by rw [Function.update_of_ne (Finset.ne_of_mem_erase hk)]]
    rfl
  simp only [h]
  have h0 := h (σ j)
  rw [Function.update_eq_self] at h0
  rw [h0]
  iintro ⟨H, HR⟩
  isplitl [H]; · iexact H
  iintro %X H
  isplitl [H] <;> iassumption

/-- From the buffers at `σ` the program runs, and returns a value and the buffers as `Q` says. -/
def Tri {α : Type} (σ : St F) (p : Prog (TpuEff nD τ sig (Elt F) Λ₀ .tc) α) (Q : α → St F → Prop) : Prop :=
  ∀ K : α → sProp 𝕄, own E σ ⊢ iprop((∀ a σ', ⌜Q a σ'⌝ -∗ own E σ' -∗ K a)
    -∗ wp frame (wpE (defs₀ (F := F)) E.𝒱 (E.c : Thread nD τ) none) Set.univ p K)

variable {E}
variable {α β : Type} {σ : St F}

theorem Tri.pure {a : α} {Q : α → St F → Prop} (h : Q a σ) : Tri E σ (Pure.pure a) Q := by
  intro K
  show _ ⊢ iprop(_ -∗ wp _ _ _ (.ret a) _)
  rw [wp_ret]
  iintro H HK
  imodintro
  iapply HK
  · ipureintro; exact h
  · iexact H

theorem Tri.bind {p : Prog (TpuEff nD τ sig (Elt F) Λ₀ .tc) α} {k : α → Prog (TpuEff nD τ sig (Elt F) Λ₀ .tc) β}
    {Q : α → St F → Prop} {R : β → St F → Prop} (hp : Tri E σ p Q) (hk : ∀ a σ', Q a σ' → Tri E σ' (k a) R) :
    Tri E σ (p >>= k) R := by
  intro K
  rw [wp_bind]
  iintro H HK
  iapply hp _ $$ H
  iintro %a %σ' %h H
  iapply hk a σ' h K $$ H
  iexact HK

theorem Tri.mono {p : Prog (TpuEff nD τ sig (Elt F) Λ₀ .tc) α} {Q R : α → St F → Prop} (hp : Tri E σ p Q)
    (h : ∀ a σ', Q a σ' → R a σ') : Tri E σ p R := by
  intro K
  iintro H HK
  iapply hp _ $$ H
  iintro %a %σ' %hq H
  iapply HK
  · ipureintro; exact h a σ' hq
  · iexact H

/-- Contents written on a rectangle. -/
def put {s : Shape} {V : Type} (r : Rect s) (w : r.shape.Idx → V) (X : s.Idx → V) : s.Idx → V :=
  open Classical in fun z => if h : ∃ y, r.idx y = z then w h.choose else X z

theorem put_idx {s : Shape} {V : Type} (r : Rect s) (w : r.shape.Idx → V) (X : s.Idx → V) (y : r.shape.Idx) :
    put r w X (r.idx y) = w y := by
  have h : ∃ y', r.idx y' = r.idx y := ⟨y, rfl⟩
  unfold put
  rw [dif_pos h]
  exact congrArg w (r.emb.injective h.choose_spec)

theorem put_not {s : Shape} {V : Type} (r : Rect s) (w : r.shape.Idx → V) (X : s.Idx → V) (z : s.Idx) (h : ∀ y, r.idx y ≠ z) :
    put r w X z = X z := by
  unfold put
  rw [dif_neg (by rintro ⟨y, hy⟩; exact h y hy)]

theorem Tri.load (j : Slot) (r : LoadRect j.sh) (hl : (E.V j).view.LoadsAt r) (hD : r.set ⊆ E.D j) :
    Tri E σ (Prog.lift (.load (E.V j) r hl)) (fun a σ' => a = (fun y => σ j (r.idx y)) ∧ σ' = σ) := by
  intro K
  rw [Prog.lift_eq]
  refine (own_focus E σ j).trans ?_
  have hS : (E.V j).view.setOn r.set ⊆ (E.V j).view.setOn (E.D j) := Finset.map_subset_map.mpr hD
  unfold ownsOn
  iintro ⟨⟨%f, %hf, H⟩, HR⟩ HK
  iapply wp_load (r := r) (hl := hl) (k := .ret) E.𝒱 (E.c : Thread nD τ) none Set.univ hS $$ H
  iintro H
  rw [wp_ret]
  imodintro
  iapply HK
  · ipureintro
    exact ⟨funext fun y => hf _ (hD (r.idx_mem y)), rfl⟩
  · rw [show own E σ = own E (Function.update σ j (σ j)) by rw [Function.update_eq_self]]
    iapply HR
    iexists f
    isplitr; · ipureintro; exact hf
    iexact H

theorem setOn_access {sp : Space} {sh : Shape} {e : EltTy} (m : Memref sig .tc sp sh e) (r : Rect sh) (Mk : Finset r.shape.Idx)
    (D : Finset sh.Idx) (hD : r.toLoadRect.set ⊆ D) : (m.access r).setOn Mk ⊆ m.view.setOn D := by
  intro i hi
  obtain ⟨y, -, rfl⟩ := Finset.mem_map.mp hi
  exact Finset.mem_map.mpr ⟨r.idx y, hD (r.toLoadRect.idx_mem y), rfl⟩

theorem Tri.store_aux (j : Slot) (r : Rect j.sh) (w : r.shape.Idx → Elt F j.el) (Mk : Finset r.shape.Idx) (hx : ((E.V j).access r).Stores Mk)
    (hm : Mk = Finset.univ ∨ ∀ a, r.stride a = 1) (hD : r.set ⊆ E.D j) (hq : E.q j = fullShare)
    (T : (j.sh.Idx → Elt F j.el) → (j.sh.Idx → Elt F j.el) → Prop)
    (hT : ∀ f (X : j.sh.Idx → Elt F j.el), (∀ y ∈ E.D j, (E.V j).view.read (Elt F) f y = X y) → ∃ X', T X X' ∧
      ∀ y ∈ E.D j, (E.V j).view.read (Elt F) (((E.V j).access r).write (Elt F) f w Mk) y = X' y) :
    Tri E σ (Prog.lift (.store (E.V j) r w Mk hx hm)) (fun _ σ' => ∃ X', T (σ j) X' ∧ σ' = Function.update σ j X') := by
  intro K
  rw [Prog.lift_eq]
  refine (own_focus E σ j).trans ?_
  have hS : ((E.V j).access r).setOn Mk ⊆ (E.V j).view.setOn (E.D j) := setOn_access _ r Mk _ hD
  unfold ownsOn
  rw [hq]
  iintro ⟨⟨%f, %hf, H⟩, HR⟩ HK
  obtain ⟨X', hX', hr⟩ := hT f (σ j) hf
  iapply wp_store (r := r) (hx := hx) (hm := hm) (k := .ret) E.𝒱 (E.c : Thread nD τ) none Set.univ hS $$ H
  iintro H
  rw [wp_ret]
  imodintro
  iapply HK
  · ipureintro
    exact ⟨X', hX', rfl⟩
  · iapply HR
    iexists _
    isplitr
    swap
    · iexact H
    ipureintro; exact hr

theorem Tri.store (j : Slot) (r : Rect j.sh) (w : r.shape.Idx → Elt F j.el) (hx : ((E.V j).access r).Stores Finset.univ)
    (hm : (Finset.univ : Finset r.shape.Idx) = Finset.univ ∨ ∀ a, r.stride a = 1) (hD : r.set ⊆ E.D j) (hq : E.q j = fullShare) :
    Tri E σ (Prog.lift (.store (E.V j) r w Finset.univ hx hm)) (fun _ σ' => σ' = Function.update σ j (put r w (σ j))) := by
  refine (Tri.store_aux j r w Finset.univ hx hm hD hq (fun X X' => X' = put r w X) ?_).mono (by rintro _ _ ⟨_, rfl, rfl⟩; rfl)
  intro f X hf
  refine ⟨_, rfl, fun y hy => ?_⟩
  by_cases h : ∃ z, r.idx z = y
  · obtain ⟨z, rfl⟩ := h
    rw [put_idx]
    exact View.read_write_of_mem (v := (E.V j).access r) f w (Finset.mem_univ z)
  · rw [put_not _ _ _ _ (by rintro z hz; exact h ⟨z, hz⟩), ← hf y hy]
    unfold View.read
    congr 1
    refine View.write_of_not_mem (v := (E.V j).access r) f w _ ?_
    intro hi
    obtain ⟨z, -, hz⟩ := Finset.mem_map.mp hi
    exact h ⟨z, (E.V j).view.emb.injective hz⟩

theorem Tri.storeSome (j : Slot) (r : Rect j.sh) (w : r.shape.Idx → Elt F j.el) (Mk : Finset r.shape.Idx) (hx : ((E.V j).access r).Stores Mk)
    (hm : Mk = Finset.univ ∨ ∀ a, r.stride a = 1) (hD : r.set ⊆ E.D j) (hq : E.q j = fullShare) :
    Tri E σ (Prog.lift (.store (E.V j) r w Mk hx hm)) (fun _ σ' => ∃ X, σ' = Function.update σ j X) :=
  (Tri.store_aux j r w Mk hx hm hD hq (fun _ _ => True) fun f X hf => ⟨_, trivial, fun y hy => rfl⟩).mono
    (by rintro _ _ ⟨X, -, rfl⟩; exact ⟨X, rfl⟩)

theorem Tri.assume {P : Prop} {d : Decidable P} (h : P) :
    Tri E σ (Prog.lift (.assume P d)) (fun _ σ' => σ' = σ) := by
  intro K
  rw [Prog.lift_eq]
  iintro H HK
  iapply wp_assume (d := d) (k := .ret) E.𝒱 (E.c : Thread nD τ) none Set.univ h
  rw [wp_ret]
  imodintro
  iapply HK
  · ipureintro; rfl
  · iexact H

theorem Tri.loop (l : Scf.Loop 32) (hok : l.OK) (init : α) (body : Fin l.trips → α → Prog (TpuEff nD τ sig (Elt F) Λ₀ .tc) α)
    (I : Nat → α → St F → Prop) (h : ∀ (k : Fin l.trips) a σ, I k a σ → Tri E σ (body k a) (I (k + 1))) (h0 : I 0 init σ) :
    Tri E σ (Scf.Loop.for l hok init body) (I l.trips) := by
  intro K
  iintro H HK
  unfold Scf.Loop.for
  iapply Scf.wp_for frame (wpE (defs₀ (F := F)) E.𝒱 (E.c : Thread nD τ) none) Set.univ l.lb l.ub l.st hok init body
    (fun k a => iprop(∃ σ', ⌜I k a σ'⌝ ∗ own E σ')) (by
      intro k a
      iintro ⟨%σ', %hI, H⟩
      iapply h k a σ' hI _ $$ H
      iintro %b %σ'' %hb H
      iexists σ''
      isplitr; · ipureintro; exact hb
      iexact H)
  isplitl [H]
  · iexists σ
    isplitr; · ipureintro; exact h0
    iexact H
  iintro %a ⟨%σ', %hI, H⟩
  iapply HK
  · ipureintro; exact hI
  · iexact H

theorem Tri.word (m : Memref sig .tc .smem S16384 .i32) (hm : m = E.V .ord) (r : Rect S16384) (h1 : r.shape.numel = 1) (hp : EltTy.packing .i32 = 1)
    (hD : r.set ⊆ E.D .ord) :
    Tri E σ (smemLoad m r h1 hp) (fun a σ' => a = σ .ord (r.idx (Shape.Idx.first (h1.symm ▸ Nat.one_pos))) ∧ σ' = σ) := by
  subst hm
  show Tri E σ (Prog.lift (.load (E.V .ord) r.toLoadRect _) >>= fun f => Pure.pure (f (Shape.Idx.first (h1.symm ▸ Nat.one_pos)))) _
  refine Tri.bind (Tri.load .ord r.toLoadRect _ hD) ?_
  rintro _ _ ⟨rfl, rfl⟩
  exact Tri.pure ⟨rfl, rfl⟩

theorem Tri.upTo {n : Nat} (f : Fin n → α → Prog (TpuEff nD τ sig (Elt F) Λ₀ .tc) α) (I : Nat → α → St F → Prop)
    (h : ∀ (k : Fin n) a σ, I k a σ → Tri E σ (f k a) (I (k + 1))) (a : α) (h0 : I 0 a σ) :
    Tri E σ (upTo n f a) (I n) := by
  induction n generalizing I a σ with
  | zero => exact Tri.pure h0
  | succ n ih =>
    refine Tri.bind (h 0 a σ h0) fun b σ' hb => ?_
    exact ih (fun k => f k.succ) (fun k => I (k + 1)) (fun k a σ hk => h k.succ a σ hk) b hb

end Cert.KernelIdeal.Own
end
end
-- ==== Proof.Sweep.lean ====
module

public import proofs.«01_k».proof.Proof.Fill

@[expose] public section

set_option synthInstance.maxSize 4096

/-! The rest of the body: the rows gathered, the scales picked, the sweep over the columns, the dot products
scattered, and the whole body put together from them. -/

noncomputable section

namespace Cert.KernelIdeal.Own

open Idealize.ShloMosaic Idealize.SL.Sem Cert.KernelIdeal.Gen

variable {F : FTy → Type} [FloatOps F]

section
variable (i : grid0.Coords) (arg1 : Memref sig .tc .smem S16384 .i32) (arg2 : Memref sig .tc .vmem S1x256 .i32)
  (arg4 : Memref sig .tc .vmem S256x7168 .fp8e4m3) (arg5 : Memref sig .tc .vmem S56x256 .f32)
  (arg8 : Memref sig .tc .vmem S256x7168 .fp8e5m2) (harg8 : arg8.IsWhole)
  (arg9 : Memref sig .tc .vmem S1x256 .f32) (arg10 : Memref sig .tc .vmem S8x2048 .f32)
  (arg11 : Memref sig .tc .vmem S30728x128 .i32) (arg12 : Memref sig .tc .vmem S2048x128 .f32) (arg13 : Memref sig .tc .vmem S4352x128 .i32)
  (arg14 : Memref sig .tc .vmem S256x128 .f32) (arg15 : Memref sig .tc .vmem S256x128 .f32) (arg16 : Memref sig .tc .vmem S128x128 .f32)

/-! ## The gather of four rows -/

section
variable (t3 : Fin k0_t3_loop.trips)

def gWord (c : Fin 4) : Prog (TpuEff nD τ sig (Elt F) Λ₀ .tc) (Elt F .i32) :=
  smemLoad arg1 (Rect.unit (s := S16384) (k0_off67 i t3 (BitVec.ofNat 32 c.val)) S1.size (k0_off67_inb i t3 c)) numel1_S1 rfl

def gLoad (off : Fin 2 → Nat) (h : ∀ a, off a + S8x128.size a ≤ S30728x128.size a) : Prog (TpuEff nD τ sig (Elt F) Λ₀ .tc) (Vec F S8x128 .i32) :=
  Prog.lift (.load arg11 (Rect.unit (s := S30728x128) off S8x128.size h).toLoadRect (View.loadsAt_vmem h_S8x128))

/-- The rows of the gathered table the store `r` writes. -/
def rGb (r : Fin 8) : LoadRect S4352x128 :=
  ⟨k0_off72 t3 (BitVec.ofNat 32 (544 * r.val)), S8x128.size, ![68, 1], k0_off72_inb t3 r⟩

def gStore (r : Fin 8) (w : IVec S8x128 32) : Prog (TpuEff nD τ sig (Elt F) Λ₀ .tc) Unit := do
  let _ : Vec F S8x128 .i32 ← Prog.lift (.load arg13 (rGb t3 r) (View.loadsAt_vmem h_S8x128))
  Prog.lift (.store arg13 ⟨rGb t3 r, spos_68_1⟩ (shapeCast S8x128 w shapeCasts_S8x128_S8x128)
    Finset.univ (View.stores_vmem_bits_univ h_S8x128 rfl) (.inl rfl))

def gMeta (off : Fin 2 → Nat) (h : ∀ a, off a + S1x128.size a ≤ S2048x128.size a) (c : Fin 4) : Prog (TpuEff nD τ sig (Elt F) Λ₀ .tc) Unit := do
  let x : Vec F S1x128 .f32 ← Prog.lift (.load arg12 (Rect.unit (s := S2048x128) off S1x128.size h).toLoadRect (View.loadsAt_vmem h_S1x128))
  let _ : Vec F S1x128 .f32 ← Prog.lift (.load arg14 (Rect.unit (s := S256x128) (k0_off77 t3 (BitVec.ofNat 32 c.val)) S1x128.size (k0_off77_inb t3 c)).toLoadRect (View.loadsAt_vmem h_S1x128))
  Prog.lift (.store arg14 (Rect.unit (s := S256x128) (k0_off77 t3 (BitVec.ofNat 32 c.val)) S1x128.size (k0_off77_inb t3 c)) (shapeCast S1x128 x shapeCasts_S1x128_S1x128) Finset.univ (View.stores_vmem_bits_univ h_S1x128 rfl) (.inl rfl))

/-- Eight blocks' words of four rows, exchanged and stored. -/
def gHalf (h : Fin 2) (a b c d : IVec S8x128 32) : Prog (TpuEff nD τ sig (Elt F) Λ₀ .tc) Unit := do
  gStore arg13 t3 ⟨h.val, by omega⟩ (words a b c d 0)
  gStore arg13 t3 ⟨2 + h.val, by omega⟩ (words a b c d 1)
  gStore arg13 t3 ⟨4 + h.val, by omega⟩ (words a b c d 2)
  gStore arg13 t3 ⟨6 + h.val, by omega⟩ (words a b c d 3)

def gather : Prog (TpuEff nD τ sig (Elt F) Λ₀ .tc) PUnit := do
  let v0 : Elt F .i32 ← gWord i arg1 t3 0
  let h0 ← Prog.lift (TpuEff.assume (k0_chk1 v0) (k0_chk1.dec v0))
  let v1 : Elt F .i32 ← gWord i arg1 t3 1
  let h1 ← Prog.lift (TpuEff.assume (k0_chk2 v1) (k0_chk2.dec v1))
  let v2 : Elt F .i32 ← gWord i arg1 t3 2
  let h2 ← Prog.lift (TpuEff.assume (k0_chk3 v2) (k0_chk3.dec v2))
  let v3 : Elt F .i32 ← gWord i arg1 t3 3
  let h3 ← Prog.lift (TpuEff.assume (k0_chk4 v3) (k0_chk4.dec v3))
  let a : Vec F S8x128 .i32 ← gLoad arg11 (k0_off68 v0) (k0_off68_inb v0 h0.down)
  let b : Vec F S8x128 .i32 ← gLoad arg11 (k0_off69 v1) (k0_off69_inb v1 h1.down)
  let c : Vec F S8x128 .i32 ← gLoad arg11 (k0_off70 v2) (k0_off70_inb v2 h2.down)
  let d : Vec F S8x128 .i32 ← gLoad arg11 (k0_off71 v3 0#32) (k0_off71_inb v3 h3.down 0)
  gHalf arg13 t3 0 a b c d
  let a : Vec F S8x128 .i32 ← gLoad arg11 (k0_off73 v0) (k0_off73_inb v0 h0.down)
  let b : Vec F S8x128 .i32 ← gLoad arg11 (k0_off74 v1) (k0_off74_inb v1 h1.down)
  let c : Vec F S8x128 .i32 ← gLoad arg11 (k0_off75 v2) (k0_off75_inb v2 h2.down)
  let d : Vec F S8x128 .i32 ← gLoad arg11 (k0_off71 v3 8#32) (k0_off71_inb v3 h3.down 1)
  gHalf arg13 t3 1 a b c d
  gMeta arg12 arg14 t3 (k0_off76 v0) (k0_off76_inb v0 h0.down) 0
  gMeta arg12 arg14 t3 (k0_off78 v1) (k0_off78_inb v1 h1.down) 1
  gMeta arg12 arg14 t3 (k0_off79 v2) (k0_off79_inb v2 h2.down) 2
  gMeta arg12 arg14 t3 (k0_off80 v3) (k0_off80_inb v3 h3.down) 3
end

/-! ## The factors picked -/

theorem half_inb (h : Fin 2) : ∀ a, (![128 * h.val, 0] : Fin 2 → Nat) a + S128x128.size a ≤ S256x128.size a := by revert h; decide
theorem lane_inb (h : Fin 2) : ∀ a, (![0, 128 * h.val] : Fin 2 → Nat) a + S1x128.size a ≤ S1x256.size a := by revert h; decide
theorem es_inb (h : Fin 2) : ∀ a, (![0, 128 * h.val] : Fin 2 → Nat) a + S56x128.size a ≤ S56x256.size a := by revert h; decide

/-- Of eight rows, the one an assignment's low bits name. -/
def pick (p : IVec S1x128 32) (x : FVec F S8x128 .f32) : FVec F S1x128 .f32 :=
  shapeCast S1x128 (multiReduction .add [0] S128
    (select (cmpi .eq (iota .tc S8x128 32 [0] iota_S8x128_d0_w32)
      (broadcastTo S8x128 (andi (shapeCast S1x128 p shapeCasts_S1x128_S1x128) (broadcast S1x128 7#32)) broadcasts_S1x128_S8x128))
      x (broadcast S8x128 (Scalar.ofBits .f32 0x00000000#32)))
    0x00000000#32 reduces_S8x128_S128 (.inl rfl) rfl) shapeCasts_S128_S1x128

/-- A row of lanes as a column, in every lane. -/
def column (x : FVec F S1x128 .f32) : FVec F S128x128 .f32 :=
  transpose S128x128 [1, 0] (broadcastTo S128x128 (shapeCast S1x128 x shapeCasts_S1x128_S1x128) broadcasts_S1x128_S128x128) transposes_S128x128_p1_0_S128x128

def pickScale (m : FVec F S128x128 .f32) (p : IVec S1x128 32) : FVec F S1x128 .f32 :=
  pick p (extractStridedSlice S8x128 ![8, 0] (transpose S128x128 [1, 0] m transposes_S128x128_p1_0_S128x128) slices_S128x128_o8_0_S8x128)
def pickAlpha (m : FVec F S128x128 .f32) (p : IVec S1x128 32) : FVec F S128x128 .f32 :=
  column (pick p (extractStridedSlice S8x128 ![0, 0] (transpose S128x128 [1, 0] m transposes_S128x128_p1_0_S128x128) slices_S128x128_o0_0_S8x128))
def rowS (m : FVec F S128x128 .f32) : FVec F S1x128 .f32 :=
  extractStridedSlice S1x128 ![32, 0] (transpose S128x128 [1, 0] m transposes_S128x128_p1_0_S128x128) slices_S128x128_o32_0_S1x128

def stA (h : Fin 2) (x : FVec F S128x128 .f32) : Prog (TpuEff nD τ sig (Elt F) Λ₀ .tc) Unit := do
  let _ : Vec F S128x128 .f32 ← Prog.lift (.load arg15 (Rect.unit (s := S256x128) ![128 * h.val, 0] S128x128.size (half_inb h)).toLoadRect (View.loadsAt_vmem h_S128x128))
  Prog.lift (.store arg15 (Rect.unit (s := S256x128) ![128 * h.val, 0] S128x128.size (half_inb h)) (shapeCast S128x128 x shapeCasts_S128x128_S128x128) Finset.univ (View.stores_vmem_bits_univ h_S128x128 rfl) (.inl rfl))

def picks (h : Fin 2) : Prog (TpuEff nD τ sig (Elt F) Λ₀ .tc) (FVec F S1x128 .f32) := do
  let m : Vec F S128x128 .f32 ← Prog.lift (.load arg14 (Rect.unit (s := S256x128) ![128 * h.val, 0] S128x128.size (half_inb h)).toLoadRect (View.loadsAt_vmem h_S128x128))
  let p : Vec F S1x128 .i32 ← Prog.lift (.load arg2 (Rect.unit (s := S1x256) ![0, 128 * h.val] S1x128.size (lane_inb h)).toLoadRect (View.loadsAt_vmem h_S1x128))
  let _ : Vec F S1x128 .f32 ← Prog.lift (.load arg9 (Rect.unit (s := S1x256) ![0, 128 * h.val] S1x128.size (lane_inb h)).toLoadRect (View.loadsAt_vmem h_S1x128))
  Prog.lift (.store arg9 (Rect.unit (s := S1x256) ![0, 128 * h.val] S1x128.size (lane_inb h)) (pickScale m p) Finset.univ (View.stores_vmem_bits_univ h_S1x128 rfl) (.inl rfl))
  stA arg15 h (pickAlpha m p)
  pure (rowS m)

/-! ## The sweep -/

section
variable (t4 : Fin k0_t4_loop.trips)

/-- Where a cell of the sweep stands in the rows and columns. -/
def offE (q : Fin 8) (c : Fin 4) : Fin 2 → Nat := ![32 * q.val, k0_off82 t4 (BitVec.ofNat 32 c.val) 1]

theorem offE_inb (q : Fin 8) (c : Fin 4) : ∀ a, offE t4 q c a + S32x128.size a ≤ S256x7168.size a := by
  intro a
  match a with
  | 0 => have := q.2; show 32 * q.val + 32 ≤ 256; omega
  | 1 => exact k0_off82_inb t4 c 1

theorem offE_packed (q : Fin 8) (c : Fin 4) :
    (Rect.unit (s := S256x7168) (offE t4 q c) S32x128.size (offE_inb t4 q c)).PackedRows (EltTy.packing .fp8e5m2) :=
  match q with
  | 0 => k0_off82_packedfp8e5m2 t4 c
  | 1 => k0_off83_packedfp8e5m2 t4 c
  | 2 => k0_off84_packedfp8e5m2 t4 c
  | 3 => k0_off85_packedfp8e5m2 t4 c
  | 4 => k0_off86_packedfp8e5m2 t4 c
  | 5 => k0_off87_packedfp8e5m2 t4 c
  | 6 => k0_off88_packedfp8e5m2 t4 c
  | 7 => k0_off89_packedfp8e5m2 t4 c

/-- The code a word's bytes are. -/
def codes (w : IVec S8x128 32) : FVec F S32x128 .fp8e5m2 :=
  bitcastToFloat .fp8e5m2 (bitcast S32x128 8 w bitcasts_S8x128_w32_S32x128_w8)

def quant (x : FVec F S32x128 .fp8e5m2) (al : FVec F S32x128 .f32) : FVec F S32x128 .fp8e5m2 :=
  truncf .fp8e5m2 (mulf (extf .f32 x bitsLt_fp8e5m2_f32) al) bitsLt_fp8e5m2_f32

include harg8 in
def cell (q : Fin 8) (al : FVec F S32x128 .f32) (c : Fin 4) : Prog (TpuEff nD τ sig (Elt F) Λ₀ .tc) (FVec F S32x128 .bf16) := do
  let w : Vec F S8x128 .i32 ← Prog.lift (.load arg13 (Rect.unit (s := S4352x128) (k0_off81 t4 (BitVec.ofNat 32 (16 * c.val)) (BitVec.ofNat 32 (8 * q.val))) S8x128.size (k0_off81_inb t4 c q)).toLoadRect (View.loadsAt_vmem h_S8x128))
  let y : Vec F S32x128 .fp8e4m3 ← Prog.lift (.load arg4 (Rect.unit (s := S256x7168) (offE t4 q c) S32x128.size (offE_inb t4 q c)).toLoadRect (View.loadsAt_vmem h_S32x128))
  let _ : Vec F S32x128 .fp8e5m2 ← Prog.lift (.load arg8 (Rect.unit (s := S256x7168) (offE t4 q c) S32x128.size (offE_inb t4 q c)).toLoadRect (View.loadsAt_vmem h_S32x128))
  Prog.lift (.store arg8 (Rect.unit (s := S256x7168) (offE t4 q c) S32x128.size (offE_inb t4 q c)) (quant (codes w) al) Finset.univ (View.stores_vmem h_S32x128 (harg8.storeExact_slice rfl _ (offE_packed t4 q c)) (fun _ => rfl)) (.inl rfl))
  pure (mulf (extf .bf16 (codes w) bitsLt_fp8e5m2_bf16) (extf .bf16 y bitsLt_fp8e4m3_bf16))

theorem q_inb (q : Fin 8) : ∀ a, (![32 * q.val, 0] : Fin 2 → Nat) a + S32x128.size a ≤ S256x128.size a := by revert q; decide

def ldA (q : Fin 8) : Prog (TpuEff nD τ sig (Elt F) Λ₀ .tc) (Vec F S32x128 .f32) :=
  Prog.lift (.load arg15 (Rect.unit (s := S256x128) ![32 * q.val, 0] S32x128.size (q_inb q)).toLoadRect (View.loadsAt_vmem h_S32x128))

def join (x y : FVec F S32x128 .bf16) : FVec F S32x256 .bf16 :=
  concatenate S32x256 1 [⟨S32x128, x⟩, ⟨S32x128, y⟩] concatenates_S32x128_S32x128_S32x256_d1

theorem fits (q : Fin 8) : Mxu.Fits (8 * q.val) 32 := by revert q; decide

include harg8 in
def strip0 (M : Mxu F) : Prog (TpuEff nD τ sig (Elt F) Λ₀ .tc) (Mxu F) := do
  let al ← ldA arg15 0
  let x ← cell arg4 arg8 harg8 arg13 t4 0 al 0
  let y ← cell arg4 arg8 harg8 arg13 t4 0 al 1
  let z ← cell arg4 arg8 harg8 arg13 t4 0 al 2
  let w ← cell arg4 arg8 harg8 arg13 t4 0 al 3
  pure ((M.accLhs 0 0 0 (join x y) (fits 0)).accLhs 1 0 0 (join z w) (fits 0))

include harg8 in
def strip (q : Fin 7) (M : Mxu F) : Prog (TpuEff nD τ sig (Elt F) Λ₀ .tc) (Mxu F) := do
  let al ← ldA arg15 q.succ
  let x ← cell arg4 arg8 harg8 arg13 t4 q.succ al 0
  let y ← cell arg4 arg8 harg8 arg13 t4 q.succ al 1
  let M ← M.accLhsLoaded 0 (8 * q.succ.val) (join x y) (fits q.succ)
  let z ← cell arg4 arg8 harg8 arg13 t4 q.succ al 2
  let w ← cell arg4 arg8 harg8 arg13 t4 q.succ al 3
  M.accLhsLoaded 1 (8 * q.succ.val) (join z w) (fits q.succ)

/-- The tile that adds the lanes of two blocks into their columns. -/
def tile (b : BitVec 32) : FVec F S256x256 .bf16 :=
  truncf .bf16 (select (cmpi .eq (iota .tc S256x256 32 [1] iota_S256x256_d1_w32)
    (addi (broadcast S256x256 (Scalar.addi (Scalar.muli (Scalar.addi 0#32 (Scalar.muli (Scf.iv 0#32 1#32 t4) 1#32)) 4#32) b))
      (select (cmpi .sge (iota .tc S256x256 32 [0] iota_S256x256_d0_w32) (broadcast S256x256 128#32))
        (broadcast S256x256 1#32) (broadcast S256x256 0#32))))
    (broadcast S256x256 (Scalar.ofBits .f32 0x3F800000#32)) (broadcast S256x256 (Scalar.ofBits .f32 0x00000000#32))) bitsLt_bf16_f32

include harg8 in
def sweep (M : Mxu F) : Prog (TpuEff nD τ sig (Elt F) Λ₀ .tc) (Mxu F) := do
  let M ← M.pushRhs 0 0 false (tile t4 0#32)
  let M ← M.pushRhs 1 0 false (tile t4 2#32)
  let M ← strip0 arg4 arg8 harg8 arg13 arg15 t4 M
  upTo 7 (strip arg4 arg8 harg8 arg13 arg15 t4) M
end

/-! ## The dot products -/

def popped (M : Mxu F) (q : Fin 8) : FVec F S32x128 .f32 :=
  addf (extractStridedSlice S32x128 ![0, 0] (M.read 0 (8 * q.val) (fits q)) slices_S32x256_o0_0_S32x128)
    (extractStridedSlice S32x128 ![0, 0] ((M.pop 0 (8 * q.val) 32 (fits q)).read 1 (8 * q.val) (fits q)) slices_S32x256_o0_0_S32x128)

def pops (M : Mxu F) (q : Fin 8) : Mxu F := (M.pop 0 (8 * q.val) 32 (fits q)).pop 1 (8 * q.val) 32 (fits q)

def dots (a b c d : FVec F S32x128 .f32) (es : FVec F S56x128 .f32) (s : FVec F S1x128 .f32) : FVec F S128x128 .f32 :=
  column (mulf (shapeCast S1x128 (multiReduction .add [0] S128 (mulf (extractStridedSlice S56x128 ![0, 0]
      (transpose S128x128 [1, 0] (concatenate S128x128 0 [⟨S32x128, a⟩, ⟨S32x128, b⟩, ⟨S32x128, c⟩, ⟨S32x128, d⟩] concatenates_S32x128_S32x128_S32x128_S32x128_S128x128_d0) transposes_S128x128_p1_0_S128x128) slices_S128x128_o0_0_S56x128)
      (extf .f32 (truncf .bf16 (shapeCast S56x128 es shapeCasts_S56x128_S56x128) bitsLt_bf16_f32) bitsLt_bf16_f32))
    0x00000000#32 reduces_S56x128_S128 (.inl rfl) rfl) shapeCasts_S128_S1x128) s)

def stDots (h : Fin 2) (a b c d : FVec F S32x128 .f32) (s : FVec F S1x128 .f32) : Prog (TpuEff nD τ sig (Elt F) Λ₀ .tc) Unit := do
  let es : Vec F S56x128 .f32 ← Prog.lift (.load arg5 (Rect.unit (s := S56x256) ![0, 128 * h.val] S56x128.size (es_inb h)).toLoadRect (View.loadsAt_vmem h_S56x128))
  stA arg15 h (dots a b c d es s)

/-! ## The scatter -/

section
variable (t5 : Fin k0_t5_loop.trips)

def sStore (oA : Fin 2 → Nat) (hA : ∀ a, oA a + S1x128.size a ≤ S256x128.size a) (v : BitVec 32)
    (oB : Fin 2 → Nat) (hB : ∀ a, oB a + S1x128.size a ≤ S128x128.size a) : Prog (TpuEff nD τ sig (Elt F) Λ₀ .tc) Unit := do
  let x : Vec F S1x128 .f32 ← Prog.lift (.load arg15 (Rect.unit (s := S256x128) oA S1x128.size hA).toLoadRect (View.loadsAt_vmem h_S1x128))
  let _ : Vec F S1x128 .f32 ← Prog.lift (.load arg16 (Rect.unit (s := S128x128) oB S1x128.size hB).toLoadRect (View.loadsAt_vmem h_S1x128))
  Prog.lift (.store arg16 (Rect.unit (s := S128x128) oB S1x128.size hB) (shapeCast S1x128 x shapeCasts_S1x128_S1x128)
    (IVec.on (shapeCast S1x128 (cmpi .eq (extractStridedSlice S1x128 ![0, 0] (iota .tc S8x128 32 [1] iota_S8x128_d1_w32) slices_S8x128_o0_0_S1x128)
      (broadcast S1x128 (Scalar.andi (Scalar.shrui v 3#32) 127#32))) shapeCasts_S1x128_S1x128))
    (View.stores_vmem_bits h_S1x128 rfl (fun h => nomatch h)) (.inr (fun _ => rfl)))

def scatter : Prog (TpuEff nD τ sig (Elt F) Λ₀ .tc) PUnit := do
  let v0 : Elt F .i32 ← smemLoad arg1 (Rect.unit (s := S16384) (k0_off90 i t5) S1.size (k0_off90_inb i t5)) numel1_S1 rfl
  let h0 ← Prog.lift (TpuEff.assume (k0_chk5 v0) (k0_chk5.dec v0))
  sStore arg15 arg16 (k0_off91 t5) (k0_off91_inb t5) v0 (k0_off92 v0) (k0_off92_inb v0 h0.down)
  let v1 : Elt F .i32 ← smemLoad arg1 (Rect.unit (s := S16384) (k0_off93 i t5) S1.size (k0_off93_inb i t5)) numel1_S1 rfl
  let h1 ← Prog.lift (TpuEff.assume (k0_chk6 v1) (k0_chk6.dec v1))
  sStore arg15 arg16 (k0_off94 t5) (k0_off94_inb t5) v1 (k0_off95 v1) (k0_off95_inb v1 h1.down)
  let v2 : Elt F .i32 ← smemLoad arg1 (Rect.unit (s := S16384) (k0_off96 i t5) S1.size (k0_off96_inb i t5)) numel1_S1 rfl
  let h2 ← Prog.lift (TpuEff.assume (k0_chk7 v2) (k0_chk7.dec v2))
  sStore arg15 arg16 (k0_off97 t5) (k0_off97_inb t5) v2 (k0_off98 v2) (k0_off98_inb v2 h2.down)
  let v3 : Elt F .i32 ← smemLoad arg1 (Rect.unit (s := S16384) (k0_off99 i t5) S1.size (k0_off99_inb i t5)) numel1_S1 rfl
  let h3 ← Prog.lift (TpuEff.assume (k0_chk8 v3) (k0_chk8.dec v3))
  sStore arg15 arg16 (k0_off100 t5) (k0_off100_inb t5) v3 (k0_off101 v3) (k0_off101_inb v3 h3.down)
  let v4 : Elt F .i32 ← smemLoad arg1 (Rect.unit (s := S16384) (k0_off102 i t5) S1.size (k0_off102_inb i t5)) numel1_S1 rfl
  let h4 ← Prog.lift (TpuEff.assume (k0_chk9 v4) (k0_chk9.dec v4))
  sStore arg15 arg16 (k0_off103 t5) (k0_off103_inb t5) v4 (k0_off104 v4) (k0_off104_inb v4 h4.down)
  let v5 : Elt F .i32 ← smemLoad arg1 (Rect.unit (s := S16384) (k0_off105 i t5) S1.size (k0_off105_inb i t5)) numel1_S1 rfl
  let h5 ← Prog.lift (TpuEff.assume (k0_chk10 v5) (k0_chk10.dec v5))
  sStore arg15 arg16 (k0_off106 t5) (k0_off106_inb t5) v5 (k0_off107 v5) (k0_off107_inb v5 h5.down)
  let v6 : Elt F .i32 ← smemLoad arg1 (Rect.unit (s := S16384) (k0_off108 i t5) S1.size (k0_off108_inb i t5)) numel1_S1 rfl
  let h6 ← Prog.lift (TpuEff.assume (k0_chk11 v6) (k0_chk11.dec v6))
  sStore arg15 arg16 (k0_off109 t5) (k0_off109_inb t5) v6 (k0_off110 v6) (k0_off110_inb v6 h6.down)
  let v7 : Elt F .i32 ← smemLoad arg1 (Rect.unit (s := S16384) (k0_off111 i t5) S1.size (k0_off111_inb i t5)) numel1_S1 rfl
  let h7 ← Prog.lift (TpuEff.assume (k0_chk12 v7) (k0_chk12.dec v7))
  sStore arg15 arg16 (k0_off112 t5) (k0_off112_inb t5) v7 (k0_off113 v7) (k0_off113_inb v7 h7.down)
end

/-! ## The end -/

theorem g_inb (k : Fin 16) : ∀ a, (![8 * k.val, 0] : Fin 2 → Nat) a + S8x128.size a ≤ S128x128.size a := by revert k; decide
theorem d_inb (k : Fin 16) : ∀ a, (![0, 128 * k.val] : Fin 2 → Nat) a + S8x128.size a ≤ S8x2048.size a := by revert k; decide

def emit (k : Fin 16) (_ : Unit) : Prog (TpuEff nD τ sig (Elt F) Λ₀ .tc) Unit := do
  let x : Vec F S8x128 .f32 ← Prog.lift (.load arg16 (Rect.unit (s := S128x128) ![8 * k.val, 0] S8x128.size (g_inb k)).toLoadRect (View.loadsAt_vmem h_S8x128))
  let _ : Vec F S8x128 .f32 ← Prog.lift (.load arg10 (Rect.unit (s := S8x2048) ![0, 128 * k.val] S8x128.size (d_inb k)).toLoadRect (View.loadsAt_vmem h_S8x128))
  Prog.lift (.store arg10 (Rect.unit (s := S8x2048) ![0, 128 * k.val] S8x128.size (d_inb k)) x Finset.univ (View.stores_vmem_bits_univ h_S8x128 rfl) (.inl rfl))

/-! ## The body after the table is filled -/

/-- The sweep, and the first two of the popped results. -/
abbrev Half (F : FTy → Type) [FloatOps F] : Type :=
  Σ' (v58 : FVec F S1x128 .f32) (v66 : FVec F S32x128 .f32) (v68 : FVec F S32x128 .f32) (v69 : FVec F S32x256 .f32), Mxu F

def half (s : FVec F S1x128 .f32) (M : Mxu F) : Half F :=
  ⟨s, popped M 0, extractStridedSlice S32x128 ![0, 0] ((pops M 0).read 0 (8 * (1 : Fin 8).val) (fits 1)) slices_S32x256_o0_0_S32x128,
    ((pops M 0).pop 0 (8 * (1 : Fin 8).val) 32 (fits 1)).read 1 (8 * (1 : Fin 8).val) (fits 1), pops (pops M 0) 1⟩

include harg8 in
def sweeps : Prog (TpuEff nD τ sig (Elt F) Λ₀ .tc) (Half F) := do
  let s1 ← picks arg2 arg9 arg14 arg15 1
  let M ← Scf.Loop.for k0_t4_loop k0_t4_ok Mxu.init fun t4 M => sweep arg4 arg8 harg8 arg13 arg15 t4 M
  pure (half s1 M)

def finish (s0 : FVec F S1x128 .f32) (r : Half F) : Prog (TpuEff nD τ sig (Elt F) Λ₀ .tc) PUnit := do
  stDots arg5 arg15 0 r.2.1 (addf r.2.2.1 (extractStridedSlice S32x128 ![0, 0] r.2.2.2.1 slices_S32x256_o0_0_S32x128))
    (popped r.2.2.2.2 2) (popped (pops r.2.2.2.2 2) 3) s0
  stDots arg5 arg15 1 (popped (pops (pops r.2.2.2.2 2) 3) 4) (popped (pops (pops (pops r.2.2.2.2 2) 3) 4) 5)
    (popped (pops (pops (pops (pops r.2.2.2.2 2) 3) 4) 5) 6) (popped (pops (pops (pops (pops (pops r.2.2.2.2 2) 3) 4) 5) 6) 7) r.1
  Scf.Loop.for k0_t5_loop k0_t5_ok ⟨⟩ fun t5 _ => scatter i arg1 arg15 arg16 t5
  if k0_h3 : k0_cond3 i = 1#1 then upTo 16 (emit arg10 arg16) () else pure ⟨⟩
  (pops (pops (pops (pops (pops (pops r.2.2.2.2 2) 3) 4) 5) 6) 7).exit
  pure ⟨⟩

/-- The step after its gather. -/
def steps : Prog (TpuEff nD τ sig (Elt F) Λ₀ .tc) PUnit := do
  let s0 ← picks arg2 arg9 arg14 arg15 0
  let r ← sweeps arg2 arg4 arg8 harg8 arg9 arg13 arg14 arg15
  finish i arg1 arg5 arg10 arg15 arg16 s0 r

include harg8 in
def rest : Prog (TpuEff nD τ sig (Elt F) Λ₀ .tc) PUnit := do
  Scf.Loop.for k0_t3_loop k0_t3_ok ⟨⟩ fun t3 _ => gather i arg1 arg11 arg12 arg13 arg14 t3
  steps i arg1 arg2 arg4 arg5 arg8 harg8 arg9 arg10 arg13 arg14 arg15 arg16
end

section
variable (i : grid0.Coords) (arg1 : Memref sig .tc .smem S16384 .i32) (harg1 : arg1.IsWhole) (arg2 : Memref sig .tc .vmem S1x256 .i32) (harg2 : arg2.IsWhole) (arg3 : Memref sig .tc .vmem S1x2048 .f32) (harg3 : arg3.IsWhole) (arg4 : Memref sig .tc .vmem S256x7168 .fp8e4m3) (harg4 : arg4.IsWhole) (arg5 : Memref sig .tc .vmem S56x256 .f32) (harg5 : arg5.IsWhole) (arg6 : Memref sig .tc .vmem S8x2048 .f32) (harg6 : arg6.IsWhole) (arg7 : Memref sig .tc .hbm S2048x7168 .i8) (harg7 : arg7.IsWhole) (arg8 : Memref sig .tc .vmem S256x7168 .fp8e5m2) (harg8 : arg8.IsWhole) (arg9 : Memref sig .tc .vmem S1x256 .f32) (harg9 : arg9.IsWhole) (arg10 : Memref sig .tc .vmem S8x2048 .f32) (harg10 : arg10.IsWhole) (arg11 : Memref sig .tc .vmem S30728x128 .i32) (harg11 : arg11.IsWhole) (arg12 : Memref sig .tc .vmem S2048x128 .f32) (harg12 : arg12.IsWhole) (arg13 : Memref sig .tc .vmem S4352x128 .i32) (harg13 : arg13.IsWhole) (arg14 : Memref sig .tc .vmem S256x128 .f32) (harg14 : arg14.IsWhole) (arg15 : Memref sig .tc .vmem S256x128 .f32) (harg15 : arg15.IsWhole) (arg16 : Memref sig .tc .vmem S128x128 .f32) (harg16 : arg16.IsWhole) (arg17 : Memref sig .tc .vmem S2x256x7168 .i8) (harg17 : arg17.IsWhole) (arg18 : DmaSems sig S2)

/-! ## The copies and the whole body -/

def dSem (off : Fin 1 → Nat) (h : ∀ a, off a + S1.size a ≤ S2.size a) : DmaSem sig :=
  ((arg18.slice (Rect.unit (s := S2) off S1.size h)).squeeze S_ squeezes_S1_S_).sem
def dDst (off : Fin 3 → Nat) (h : ∀ a, off a + S1x256x7168.size a ≤ S2x256x7168.size a) : Memref sig .tc .vmem S256x7168 .i8 :=
  (arg17.slice (Rect.unit (s := S2x256x7168) off S1x256x7168.size h) (fun _ => rfl)).squeeze S256x7168 squeezes_S1x256x7168_S256x7168
def dSrc (off : Fin 2 → Nat) (h : ∀ a, off a + S256x7168.size a ≤ S2048x7168.size a) : Memref sig .tc .hbm S256x7168 .i8 :=
  arg7.slice (Rect.unit (s := S2048x7168) off S256x7168.size h) (fun _ => rfl)

include harg7 harg17 in
def issue0 : Prog (TpuEff nD τ sig (Elt F) Λ₀ .tc) PUnit :=
  Prog.lift (.enqueueDma (dSrc arg7 ![0, 0] inb_S2048x7168_S256x7168_0_0) (.here (dDst arg17 ![0, 0, 0] inb_S2x256x7168_S1x256x7168_0_0_0)) (.dma (dSem arg18 ![0] inb_S2_S1_0))
    (harg7.wordExact_slice rfl _ wordsi8_S2048x7168_S256x7168_0_0) ((harg17.wordExact_slice rfl _ wordsi8_S2x256x7168_S1x256x7168_0_0_0).reshape _ _) ⟨Or.inl rfl, trivial⟩)

include harg7 harg17 in
def issue (h1 : k0_cond1 i = 1#1) (t1 : Fin k0_t1_loop.trips) (h2 : k0_cond2 t1 = 1#1) : Prog (TpuEff nD τ sig (Elt F) Λ₀ .tc) PUnit :=
  Prog.lift (.enqueueDma (dSrc arg7 (k0_off3 t1) (k0_off3_inb i t1 h1 h2)) (.here (dDst arg17 (k0_off2 t1) (k0_off2_inb i t1 h1 h2))) (.dma (dSem arg18 (k0_off1 t1) (k0_off1_inb i t1 h1 h2)))
    (harg7.wordExact_slice rfl _ (k0_off3_wordsi8 i t1 h1 h2)) ((harg17.wordExact_slice rfl _ (k0_off2_wordsi8 i t1 h1 h2)).reshape _ _) ⟨Or.inl rfl, trivial⟩)

include harg7 harg17 in
def await (h1 : k0_cond1 i = 1#1) (t1 : Fin k0_t1_loop.trips) : Prog (TpuEff nD τ sig (Elt F) Λ₀ .tc) PUnit :=
  Prog.lift (.waitDma2 (dSem arg18 (k0_off4 t1) (k0_off4_inb i t1 h1)) (dSrc arg7 (k0_off6 t1) (k0_off6_inb i t1 h1)) (dDst arg17 (k0_off5 t1) (k0_off5_inb i t1 h1))
    (harg7.wordExact_slice rfl _ (k0_off6_wordsi8 i t1 h1)) ((harg17.wordExact_slice rfl _ (k0_off5_wordsi8 i t1 h1)).reshape _ _))

def zeroG : Prog (TpuEff nD τ sig (Elt F) Λ₀ .tc) Unit := do
  let _ : Vec F S128x128 .f32 ← Prog.lift (.load arg16 (Rect.unit (s := S128x128) ![0, 0] S128x128.size inb_S128x128_S128x128_0_0).toLoadRect (View.loadsAt_vmem h_S128x128))
  Prog.lift (.store arg16 (Rect.unit (s := S128x128) ![0, 0] S128x128.size inb_S128x128_S128x128_0_0) (shapeCast S128x128 (broadcast S128x128 (Scalar.ofBits .f32 0x00000000#32)) shapeCasts_S128x128_S128x128) Finset.univ (View.stores_vmem_bits_univ h_S128x128 rfl) (.inl rfl))

def fills (h1 : k0_cond1 i = 1#1) (t1 : Fin k0_t1_loop.trips) : Prog (TpuEff nD τ sig (Elt F) Λ₀ .tc) PUnit :=
  Scf.Loop.for k0_t2_loop (k0_t2_ok i h1) ⟨⟩ fun t2 _ => fill i arg3 arg6 arg11 arg12 arg15 arg17 h1 t1 t2

include harg7 harg17 in
/-- One batch of rows: the next one asked for, this one waited for and put into the table. -/
def batch (h1 : k0_cond1 i = 1#1) (t1 : Fin k0_t1_loop.trips) : Prog (TpuEff nD τ sig (Elt F) Λ₀ .tc) PUnit := do
  if h2 : k0_cond2 t1 = 1#1 then issue i arg7 harg7 arg17 harg17 arg18 h1 t1 h2 else pure ⟨⟩
  await i arg7 harg7 arg17 harg17 arg18 h1 t1
  fills i arg3 arg6 arg11 arg12 arg15 arg17 h1 t1
  pure ⟨⟩

include harg7 harg17 in
def prologue (h1 : k0_cond1 i = 1#1) : Prog (TpuEff nD τ sig (Elt F) Λ₀ .tc) PUnit := do
  issue0 arg7 harg7 arg17 harg17 arg18
  zeroG arg16
  Scf.Loop.for k0_t1_loop (k0_t1_ok i h1) ⟨⟩ fun t1 _ => batch i arg3 arg6 arg7 harg7 arg11 arg12 arg15 arg17 harg17 arg18 h1 t1

include harg7 harg8 harg17 in
def body : Prog (TpuEff nD τ sig (Elt F) Λ₀ .tc) PUnit := do
  (if h1 : k0_cond1 i = 1#1 then prologue i arg3 arg6 arg7 harg7 arg11 arg12 arg15 arg16 arg17 harg17 arg18 h1 else pure ⟨⟩)
  rest i arg1 arg2 arg4 arg5 arg8 harg8 arg9 arg10 arg11 arg12 arg13 arg14 arg15 arg16

/-- The body's first part: the table filled, the rows gathered, the first factors picked. -/
def first : Prog (TpuEff nD τ sig (Elt F) Λ₀ .tc)
    (Σ' (arg0 : BitVec 32) (k0_mxu1 : Mxu F) (v0 : IVec S8x128 32) (v1 : IVec S8x128 32) (v5 : BitVec 32), FVec F S1x128 .f32) := do
  if h1 : k0_cond1 i = 1#1 then do
    issue0 arg7 harg7 arg17 harg17 arg18
    zeroG arg16
    Scf.Loop.for k0_t1_loop (k0_t1_ok i h1) ⟨⟩ fun t1 _ => batch i arg3 arg6 arg7 harg7 arg11 arg12 arg15 arg17 harg17 arg18 h1 t1
    pure ⟨⟩
  else pure ⟨⟩
  Scf.Loop.for k0_t3_loop k0_t3_ok ⟨⟩ fun t3 _ => gather i arg1 arg11 arg12 arg13 arg14 t3
  let s0 ← picks arg2 arg9 arg14 arg15 0
  pure ⟨BitVec.ofNat 32 (i 0).val, Mxu.init, iota .tc S8x128 32 [1] iota_S8x128_d1_w32, iota .tc S8x128 32 [0] iota_S8x128_d0_w32,
    Scalar.muli (BitVec.ofNat 32 (i 0).val) 256#32, s0⟩

set_option maxRecDepth 1000000 in
theorem first_eq : (k0_part162 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 : Prog (TpuEff nD τ sig (Elt F) Λ₀ .tc) _) =
    first i arg1 arg2 arg3 arg6 arg7 harg7 arg9 arg11 arg12 arg13 arg14 arg15 arg16 arg17 harg17 arg18 := by
  chain_rfl

set_option maxRecDepth 1000000 in
theorem sweeps_eq : (k0_part163 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 Mxu.init (iota .tc S8x128 32 [0] iota_S8x128_d0_w32) : Prog (TpuEff nD τ sig (Elt F) Λ₀ .tc) _) =
    sweeps arg2 arg4 arg8 harg8 arg9 arg13 arg14 arg15 := by
  chain_rfl

set_option maxRecDepth 1000000 in
theorem body_eq : (cc0_moe_combine_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 : Prog (TpuEff nD τ sig (Elt F) Λ₀ .tc) PUnit) =
    body i arg1 arg2 arg3 arg4 arg5 arg6 arg7 harg7 arg8 harg8 arg9 arg10 arg11 arg12 arg13 arg14 arg15 arg16 arg17 harg17 arg18 := by
  refine (congrArg (fun p => Prog.bind p _) (first_eq i arg1 harg1 arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18)).trans ?_
  unfold first body prologue
  by_cases h1 : k0_cond1 i = 1#1
  · rw [dif_pos h1, dif_pos h1]
    refine (Prog.bind_assoc _ _ _).trans (Eq.trans ?_ (Prog.bind_assoc _ _ _).symm)
    refine congrArg (Prog.bind _) (funext fun _ => ?_)
    refine (Prog.bind_assoc _ _ _).trans (Eq.trans ?_ (Prog.bind_assoc _ _ _).symm)
    refine congrArg (Prog.bind _) (funext fun _ => ?_)
    refine (Prog.bind_assoc _ _ _).trans ?_
    refine congrArg (Prog.bind _) (funext fun _ => ?_)
    refine (Prog.bind_assoc _ _ _).trans ?_
    refine congrArg (Prog.bind _) (funext fun _ => ?_)
    chain_rfl
  · rw [dif_neg h1, dif_neg h1]
    refine (Prog.bind_assoc _ _ _).trans ?_
    refine congrArg (Prog.bind _) (funext fun _ => ?_)
    chain_rfl
end
end Cert.KernelIdeal.Own
end
end
-- ==== Proof.Offsets.lean ====
module

public import proofs.«01_k».proof.Proof.Gen.KernelIdeal.Skeleton

@[expose] public section

/-! The offsets of the body's loads and stores, as plain numbers. -/

noncomputable section

namespace Cert.KernelIdeal.Own

open Idealize.ShloMosaic Idealize.SL.Sem Cert.KernelIdeal.Gen

theorem off71_eq (v o : BitVec 32) (h : v.toNat < 16384) (ho : o.toNat < 16) : k0_off71 v o = ![15 * (v.toNat / 8) + o.toNat, 0] := by
  funext a
  unfold k0_off71
  fin_cases a
  · simp [Scalar.shrui, Scalar.muli, Scalar.addi, Scalar.indexCast, IntOp.shrui, IntOp.muli, IntOp.addi, Nat.shiftRight_eq_div_pow]
    omega
  · simp

theorem off68_eq (v : BitVec 32) (h : v.toNat < 16384) : k0_off68 v = ![15 * (v.toNat / 8), 0] := off71_eq v 0#32 h (by decide)
theorem off73_eq (v : BitVec 32) (h : v.toNat < 16384) : k0_off73 v = ![15 * (v.toNat / 8) + 8, 0] := off71_eq v 8#32 h (by decide)

theorem off76_eq (v : BitVec 32) (h : v.toNat < 16384) : k0_off76 v = ![v.toNat / 8, 0] := by
  funext a
  unfold k0_off76
  fin_cases a
  · simp [Scalar.shrui, Scalar.muli, Scalar.addi, Scalar.indexCast, IntOp.shrui, IntOp.muli, IntOp.addi, Nat.shiftRight_eq_div_pow]
  · simp

theorem off92_eq (v : BitVec 32) (h : v.toNat < 16384) : k0_off92 v = ![8 * (v.toNat / 1024) + v.toNat % 8, 0] := by
  funext a
  unfold k0_off92
  fin_cases a
  · have hm : v.toNat &&& 7 = v.toNat % 8 := Nat.and_two_pow_sub_one_eq_mod v.toNat 3
    simp [Scalar.shrui, Scalar.muli, Scalar.addi, Scalar.andi, Scalar.indexCast, IntOp.shrui, IntOp.muli, IntOp.addi, IntOp.andi, Nat.shiftRight_eq_div_pow, hm]
    omega
  · simp

theorem rows_inb (n : Nat) (h : n + 8 ≤ 30728) : ∀ a, (![n, 0] : Fin 2 → Nat) a + S8x128.size a ≤ S30728x128.size a := by
  intro a
  match a with
  | 0 => exact h
  | 1 => exact Nat.le_refl 128

theorem row_inb (n : Nat) (h : n + 1 ≤ 2048) : ∀ a, (![n, 0] : Fin 2 → Nat) a + S1x128.size a ≤ S2048x128.size a := by
  intro a
  match a with
  | 0 => exact h
  | 1 => exact Nat.le_refl 128

theorem chk1_of (v : BitVec 32) (h : v.toNat < 16384) : k0_chk1 v := by
  refine ⟨?_, ?_, ?_⟩
  · rw [off68_eq v h]; exact rows_inb _ (by omega)
  · rw [off73_eq v h]; exact rows_inb _ (by omega)
  · rw [off76_eq v h]; exact row_inb _ (by omega)

theorem chk2_of (v : BitVec 32) (h : v.toNat < 16384) : k0_chk2 v := chk1_of v h
theorem chk3_of (v : BitVec 32) (h : v.toNat < 16384) : k0_chk3 v := chk1_of v h
theorem chk4_of (v : BitVec 32) (h : v.toNat < 16384) : k0_chk4 v := by
  refine ⟨?_, ?_⟩
  · intro k
    match k with
    | 0 => exact (chk1_of v h).1
    | 1 => exact (chk1_of v h).2.1
  · exact (chk1_of v h).2.2

theorem chk5_of (v : BitVec 32) (h : v.toNat < 16384) : k0_chk5 v := by
  intro a
  rw [off92_eq v h]
  match a with
  | 0 => show 8 * (v.toNat / 1024) + v.toNat % 8 + 1 ≤ 128; omega
  | 1 => exact Nat.le_refl 128

end Cert.KernelIdeal.Own
end
end
-- ==== Proof.Keep.lean ====
module

public import proofs.«01_k».proof.Proof.Logic
public import proofs.«01_k».proof.Proof.Sweep
public import proofs.«01_k».proof.Proof.Offsets

@[expose] public section

/-! The body runs and leaves its inputs as they were, from buffers whose row numbers are in range. -/

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open Idealize.SL.Sem

variable {F : FTy → Type} [FloatOps F]

/-- The buffers the body only reads. -/
@[reducible] def Slot.input : Slot → Bool
  | ord | ordv | s | e | es | g => true
  | _ => false

/-- Buffers held whole, the written ones at the full share; of the staged rows some part. -/
structure Fit (E : Env) : Prop where
  whole : ∀ j, j ≠ .stage → E.D j = Finset.univ
  share : ∀ j, j.input = false → E.q j = fullShare

/-- The inputs are the same. -/
def Keep (σ σ' : St F) : Prop := ∀ j : Slot, j.input = true → σ' j = σ j

theorem Keep.refl (σ : St F) : Keep σ σ := fun _ _ => rfl
theorem Keep.trans {σ σ' σ'' : St F} (h : Keep σ σ') (h' : Keep σ' σ'') : Keep σ σ'' := fun j hj => (h' j hj).trans (h j hj)
theorem Keep.update (σ : St F) (j : Slot) (hj : j.input = false) (X : j.sh.Idx → Elt F j.el) : Keep σ (Function.update σ j X) := by
  intro k hk
  rw [Function.update_of_ne]
  rintro rfl
  rw [hj] at hk
  cases hk

/-- The row numbers are in range. -/
def InRange (σ : St F) : Prop := ∀ y, BitVec.toNat (w := 32) (σ .ord y) < 16384

theorem InRange.keep {σ σ' : St F} (h : InRange σ) (hk : Keep σ σ') : InRange σ' := by
  intro y
  rw [hk .ord rfl]
  exact h y

variable (E : Env)

/-- From row numbers in range the program runs, keeps the inputs, and returns as `Q` says. -/
def KTri {α : Type} (p : Prog (TpuEff nD τ sig (Elt F) Λ₀ .tc) α) (Q : α → Prop) : Prop :=
  ∀ σ : St F, InRange σ → Tri E σ p (fun a σ' => Q a ∧ Keep σ σ')

variable {E}
variable {α β : Type}

theorem KTri.pure {a : α} {Q : α → Prop} (h : Q a) : KTri (F := F) E (Pure.pure a) Q :=
  fun σ _ => Tri.pure ⟨h, Keep.refl σ⟩

theorem KTri.bind {p : Prog (TpuEff nD τ sig (Elt F) Λ₀ .tc) α} {k : α → Prog (TpuEff nD τ sig (Elt F) Λ₀ .tc) β}
    {Q : α → Prop} {R : β → Prop} (hp : KTri (F := F) E p Q) (hk : ∀ a, Q a → KTri (F := F) E (k a) R) : KTri (F := F) E (p >>= k) R :=
  fun σ hσ => Tri.bind (hp σ hσ) fun a σ' h => (hk a h.1 σ' (hσ.keep h.2)).mono fun b σ'' h' => ⟨h'.1, h.2.trans h'.2⟩

theorem KTri.mono {p : Prog (TpuEff nD τ sig (Elt F) Λ₀ .tc) α} {Q R : α → Prop} (hp : KTri (F := F) E p Q) (h : ∀ a, Q a → R a) : KTri (F := F) E p R :=
  fun σ hσ => (hp σ hσ).mono fun a σ' hq => ⟨h a hq.1, hq.2⟩

theorem KTri.load (hE : Fit E) (j : Slot) (hj : j ≠ .stage) (r : LoadRect j.sh) (hl : (E.V j).view.LoadsAt r) :
    KTri (F := F) E (Prog.lift (.load (E.V j) r hl)) (fun _ => True) :=
  fun σ _ => (Tri.load j r hl (by rw [hE.whole j hj]; exact Finset.subset_univ _)).mono fun a σ' h => ⟨trivial, h.2 ▸ Keep.refl σ⟩

theorem KTri.store (hE : Fit E) (j : Slot) (hj : j ≠ .stage) (hi : j.input = false) (r : Rect j.sh) (w : r.shape.Idx → Elt F j.el) (Mk : Finset r.shape.Idx)
    (hx : ((E.V j).access r).Stores Mk) (hm : Mk = Finset.univ ∨ ∀ a, r.stride a = 1) :
    KTri (F := F) E (Prog.lift (.store (E.V j) r w Mk hx hm)) (fun _ => True) :=
  fun σ _ => (Tri.storeSome j r w Mk hx hm (by rw [hE.whole j hj]; exact Finset.subset_univ _) (hE.share j hi)).mono
    (by rintro a σ' ⟨X, rfl⟩; exact ⟨trivial, Keep.update σ j hi X⟩)

theorem KTri.assume {P : Prop} {d : Decidable P} (h : P) : KTri (F := F) E (Prog.lift (.assume P d)) (fun _ => True) :=
  fun σ _ => (Tri.assume h).mono fun a σ' h => ⟨trivial, h ▸ Keep.refl σ⟩

theorem KTri.assumed {P : Prop} {d : Decidable P} (h : P) {k : PLift P → Prog (TpuEff nD τ sig (Elt F) Λ₀ .tc) α} {Q : α → Prop}
    (hk : ∀ x, KTri (F := F) E (k x) Q) : KTri (F := F) E (.op (.assume P d) k) Q :=
  KTri.bind (p := Prog.lift (.assume P d)) (KTri.assume h) fun x _ => hk x

theorem KTri.loop (l : Scf.Loop 32) (hok : l.OK) (init : α) (body : Fin l.trips → α → Prog (TpuEff nD τ sig (Elt F) Λ₀ .tc) α)
    (I : α → Prop) (h : ∀ (k : Fin l.trips) a, I a → KTri (F := F) E (body k a) I) (h0 : I init) :
    KTri (F := F) E (Scf.Loop.for l hok init body) I :=
  fun σ hσ => Tri.loop l hok init body (fun _ a σ' => I a ∧ Keep σ σ')
    (fun k a σ' hI => (h k a hI.1 σ' (hσ.keep hI.2)).mono fun b σ'' h' => ⟨h'.1, hI.2.trans h'.2⟩) ⟨h0, Keep.refl σ⟩

theorem KTri.upTo {n : Nat} (f : Fin n → α → Prog (TpuEff nD τ sig (Elt F) Λ₀ .tc) α) (I : α → Prop)
    (h : ∀ (k : Fin n) a, I a → KTri (F := F) E (f k a) I) (a : α) (h0 : I a) : KTri (F := F) E (upTo n f a) I :=
  fun σ hσ => Tri.upTo f (fun _ a σ' => I a ∧ Keep σ σ')
    (fun k a σ' hI => (h k a hI.1 σ' (hσ.keep hI.2)).mono fun b σ'' h' => ⟨h'.1, hI.2.trans h'.2⟩) a ⟨h0, Keep.refl σ⟩

theorem KTri.word (hE : Fit E) (r : Rect S16384) (h1 : r.shape.numel = 1) (hp : EltTy.packing .i32 = 1) :
    KTri (F := F) E (smemLoad (E.V .ord) r h1 hp) (fun a => BitVec.toNat (w := 32) a < 16384) :=
  fun σ hσ => (Tri.word (E.V .ord) rfl r h1 hp (by rw [hE.whole .ord (by decide)]; exact Finset.subset_univ _)).mono
    (by rintro a σ' ⟨rfl, rfl⟩; exact ⟨hσ _, Keep.refl _⟩)

/-! ## The table -/

variable (i : grid0.Coords)

theorem KTri.ldS (hE : Fit E) (h1 : k0_cond1 i = 1#1) (t1 : Fin k0_t1_loop.trips) (t2 : Fin k0_t2_loop.trips)
    (hS : ∀ (g : Fin 4) (ci : Fin 14) (c : Fin 4), (Rect.unit (s := S2x256x7168) (offS t1 t2 (BitVec.ofNat 32 (32 * g.val)) (128 * (ci.val * 4 + c.val))) S1x32x128.size (offS_inb i h1 t1 t2 g ci c)).toLoadRect.set ⊆ E.D .stage)
    (g : Fin 4) (ci : Fin 14) (c : Fin 4) : KTri (F := F) E (ldS i (E.V .stage) h1 t1 t2 g ci c) (fun _ => True) :=
  KTri.bind (Q := fun _ => True) (fun σ _ => (Tri.load .stage _ _ (hS g ci c)).mono fun a σ' h => ⟨trivial, h.2 ▸ Keep.refl σ⟩)
    fun _ _ => KTri.pure trivial

theorem KTri.fill (hE : Fit E) (h1 : k0_cond1 i = 1#1) (t1 : Fin k0_t1_loop.trips) (t2 : Fin k0_t2_loop.trips)
    (hS : ∀ (g : Fin 4) (ci : Fin 14) (c : Fin 4), (Rect.unit (s := S2x256x7168) (offS t1 t2 (BitVec.ofNat 32 (32 * g.val)) (128 * (ci.val * 4 + c.val))) S1x32x128.size (offS_inb i h1 t1 t2 g ci c)).toLoadRect.set ⊆ E.D .stage) :
    KTri (F := F) E (fill i (E.V .s) (E.V .g) (E.V .tab) (E.V .mtab) (E.V .arow) (E.V .stage) h1 t1 t2) (fun _ => True) := by
  have hst : ∀ g ci b w, KTri (F := F) E (stT i (E.V .tab) h1 t1 t2 g ci b w) (fun _ => True) := fun g ci b w =>
    KTri.bind (KTri.load hE .tab (by decide) _ _) fun _ _ => KTri.store hE .tab (by decide) rfl _ _ _ _ _
  have hld := fun g ci c => KTri.ldS (F := F) i hE h1 t1 t2 hS g ci c
  have hg : ∀ g, KTri (F := F) E (group i (E.V .tab) (E.V .arow) (E.V .stage) h1 t1 t2 g) (fun _ => True) := fun g =>
    KTri.bind (KTri.upTo _ (fun _ => True) (fun ci am _ =>
      KTri.bind (hld g ci 0) fun _ _ => KTri.bind (hld g ci 1) fun _ _ => KTri.bind (hld g ci 2) fun _ _ => KTri.bind (hld g ci 3) fun _ _ =>
      KTri.bind (hst g ci 0 _) fun _ _ => KTri.bind (hst g ci 1 _) fun _ _ => KTri.bind (hst g ci 2 _) fun _ _ => KTri.bind (hst g ci 3 _) fun _ _ =>
      KTri.pure trivial) _ trivial) fun _ _ =>
    KTri.bind (KTri.load hE .arow (by decide) _ _) fun _ _ => KTri.store hE .arow (by decide) rfl _ _ _ _ _
  refine KTri.bind (hg 0) fun _ _ => KTri.bind (hg 1) fun _ _ => KTri.bind (hg 2) fun _ _ => KTri.bind (hg 3) fun _ _ => ?_
  refine KTri.bind (KTri.load hE .arow (by decide) _ _) fun _ _ => KTri.bind (KTri.load hE .s (by decide) _ _) fun _ _ =>
    KTri.bind (KTri.load hE .g (by decide) _ _) fun _ _ => ?_
  exact KTri.upTo _ (fun _ => True) (fun q a _ => KTri.bind (KTri.load hE .mtab (by decide) _ _) fun _ _ => KTri.store hE .mtab (by decide) rfl _ _ _ _ _) () trivial

/-! ## The gather -/

theorem KTri.gather (hE : Fit E) (t3 : Fin k0_t3_loop.trips) :
    KTri (F := F) E (gather i (E.V .ord) (E.V .tab) (E.V .mtab) (E.V .gbuf) (E.V .mbuf) t3) (fun _ => True) := by
  have hl : ∀ off h, KTri (F := F) E (gLoad (E.V .tab) off h) (fun _ => True) := fun off h => KTri.load hE .tab (by decide) _ _
  have hs : ∀ r w, KTri (F := F) E (gStore (E.V .gbuf) t3 r w) (fun _ => True) := fun r w =>
    KTri.bind (KTri.load hE .gbuf (by decide) _ _) fun _ _ => KTri.store hE .gbuf (by decide) rfl _ _ _ _ _
  have hh : ∀ h a b c d, KTri (F := F) E (gHalf (E.V .gbuf) t3 h a b c d) (fun _ => True) := fun h a b c d =>
    KTri.bind (hs _ _) fun _ _ => KTri.bind (hs _ _) fun _ _ => KTri.bind (hs _ _) fun _ _ => hs _ _
  have hm : ∀ off h c, KTri (F := F) E (gMeta (E.V .mtab) (E.V .mbuf) t3 off h c) (fun _ => True) := fun off h c =>
    KTri.bind (KTri.load hE .mtab (by decide) _ _) fun _ _ => KTri.bind (KTri.load hE .mbuf (by decide) _ _) fun _ _ =>
      KTri.store hE .mbuf (by decide) rfl _ _ _ _ _
  have hw : ∀ c, KTri (F := F) E (gWord i (E.V .ord) t3 c) _ := fun c => KTri.word hE _ _ _
  refine KTri.bind (hw 0) fun v0 h0 => KTri.bind (KTri.assume (chk1_of _ h0)) fun _ _ => ?_
  refine KTri.bind (hw 1) fun v1 h1 => KTri.bind (KTri.assume (chk2_of _ h1)) fun _ _ => ?_
  refine KTri.bind (hw 2) fun v2 h2 => KTri.bind (KTri.assume (chk3_of _ h2)) fun _ _ => ?_
  refine KTri.bind (hw 3) fun v3 h3 => KTri.bind (KTri.assume (chk4_of _ h3)) fun _ _ => ?_
  refine KTri.bind (hl _ _) fun _ _ => KTri.bind (hl _ _) fun _ _ => KTri.bind (hl _ _) fun _ _ => KTri.bind (hl _ _) fun _ _ => ?_
  refine KTri.bind (hh _ _ _ _ _) fun _ _ => ?_
  refine KTri.bind (hl _ _) fun _ _ => KTri.bind (hl _ _) fun _ _ => KTri.bind (hl _ _) fun _ _ => KTri.bind (hl _ _) fun _ _ => ?_
  refine KTri.bind (hh _ _ _ _ _) fun _ _ => ?_
  exact KTri.bind (hm _ _ _) fun _ _ => KTri.bind (hm _ _ _) fun _ _ => KTri.bind (hm _ _ _) fun _ _ => hm _ _ _

/-! ## The factors -/

theorem KTri.stA (hE : Fit E) (h : Fin 2) (x : FVec F S128x128 .f32) : KTri (F := F) E (stA (E.V .arow) h x) (fun _ => True) :=
  KTri.bind (KTri.load hE .arow (by decide) _ _) fun _ _ => KTri.store hE .arow (by decide) rfl _ _ _ _ _

theorem KTri.picks (hE : Fit E) (h : Fin 2) : KTri (F := F) E (picks (E.V .ordv) (E.V .sc) (E.V .mbuf) (E.V .arow) h) (fun _ => True) :=
  KTri.bind (KTri.load hE .mbuf (by decide) _ _) fun _ _ => KTri.bind (KTri.load hE .ordv (by decide) _ _) fun _ _ =>
  KTri.bind (KTri.load hE .sc (by decide) _ _) fun _ _ => KTri.bind (KTri.store hE .sc (by decide) rfl _ _ _ _ _) fun _ _ =>
  KTri.bind (KTri.stA hE h _) fun _ _ => KTri.pure trivial

/-! ## The sweep -/

/-- Between two trips: nothing staged, and nothing beyond the rows in use. -/
def Tidy (M : Mxu F) : Prop := (∀ q r, M.reg q r = none) ∧ ∀ q (R : Fin 1024), 256 ≤ R.val → M.live q R = false

/-- Within a trip: both units loaded besides. -/
def Loaded (M : Mxu F) : Prop := Tidy M ∧ ∀ q, (M.gmr q).isSome = true

theorem tidy_accBy (M : Mxu F) (h : Tidy M) (u : Fin 2) (t : Mxu.Staged F) (q : Fin 8) (x : FVec F S32x256 .bf16) :
    Tidy (M.accBy u t (8 * q.val) x (fits q)) := by
  refine ⟨h.1, fun u' R hR => ?_⟩
  show (if u' = u ∧ 4 * (8 * q.val) ≤ R.val ∧ R.val < 4 * (8 * q.val) + 32 then true else M.live u' R) = false
  have := q.2
  rw [if_neg (by omega)]
  exact h.2 u' R hR

theorem KTri.cell (hE : Fit E) (h8 : (E.V .de).IsWhole) (t4 : Fin k0_t4_loop.trips) (q : Fin 8) (al : FVec F S32x128 .f32) (c : Fin 4) :
    KTri (F := F) E (cell (E.V .e) (E.V .de) h8 (E.V .gbuf) t4 q al c) (fun _ => True) :=
  KTri.bind (KTri.load hE .gbuf (by decide) _ _) fun _ _ => KTri.bind (KTri.load hE .e (by decide) _ _) fun _ _ =>
  KTri.bind (KTri.load hE .de (by decide) _ _) fun _ _ => KTri.bind (KTri.store hE .de (by decide) rfl _ _ _ _ _) fun _ _ => KTri.pure trivial

theorem KTri.accLhsLoaded (M : Mxu F) (hM : Loaded M) (u : Fin 2) (q : Fin 8) (x : FVec F S32x256 .bf16) :
    KTri (F := F) E (M.accLhsLoaded u (8 * q.val) x (fits q)) Loaded :=
by
  unfold Mxu.accLhsLoaded
  exact KTri.assumed (hM.2 u) fun hl => KTri.pure ⟨tidy_accBy M hM.1 u _ q x, hM.2⟩

theorem KTri.pushRhs (M : Mxu F) (u : Fin 2) (h : M.reg u 0 = none) (x : FVec F S256x256 .bf16) :
    KTri (F := F) E (M.pushRhs u 0 false x) (fun M' => M' = M.pushed u 0 false x) :=
by
  unfold Mxu.pushRhs
  exact KTri.assumed (by intro t ht; rw [h] at ht; cases ht) fun _ => KTri.pure rfl

theorem pushed_of_none (M : Mxu F) (u r : Fin 2) (h : M.reg u r = none) (tr : Bool) {φ : FTy} (x : FVec F (Mxu.STile 256) φ) :
    (M.pushed u r tr x).live = M.live ∧ ∀ u' r', (u' ≠ u ∨ r' ≠ r) → (M.pushed u r tr x).reg u' r' = M.reg u' r' := by
  unfold Mxu.pushed
  rw [h]
  refine ⟨rfl, fun u' r' hn => ?_⟩
  show (if u' = u ∧ r' = r then _ else M.reg u' r') = _
  rw [if_neg (by rintro ⟨h1, h2⟩; cases hn <;> contradiction)]

theorem KTri.sweep (hE : Fit E) (h8 : (E.V .de).IsWhole) (t4 : Fin k0_t4_loop.trips) (M : Mxu F) (hM : Tidy M) :
    KTri (F := F) E (sweep (E.V .e) (E.V .de) h8 (E.V .gbuf) (E.V .arow) t4 M) Tidy := by
  have hc := fun q al c => KTri.cell (F := F) hE h8 t4 q al c
  have ha : ∀ q, KTri (F := F) E (ldA (E.V .arow) q) (fun _ => True) := fun q => KTri.load hE .arow (by decide) _ _
  refine KTri.bind (KTri.pushRhs M 0 (hM.1 0 0) _) ?_
  rintro M1 rfl
  have p1 := pushed_of_none M 0 0 (hM.1 0 0) false (tile (F := F) t4 0#32)
  refine KTri.bind (KTri.pushRhs _ 1 ((p1.2 1 0 (.inl (by decide))).trans (hM.1 1 0)) _) ?_
  rintro M2 rfl
  have p2 := pushed_of_none _ 1 0 ((p1.2 1 0 (.inl (by decide))).trans (hM.1 1 0)) false (tile (F := F) t4 2#32)
  refine KTri.bind (Q := Loaded) ?_ fun M3 h3 => (KTri.upTo _ Loaded (fun q M' h' => ?_) M3 h3).mono fun _ h => h.1
  · refine KTri.bind (ha 0) fun al _ => KTri.bind (hc _ _ _) fun x _ => KTri.bind (hc _ _ _) fun y _ => KTri.bind (hc _ _ _) fun z _ => KTri.bind (hc _ _ _) fun w _ => KTri.pure ?_
    refine ⟨⟨fun u r => ?_, fun u R hR => ?_⟩, fun u => ?_⟩
    · show (if u = 1 ∧ r = 0 then none else if u = 0 ∧ r = 0 then none else Mxu.reg (Mxu.pushed _ 1 0 false _) u r) = none
      split
      · rfl
      · rename_i n1
        split
        · rfl
        · rename_i n0
          rw [p2.2 u r (by by_contra hh; push Not at hh; exact n1 hh), p1.2 u r (by by_contra hh; push Not at hh; exact n0 hh)]
          exact hM.1 u r
    · show (if u = 1 ∧ 4 * (8 * (0 : Fin 8).val) ≤ R.val ∧ R.val < 4 * (8 * (0 : Fin 8).val) + 32 then true else
        if u = 0 ∧ 4 * (8 * (0 : Fin 8).val) ≤ R.val ∧ R.val < 4 * (8 * (0 : Fin 8).val) + 32 then true else Mxu.live (Mxu.pushed _ 1 0 false _) u R) = false
      have : (0 : Fin 8).val = 0 := rfl
      rw [if_neg (by omega), if_neg (by omega), p2.1, p1.1]
      exact hM.2 u R hR
    · match u with
      | 0 => rfl
      | 1 => rfl
  · refine KTri.bind (ha _) fun al _ => KTri.bind (hc _ _ _) fun x _ => KTri.bind (hc _ _ _) fun y _ => ?_
    refine KTri.bind (KTri.accLhsLoaded M' h' 0 q.succ _) fun M4 h4 => ?_
    refine KTri.bind (hc _ _ _) fun z _ => KTri.bind (hc _ _ _) fun w _ => ?_
    exact KTri.accLhsLoaded M4 h4 1 q.succ _

theorem drained (M : Mxu F) (h : Tidy M) : (pops (pops (pops (pops (pops (pops (pops (pops M 0) 1) 2) 3) 4) 5) 6) 7).Drained := by
  have hp : ∀ (M : Mxu F) (q : Fin 8) u (R : Fin 1024), (pops M q).live u R = if 32 * q.val ≤ R.val ∧ R.val < 32 * q.val + 32 then false else M.live u R := by
    intro M q u R
    show (if u = 1 ∧ 4 * (8 * q.val) ≤ R.val ∧ R.val < 4 * (8 * q.val) + 32 then false else if u = 0 ∧ 4 * (8 * q.val) ≤ R.val ∧ R.val < 4 * (8 * q.val) + 32 then false else M.live u R) = _
    have hu : u = 0 ∨ u = 1 := by omega
    have e : 4 * (8 * q.val) = 32 * q.val := by omega
    rw [e]
    rcases hu with rfl | rfl <;> simp
  refine ⟨fun u r => ?_, fun u R => ?_⟩
  · show (M.reg u r).isNone = true
    rw [h.1 u r]; rfl
  · simp only [hp]
    by_cases hR : 256 ≤ R.val
    · simp [h.2 u R hR]
    · simp only [Fin.isValue, show ((0 : Fin 8).val) = 0 from rfl, show ((1 : Fin 8).val) = 1 from rfl, show ((2 : Fin 8).val) = 2 from rfl, show ((3 : Fin 8).val) = 3 from rfl, show ((4 : Fin 8).val) = 4 from rfl, show ((5 : Fin 8).val) = 5 from rfl, show ((6 : Fin 8).val) = 6 from rfl, show ((7 : Fin 8).val) = 7 from rfl]
      repeat' split
      all_goals first | rfl | omega

theorem KTri.stDots (hE : Fit E) (h : Fin 2) (a b c d : FVec F S32x128 .f32) (s : FVec F S1x128 .f32) :
    KTri (F := F) E (stDots (E.V .es) (E.V .arow) h a b c d s) (fun _ => True) :=
  KTri.bind (KTri.load hE .es (by decide) _ _) fun _ _ => KTri.stA hE h _

theorem KTri.scatter (hE : Fit E) (t5 : Fin k0_t5_loop.trips) :
    KTri (F := F) E (scatter i (E.V .ord) (E.V .arow) (E.V .dgs) t5) (fun _ => True) := by
  have hs : ∀ oA hA v oB hB, KTri (F := F) E (sStore (E.V .arow) (E.V .dgs) oA hA v oB hB) (fun _ => True) := fun oA hA v oB hB =>
    KTri.bind (KTri.load hE .arow (by decide) _ _) fun _ _ => KTri.bind (KTri.load hE .dgs (by decide) _ _) fun _ _ =>
      KTri.store hE .dgs (by decide) rfl _ _ _ _ _
  refine KTri.bind (KTri.word hE _ _ _) fun v h => KTri.bind (KTri.assume (chk5_of v h)) fun _ _ => KTri.bind (hs _ _ _ _ _) fun _ _ => ?_
  refine KTri.bind (KTri.word hE _ _ _) fun v h => KTri.bind (KTri.assume (chk5_of v h)) fun _ _ => KTri.bind (hs _ _ _ _ _) fun _ _ => ?_
  refine KTri.bind (KTri.word hE _ _ _) fun v h => KTri.bind (KTri.assume (chk5_of v h)) fun _ _ => KTri.bind (hs _ _ _ _ _) fun _ _ => ?_
  refine KTri.bind (KTri.word hE _ _ _) fun v h => KTri.bind (KTri.assume (chk5_of v h)) fun _ _ => KTri.bind (hs _ _ _ _ _) fun _ _ => ?_
  refine KTri.bind (KTri.word hE _ _ _) fun v h => KTri.bind (KTri.assume (chk5_of v h)) fun _ _ => KTri.bind (hs _ _ _ _ _) fun _ _ => ?_
  refine KTri.bind (KTri.word hE _ _ _) fun v h => KTri.bind (KTri.assume (chk5_of v h)) fun _ _ => KTri.bind (hs _ _ _ _ _) fun _ _ => ?_
  refine KTri.bind (KTri.word hE _ _ _) fun v h => KTri.bind (KTri.assume (chk5_of v h)) fun _ _ => KTri.bind (hs _ _ _ _ _) fun _ _ => ?_
  exact KTri.bind (KTri.word hE _ _ _) fun v h => KTri.bind (KTri.assume (chk5_of v h)) fun _ _ => hs _ _ _ _ _

theorem KTri.finish (hE : Fit E) (s0 s1 : FVec F S1x128 .f32) (M : Mxu F) (hM : Tidy M) :
    KTri (F := F) E (finish i (E.V .ord) (E.V .es) (E.V .dg) (E.V .arow) (E.V .dgs) s0 (half s1 M)) (fun _ => True) := by
  refine KTri.bind (KTri.stDots hE _ _ _ _ _ _) fun _ _ => KTri.bind (KTri.stDots hE _ _ _ _ _ _) fun _ _ => ?_
  refine KTri.bind (KTri.loop _ _ _ _ (fun _ => True) (fun t5 _ _ => KTri.scatter i hE t5) trivial) fun _ _ => ?_
  have hx : KTri (F := F) E ((pops (pops (pops (pops (pops (pops (half s1 M).2.2.2.2 2) 3) 4) 5) 6) 7).exit >>= fun _ => Pure.pure PUnit.unit) (fun _ => True) := by
    unfold Mxu.exit
    exact KTri.assumed (drained M hM) fun _ => KTri.pure trivial
  by_cases h3 : k0_cond3 i = 1#1
  · rw [dif_pos h3]
    exact KTri.bind (KTri.upTo _ (fun _ => True) (fun k _ _ => KTri.bind (KTri.load hE .dgs (by decide) _ _) fun _ _ =>
      KTri.bind (KTri.load hE .dg (by decide) _ _) fun _ _ => KTri.store hE .dg (by decide) rfl _ _ _ _ _) () trivial) fun _ _ => hx
  · rw [dif_neg h3]
    exact hx

theorem KTri.rest (hE : Fit E) (h8 : (E.V .de).IsWhole) :
    KTri (F := F) E (rest i (E.V .ord) (E.V .ordv) (E.V .e) (E.V .es) (E.V .de) h8 (E.V .sc) (E.V .dg) (E.V .tab) (E.V .mtab) (E.V .gbuf) (E.V .mbuf) (E.V .arow) (E.V .dgs)) (fun _ => True) := by
  refine KTri.bind (KTri.loop _ _ _ _ (fun _ => True) (fun t3 _ _ => KTri.gather i hE t3) trivial) fun _ _ => ?_
  refine KTri.bind (KTri.picks hE 0) fun s0 _ => ?_
  refine KTri.bind (Q := fun r => ∃ s1 M, Tidy M ∧ r = half s1 M) ?_ ?_
  · refine KTri.bind (KTri.picks hE 1) fun s1 _ => ?_
    refine KTri.bind (KTri.loop _ _ _ _ Tidy (fun t4 M hM => KTri.sweep hE h8 t4 M hM) ⟨fun _ _ => rfl, fun _ _ _ => rfl⟩) fun M hM => ?_
    exact KTri.pure ⟨s1, M, hM, rfl⟩
  · rintro _ ⟨s1, M, hM, rfl⟩
    exact KTri.finish i hE s0 s1 M hM

end Cert.KernelIdeal.Own
end
end
-- ==== Proof.Copies.lean ====
module

public import proofs.«01_k».proof.Proof.Keep
public import Idealize.ShloMosaic.Lib.Pipeline.Value
public import Idealize.ShloMosaic.Lib.Transfers
public import Idealize.ShloMosaic.Lib.Tactic

@[expose] public section

/-! The copies into the two halves of the staging buffer: one batch of 256 rows in flight while the other is read. -/

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Where the copies go -/

def offCell (p : Fin 2) : Fin 1 → Nat := ![p.val]
def offHalf (p : Fin 2) : Fin 3 → Nat := ![p.val, 0, 0]
def offRows (r : Fin 8) : Fin 2 → Nat := ![256 * r.val, 0]

theorem offCell_inb (p : Fin 2) : ∀ a, offCell p a + S1.size a ≤ S2.size a := by revert p; decide
theorem offHalf_inb (p : Fin 2) : ∀ a, offHalf p a + S1x256x7168.size a ≤ S2x256x7168.size a := by revert p; decide
theorem offRows_inb (r : Fin 8) : ∀ a, offRows r a + S256x7168.size a ≤ S2048x7168.size a := by revert r; decide

/-- The half batch `r` lands in. -/
def par (r : Nat) : Fin 2 := ⟨r % 2, Nat.mod_lt _ (by decide)⟩

theorem off1_eq : ∀ t1 : Fin k0_t1_loop.trips, k0_off1 t1 = offCell (par (t1.val + 1)) := by decide
theorem off2_eq : ∀ t1 : Fin k0_t1_loop.trips, k0_off2 t1 = offHalf (par (t1.val + 1)) := by decide
theorem off3_eq : ∀ (t1 : Fin k0_t1_loop.trips) (h : t1.val + 1 < 8), k0_off3 t1 = offRows ⟨t1.val + 1, h⟩ := by decide
theorem off4_eq : ∀ t1 : Fin k0_t1_loop.trips, k0_off4 t1 = offCell (par t1.val) := by decide
theorem off5_eq : ∀ t1 : Fin k0_t1_loop.trips, k0_off5 t1 = offHalf (par t1.val) := by decide
theorem cond2_iff : ∀ t1 : Fin k0_t1_loop.trips, k0_cond2 t1 = 1#1 ↔ t1.val + 1 < 8 := by decide

/-- The elements of a half. -/
def halfSet (p : Fin 2) : Finset S2x256x7168.Idx := (Rect.unit (s := S2x256x7168) (offHalf p) S1x256x7168.size (offHalf_inb p)).set

section
variable (c : Dev nD) (𝒱 : Variants) (arg7 : Memref sig .tc .hbm S2048x7168 .i8) (arg17 : Memref sig .tc .vmem S2x256x7168 .i8) (arg18 : DmaSems sig S2)
variable (q : Fin 2 → PosShare TreeShare) (fs : Buf (Elt F) (arg7.view.loc (c : Thread nD τ)))

abbrev theDst (p : Fin 2) := dDst arg17 (offHalf p) (offHalf_inb p)
abbrev theSrc (r : Fin 8) := dSrc arg7 (offRows r) (offRows_inb r)
abbrev theSem (p : Fin 2) : DmaSem sig := dSem arg18 (offCell p) (offCell_inb p)

/-- A half nothing is in flight to: its elements, its share of the source, its counter at zero. -/
def Free (p : Fin 2) : sProp 𝕄 :=
  iprop((∃ f, (theDst arg17 p).view.loc (c : Thread nD τ) ↦[(theDst arg17 p).view.set]{fullShare} f)
    ∗ (arg7.view.loc (c : Thread nD τ) ↦{q p} fs) ∗ semVal ((c : Thread nD τ), .dma (theSem arg18 p)) 0)

/-- A half batch `r` is in flight to. -/
def Busy (p : Fin 2) (r : Fin 8) : sProp 𝕄 :=
  iprop((∃ fd, Transfers.Flight (countersEmb (U := Pipeline.UD sig nD τ)) (c : Thread nD τ) (.dma (theSem arg18 p)) () ((theDst arg17 p).view.dmaCredit)
      iprop(((theDst arg17 p).view.loc (c : Thread nD τ) ↦[(theDst arg17 p).view.set]{fullShare}
          ((theDst arg17 p).view.write (Elt F) fd ((theSrc arg7 r).view.read (Elt F) fs) Finset.univ))
        ∗ ((theSrc arg7 r).view.loc (c : Thread nD τ) ↦[(theSrc arg7 r).view.set]{q p} fs)))
    ∗ (arg7.view.loc (c : Thread nD τ) ↦[Finset.univ \ (theSrc arg7 r).view.set]{q p} fs))

theorem src_split (Q : PosShare TreeShare) (r : Fin 8) : (arg7.view.loc (c : Thread nD τ) ↦{Q} fs : sProp 𝕄)
    ⊣⊢ iprop(((theSrc arg7 r).view.loc (c : Thread nD τ) ↦[(theSrc arg7 r).view.set]{Q} fs) ∗ (arg7.view.loc (c : Thread nD τ) ↦[Finset.univ \ (theSrc arg7 r).view.set]{Q} fs)) :=
  pointsTo_split_subset (Finset.subset_univ _)

theorem wp_issue (p : Fin 2) (r : Fin 8) {hsrc : (theSrc arg7 r).view.WordExact} {hdst : (theDst arg17 p).view.WordExact} {hsem}
    (k : PUnit → Prog (TpuEff nD τ sig (Elt F) Λ₀ .tc) PUnit) (Q : PUnit → sProp 𝕄) :
    Free c arg7 arg17 arg18 q fs p ⊢ iprop((Busy c arg7 arg17 arg18 q fs p r -∗ wp frame (wpE (defs₀ (F := F)) 𝒱 (c : Thread nD τ) none) Set.univ (k ⟨⟩) Q)
      -∗ wp frame (wpE (defs₀ (F := F)) 𝒱 (c : Thread nD τ) none) Set.univ
        (.op (.enqueueDma (theSrc arg7 r) (.here (theDst arg17 p)) (.dma (theSem arg18 p)) hsrc hdst hsem) k) Q) := by
  unfold Free
  iintro ⟨⟨%fd, Hd⟩, Hs, Hv⟩ Hk
  ihave H := (src_split c arg7 fs (q p) r).1 $$ Hs
  icases H with ⟨Hs, Hr⟩
  iapply (Transfers.wp_dmaLocal countersEmb 𝒱 (c : Thread nD τ) none () ((theDst arg17 p).view.dmaCredit) rfl (View.dmaCredit_pos _ (by decide)) (Finset.Subset.refl _)) $$ [Hs Hd Hv]
  · isplitl [Hs]; · iexact Hs
    isplitl [Hd]; · iexact Hd
    iexact Hv
  iintro Hf
  iapply Hk
  unfold Busy
  isplitl [Hf]
  · iexists fd; iexact Hf
  iexact Hr

/-- What waiting hands back: the half at the batch's rows, the share of the source, the counter at zero. -/
def Landed (p : Fin 2) (r : Fin 8) : sProp 𝕄 :=
  iprop((∃ f, ⌜(theDst arg17 p).view.read (Elt F) f = (theSrc arg7 r).view.read (Elt F) fs⌝
      ∗ (theDst arg17 p).view.loc (c : Thread nD τ) ↦[(theDst arg17 p).view.set]{fullShare} f)
    ∗ (arg7.view.loc (c : Thread nD τ) ↦{q p} fs) ∗ semVal ((c : Thread nD τ), .dma (theSem arg18 p)) 0)

theorem wp_await (p : Fin 2) (r : Fin 8) (W : Waits sig Unit) {srcw : Memref sig .tc .hbm S256x7168 .i8} {hsrc : srcw.view.WordExact} {hdst : (theDst arg17 p).view.WordExact}
    (k : PUnit → Prog (TpuEff nD τ sig (Elt F) Λ₀ .tc) PUnit) (Q : PUnit → sProp 𝕄) :
    iprop(Busy c arg7 arg17 arg18 q fs p r ∗ owes (c : Thread nD τ) 0 W)
    ⊢ iprop((iprop(Landed c arg7 arg17 arg18 q fs p r ∗ ∃ W', owes (c : Thread nD τ) 0 W') -∗ wp frame (wpE (defs₀ (F := F)) 𝒱 (c : Thread nD τ) none) Set.univ (k ⟨⟩) Q)
      -∗ wp frame (wpE (defs₀ (F := F)) 𝒱 (c : Thread nD τ) none) Set.univ
        (.op (.waitDma2 (theSem arg18 p) srcw (theDst arg17 p) hsrc hdst) k) Q) := by
  unfold Busy
  iintro ⟨⟨⟨%fd, Hf⟩, Hr⟩, HO⟩ Hk
  iapply (Transfers.wp_waitLocal countersEmb 𝒱 (c : Thread nD τ) none () rfl) $$ [Hf HO]
  · isplitl [Hf]; · iexact Hf
    iexact HO
  iintro ⟨⟨Hd, Hs⟩, Hv, HO⟩
  iapply Hk
  isplitr [HO]
  · unfold Landed
    isplitl [Hd]
    · iexists _
      isplitr; swap; · iexact Hd
      ipureintro
      exact View.read_write_univ _ _
    isplitr [Hv]
    · iapply (src_split c arg7 fs (q p) r).2
      isplitl [Hs]; · iexact Hs
      iexact Hr
    iexact Hv
  iexists _; iexact HO

theorem wp_issue_at (p : Fin 2) (r : Fin 8) (o1 : Fin 1 → Nat) (h1 : ∀ a, o1 a + S1.size a ≤ S2.size a) (o2 : Fin 3 → Nat) (h2 : ∀ a, o2 a + S1x256x7168.size a ≤ S2x256x7168.size a)
    (o3 : Fin 2 → Nat) (h3 : ∀ a, o3 a + S256x7168.size a ≤ S2048x7168.size a) (e1 : o1 = offCell p) (e2 : o2 = offHalf p) (e3 : o3 = offRows r)
    {hsrc : (dSrc arg7 o3 h3).view.WordExact} {hdst : (dDst arg17 o2 h2).view.WordExact} {hsem}
    (k : PUnit → Prog (TpuEff nD τ sig (Elt F) Λ₀ .tc) PUnit) (Q : PUnit → sProp 𝕄) :
    Free c arg7 arg17 arg18 q fs p ⊢ iprop((Busy c arg7 arg17 arg18 q fs p r -∗ wp frame (wpE (defs₀ (F := F)) 𝒱 (c : Thread nD τ) none) Set.univ (k ⟨⟩) Q)
      -∗ wp frame (wpE (defs₀ (F := F)) 𝒱 (c : Thread nD τ) none) Set.univ
        (.op (.enqueueDma (dSrc arg7 o3 h3) (.here (dDst arg17 o2 h2)) (.dma (dSem arg18 o1 h1)) hsrc hdst hsem) k) Q) := by
  subst e1 e2 e3
  exact wp_issue c 𝒱 arg7 arg17 arg18 q fs p r k Q

theorem wp_await_at (p : Fin 2) (r : Fin 8) (o1 : Fin 1 → Nat) (h1 : ∀ a, o1 a + S1.size a ≤ S2.size a) (o2 : Fin 3 → Nat) (h2 : ∀ a, o2 a + S1x256x7168.size a ≤ S2x256x7168.size a)
    (e1 : o1 = offCell p) (e2 : o2 = offHalf p)
    (W : Waits sig Unit) {srcw : Memref sig .tc .hbm S256x7168 .i8} {hsrc : srcw.view.WordExact} {hdst : (dDst arg17 o2 h2).view.WordExact}
    (k : PUnit → Prog (TpuEff nD τ sig (Elt F) Λ₀ .tc) PUnit) (Q : PUnit → sProp 𝕄) :
    iprop(Busy c arg7 arg17 arg18 q fs p r ∗ owes (c : Thread nD τ) 0 W)
    ⊢ iprop((iprop(Landed c arg7 arg17 arg18 q fs p r ∗ ∃ W', owes (c : Thread nD τ) 0 W') -∗ wp frame (wpE (defs₀ (F := F)) 𝒱 (c : Thread nD τ) none) Set.univ (k ⟨⟩) Q)
      -∗ wp frame (wpE (defs₀ (F := F)) 𝒱 (c : Thread nD τ) none) Set.univ
        (.op (.waitDma2 (dSem arg18 o1 h1) srcw (dDst arg17 o2 h2) hsrc hdst) k) Q) := by
  subst e1 e2
  exact wp_await c 𝒱 arg7 arg17 arg18 q fs p r W k Q

theorem dst_set (p : Fin 2) : (theDst arg17 p).view.set = arg17.view.setOn (halfSet p) := by
  show ((arg17.view.slice _).reshape _ _).set = _
  rw [View.set_reshape, View.set_slice]
  rfl

theorem halfCasts : S1x256x7168.ShapeCasts S256x7168 := by decide

/-- The half reads the batch's rows. -/
def Landing (p : Fin 2) (r : Fin 8) (X : S2x256x7168.Idx → Elt F .i8) : Prop :=
  ∀ x, shapeCast S256x7168 (fun x : S1x256x7168.Idx => X ((Rect.unit (s := S2x256x7168) (offHalf p) S1x256x7168.size (offHalf_inb p)).toLoadRect.idx x)) halfCasts x
    = (theSrc arg7 r).view.read (Elt F) fs x
end

/-! ## The buffers with and without the half -/

section
variable (c : Dev nD) (𝒱 : Variants) (V : (j : Slot) → Memref sig .tc j.sp j.sh j.el) (qs : Slot → PosShare TreeShare)

/-- The buffers of a call, of the staging buffer the elements `D`. -/
@[reducible] def mkE (D : Finset S2x256x7168.Idx) : Env where
  c := c
  V := V
  D := fun j => match j with
    | .stage => D
    | _ => Finset.univ
  q := qs
  𝒱 := 𝒱

theorem own_stage (D : Finset S2x256x7168.Idx) (σ : St F) : own (mkE c 𝒱 V qs D) σ
    = iprop(ownsOn c (V .stage) D (qs .stage) (σ .stage) ∗ bigSep (Finset.univ.erase Slot.stage) fun k => ownsOn c (V k) Finset.univ (qs k) (σ k)) := by
  unfold own
  rw [bigSep_univ_split Slot.stage, bigSep_congr (s := Finset.univ.erase Slot.stage) (Ψ := fun k => ownsOn c (V k) Finset.univ (qs k) (σ k))
    fun k hk => by
      have := Finset.ne_of_mem_erase hk
      cases k <;> first | rfl | exact absurd rfl this]
  rfl

theorem own_update (D : Finset S2x256x7168.Idx) (σ : St F) (X : S2x256x7168.Idx → Elt F .i8) : own (mkE c 𝒱 V qs D) (Function.update σ .stage X)
    = iprop(ownsOn c (V .stage) D (qs .stage) X ∗ bigSep (Finset.univ.erase Slot.stage) fun k => ownsOn c (V k) Finset.univ (qs k) (σ k)) := by
  rw [own_stage, Function.update_self, bigSep_congr (s := Finset.univ.erase Slot.stage) (Ψ := fun k => ownsOn c (V k) Finset.univ (qs k) (σ k))
    fun k hk => by rw [Function.update_of_ne (Finset.ne_of_mem_erase hk)]]

theorem ownsOn_none (D : Finset S2x256x7168.Idx) (X : S2x256x7168.Idx → Elt F .i8) :
    ownsOn c (V .stage) D (qs .stage) X ⊢ iprop(ownsOn c (V .stage) ∅ (qs .stage) X ∗ ownsOn c (V .stage) D (qs .stage) X) := by
  have h0 : ∀ f, ((V .stage).view.loc (c : Thread nD τ) ↦[(V .stage).view.setOn ∅]{qs .stage} f : sProp 𝕄) = iprop(emp) := fun f => pointsTo_empty
  unfold ownsOn
  iintro ⟨%f, %hf, H⟩
  isplitr
  · iexists f
    isplitr
    · ipureintro; intro y hy; cases hy
    iapply (Entails.of_eq (h0 f).symm)
    iempintro
  iexists f
  isplitr; · ipureintro; exact hf
  iexact H

theorem stage_in (D : Finset S2x256x7168.Idx) (σ : St F) (X : S2x256x7168.Idx → Elt F .i8) :
    iprop(own (mkE c 𝒱 V qs ∅) σ ∗ ownsOn c (V .stage) D (qs .stage) X) ⊢ own (mkE c 𝒱 V qs D) (Function.update σ .stage X) := by
  rw [own_stage, own_update]
  iintro ⟨⟨-, H⟩, HX⟩
  isplitl [HX]; · iexact HX
  iexact H

theorem stage_out (D : Finset S2x256x7168.Idx) (σ : St F) :
    own (mkE c 𝒱 V qs D) σ ⊢ iprop(own (mkE c 𝒱 V qs ∅) σ ∗ ownsOn c (V .stage) D (qs .stage) (σ .stage)) := by
  rw [own_stage, own_stage]
  iintro ⟨HX, H⟩
  ihave HX' := (ownsOn_none c V qs D (σ .stage)) $$ HX
  icases HX' with ⟨H0, HX⟩
  isplitl [H H0]
  · isplitl [H0]; · iexact H0
    iexact H
  iexact HX

end
end Cert.KernelIdeal.Own
end
end
-- ==== Proof.Prologue.lean ====
module

public import proofs.«01_k».proof.Proof.Copies

@[expose] public section

/-! The first step's prologue: the eight batches of rows brought in and put into the table. -/

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (i : grid0.Coords) (c : Dev nD) (𝒱 : Variants) (V : (j : Slot) → Memref sig .tc j.sp j.sh j.el) (qs : Slot → PosShare TreeShare)
  (arg7 : Memref sig .tc .hbm S2048x7168 .i8) (harg7 : arg7.IsWhole) (harg17 : (V .stage).IsWhole) (arg18 : DmaSems sig S2)
  (q : Fin 2 → PosShare TreeShare) (fs : Buf (Elt F) (arg7.view.loc (c : Thread nD τ)))

theorem landing_of_read (p : Fin 2) (r : Fin 8) (f : Buf (Elt F) ((V .stage).view.loc (c : Thread nD τ)))
    (hf : (theDst (V .stage) p).view.read (Elt F) f = (theSrc arg7 r).view.read (Elt F) fs) : Landing c arg7 fs p r ((V .stage).view.read (Elt F) f) := by
  rw [show (theDst (V .stage) p).view.read (Elt F) f = _ from Memref.read_squeeze_slice _ _ _ squeezes_S1x256x7168_S256x7168 halfCasts _] at hf
  exact fun x => congrFun hf x

/-- The half as the body reads it, and as the copies hold it. -/
theorem landed_owns (hq : qs .stage = fullShare) (p : Fin 2) (r : Fin 8) :
    Landed c arg7 (V .stage) arg18 q fs p r ⊢ iprop(∃ X, ⌜Landing c arg7 fs p r X⌝ ∗ ownsOn c (V .stage) (halfSet p) (qs .stage) X
      ∗ (arg7.view.loc (c : Thread nD τ) ↦{q p} fs) ∗ semVal ((c : Thread nD τ), .dma (theSem arg18 p)) 0) := by
  unfold Landed ownsOn
  rw [dst_set, hq]
  iintro ⟨⟨%f, %hf, Hd⟩, Hs, Hv⟩
  iexists (V .stage).view.read (Elt F) f
  isplitr; · ipureintro; exact landing_of_read c V arg7 fs p r f hf
  isplitl [Hd]
  · iexists f
    isplitr; · ipureintro; exact fun _ _ => rfl
    iexact Hd
  isplitl [Hs]; · iexact Hs
  iexact Hv

theorem free_of_owns (hq : qs .stage = fullShare) (p : Fin 2) (X : S2x256x7168.Idx → Elt F .i8) :
    iprop(ownsOn c (V .stage) (halfSet p) (qs .stage) X ∗ (arg7.view.loc (c : Thread nD τ) ↦{q p} fs) ∗ semVal ((c : Thread nD τ), .dma (theSem arg18 p)) 0)
      ⊢ Free c arg7 (V .stage) arg18 q fs p := by
  unfold Free ownsOn
  rw [dst_set, hq]
  iintro ⟨⟨%f, -, Hd⟩, Hs, Hv⟩
  isplitl [Hd]; · iexists f; iexact Hd
  isplitl [Hs]; · iexact Hs
  iexact Hv

/-- Batch `k` in flight, or after the last nothing. -/
def Coming (k : Nat) : sProp 𝕄 :=
  if h : k < 8 then Busy c arg7 (V .stage) arg18 q fs (par k) ⟨k, h⟩ else Free c arg7 (V .stage) arg18 q fs (par k)

theorem coming_lt (k : Nat) (h : k < 8) : Coming c V arg7 arg18 q fs k = Busy c arg7 (V .stage) arg18 q fs (par k) ⟨k, h⟩ := dif_pos h
theorem coming_ge (k : Nat) (h : ¬ k < 8) : Coming c V arg7 arg18 q fs k = Free c arg7 (V .stage) arg18 q fs (par k) := dif_neg h

theorem par_add (k : Nat) : par (k + 1 + 1) = par k := Fin.ext (by show (k + 1 + 1) % 2 = k % 2; omega)

variable (I : Nat → St F → Prop)

/-- One batch. -/
theorem wp_batch (h1 : k0_cond1 i = 1#1) (hq : qs .stage = fullShare)
    (hI : ∀ k σ X, I k σ → I k (Function.update σ .stage X))
    (hf : ∀ (t1 : Fin k0_t1_loop.trips) (h : t1.val < 8) σ, I t1.val σ → Landing c arg7 fs (par t1.val) ⟨t1.val, h⟩ (σ .stage) →
      Tri (mkE c 𝒱 V qs (halfSet (par t1.val))) σ (fills i (V .s) (V .g) (V .tab) (V .mtab) (V .arow) (V .stage) h1 t1) (fun _ σ' => I (t1.val + 1) σ'))
    (t1 : Fin k0_t1_loop.trips) (K : PUnit → sProp 𝕄) :
    iprop((∃ σ, ⌜I t1.val σ⌝ ∗ own (mkE c 𝒱 V qs ∅) σ) ∗ Coming c V arg7 arg18 q fs t1.val ∗ Free c arg7 (V .stage) arg18 q fs (par (t1.val + 1)) ∗ (∃ W, owes (c : Thread nD τ) 0 W)
      ∗ (iprop((∃ σ, ⌜I (t1.val + 1) σ⌝ ∗ own (mkE c 𝒱 V qs ∅) σ) ∗ Coming c V arg7 arg18 q fs (t1.val + 1) ∗ Free c arg7 (V .stage) arg18 q fs (par (t1.val + 1 + 1)) ∗ (∃ W, owes (c : Thread nD τ) 0 W)) -∗ K ⟨⟩))
    ⊢ wp frame (wpE (defs₀ (F := F)) 𝒱 (c : Thread nD τ) none) Set.univ (batch i (V .s) (V .g) arg7 harg7 (V .tab) (V .mtab) (V .arow) (V .stage) harg17 arg18 h1 t1) K := by
  have ht : t1.val < 8 := t1.2
  -- after the issue
  have hrest : iprop((∃ σ, ⌜I t1.val σ⌝ ∗ own (mkE c 𝒱 V qs ∅) σ) ∗ Busy c arg7 (V .stage) arg18 q fs (par t1.val) ⟨t1.val, ht⟩ ∗ Coming c V arg7 arg18 q fs (t1.val + 1) ∗ (∃ W, owes (c : Thread nD τ) 0 W)
      ∗ (iprop((∃ σ, ⌜I (t1.val + 1) σ⌝ ∗ own (mkE c 𝒱 V qs ∅) σ) ∗ Coming c V arg7 arg18 q fs (t1.val + 1) ∗ Free c arg7 (V .stage) arg18 q fs (par (t1.val + 1 + 1)) ∗ (∃ W, owes (c : Thread nD τ) 0 W)) -∗ K ⟨⟩))
    ⊢ wp frame (wpE (defs₀ (F := F)) 𝒱 (c : Thread nD τ) none) Set.univ
      (await i arg7 harg7 (V .stage) harg17 arg18 h1 t1 >>= fun _ => fills i (V .s) (V .g) (V .tab) (V .mtab) (V .arow) (V .stage) h1 t1 >>= fun _ => (Pure.pure PUnit.unit : Prog (TpuEff nD τ sig (Elt F) Λ₀ .tc) PUnit)) K := by
    unfold await
    rw [wp_bind, Prog.lift_eq]
    iintro ⟨⟨%σ, %hσ, H⟩, HB, HN, ⟨%W, HO⟩, HK⟩
    iapply (wp_await_at c 𝒱 arg7 (V .stage) arg18 q fs (par t1.val) ⟨t1.val, ht⟩ _ _ _ _ (off4_eq t1) (off5_eq t1) W (srcw := dSrc arg7 (k0_off6 t1) (k0_off6_inb i t1 h1)) (hsrc := harg7.wordExact_slice rfl _ (k0_off6_wordsi8 i t1 h1)) (hdst := (harg17.wordExact_slice rfl _ (k0_off5_wordsi8 i t1 h1)).reshape _ _) _ _) $$ [HB HO]
    · isplitl [HB]; · iexact HB
      iexact HO
    iintro ⟨HL, HO⟩
    ihave HL' := (landed_owns c V qs arg7 arg18 q fs hq (par t1.val) ⟨t1.val, ht⟩) $$ HL
    icases HL' with ⟨%X, %hX, HX, Hs, Hv⟩
    rw [wp_ret]
    imodintro
    rw [wp_bind]
    have hl : Landing c arg7 fs (par t1.val) ⟨t1.val, ht⟩ (Function.update σ .stage X Slot.stage) := by rw [Function.update_self]; exact hX
    iapply (hf t1 ht (Function.update σ .stage X) (hI _ _ _ hσ) hl _) $$ [H HX]
    · iapply (stage_in c 𝒱 V qs (halfSet (par t1.val)) σ X)
      isplitl [H]; · iexact H
      iexact HX
    iintro %a %σ' %hσ' H
    ihave H' := (stage_out c 𝒱 V qs (halfSet (par t1.val)) σ') $$ H
    icases H' with ⟨H, HX⟩
    rw [show (Pure.pure PUnit.unit : Prog (TpuEff nD τ sig (Elt F) Λ₀ .tc) PUnit) = .ret PUnit.unit from rfl, wp_ret]
    imodintro
    iapply HK
    isplitl [H]
    · iexists σ'
      isplitr; · ipureintro; exact hσ'
      iexact H
    isplitl [HN]; · iexact HN
    isplitr [HO]
    · rw [par_add]
      iapply (free_of_owns c V qs arg7 arg18 q fs hq (par t1.val) (σ' .stage))
      isplitl [HX]; · iexact HX
      isplitl [Hs]; · iexact Hs
      iexact Hv
    iexact HO
  unfold batch
  by_cases h2 : k0_cond2 t1 = 1#1
  · have h8 := (cond2_iff t1).1 h2
    rw [dif_pos h2]
    show _ ⊢ wp _ _ _ (issue i arg7 harg7 (V .stage) harg17 arg18 h1 t1 h2 >>= fun _ => _) _
    unfold issue
    rw [wp_bind, Prog.lift_eq]
    iintro ⟨H, HC, HF, HO, HK⟩
    iapply (wp_issue_at c 𝒱 arg7 (V .stage) arg18 q fs (par (t1.val + 1)) ⟨t1.val + 1, h8⟩ _ _ _ _ _ _ (off1_eq t1) (off2_eq t1) (off3_eq t1 h8) _ _) $$ HF
    iintro HF
    rw [wp_ret]
    imodintro
    iapply hrest
    isplitl [H]; · iexact H
    isplitl [HC]
    · iapply (Entails.of_eq (coming_lt c V arg7 arg18 q fs t1.val ht)); iexact HC
    isplitl [HF]
    · iapply (Entails.of_eq (coming_lt c V arg7 arg18 q fs (t1.val + 1) h8).symm); iexact HF
    isplitl [HO]; · iexact HO
    iexact HK
  · have h8 : ¬ t1.val + 1 < 8 := fun h => h2 ((cond2_iff t1).2 h)
    rw [dif_neg h2]
    iintro ⟨H, HC, HF, HO, HK⟩
    iapply hrest
    isplitl [H]; · iexact H
    isplitl [HC]
    · iapply (Entails.of_eq (coming_lt c V arg7 arg18 q fs t1.val ht)); iexact HC
    isplitl [HF]
    · iapply (Entails.of_eq (coming_ge c V arg7 arg18 q fs (t1.val + 1) h8).symm); iexact HF
    isplitl [HO]; · iexact HO
    iexact HK

theorem wp_prologue (h1 : k0_cond1 i = 1#1) (hq : qs .stage = fullShare)
    (hI : ∀ k σ X, I k σ → I k (Function.update σ .stage X))
    (hf : ∀ (t1 : Fin k0_t1_loop.trips) (h : t1.val < 8) σ, I t1.val σ → Landing c arg7 fs (par t1.val) ⟨t1.val, h⟩ (σ .stage) →
      Tri (mkE c 𝒱 V qs (halfSet (par t1.val))) σ (fills i (V .s) (V .g) (V .tab) (V .mtab) (V .arow) (V .stage) h1 t1) (fun _ σ' => I (t1.val + 1) σ'))
    (σ : St F) (hz : Tri (mkE c 𝒱 V qs ∅) σ (zeroG (V .dgs)) (fun _ σ' => I 0 σ')) (K : PUnit → sProp 𝕄) :
    iprop(own (mkE c 𝒱 V qs ∅) σ ∗ Free c arg7 (V .stage) arg18 q fs 0 ∗ Free c arg7 (V .stage) arg18 q fs 1 ∗ (∃ W, owes (c : Thread nD τ) 0 W)
      ∗ (∀ σ', ⌜I 8 σ'⌝ -∗ iprop(own (mkE c 𝒱 V qs ∅) σ' ∗ Free c arg7 (V .stage) arg18 q fs 0 ∗ Free c arg7 (V .stage) arg18 q fs 1 ∗ (∃ W, owes (c : Thread nD τ) 0 W)) -∗ K ⟨⟩))
    ⊢ wp frame (wpE (defs₀ (F := F)) 𝒱 (c : Thread nD τ) none) Set.univ (prologue i (V .s) (V .g) arg7 harg7 (V .tab) (V .mtab) (V .arow) (V .dgs) (V .stage) harg17 arg18 h1) K := by
  unfold prologue
  show _ ⊢ wp _ _ _ (issue0 arg7 harg7 (V .stage) harg17 arg18 >>= fun _ => zeroG (V .dgs) >>= fun _ => Scf.Loop.for k0_t1_loop (k0_t1_ok i h1) ⟨⟩ fun t1 _ => batch i (V .s) (V .g) arg7 harg7 (V .tab) (V .mtab) (V .arow) (V .stage) harg17 arg18 h1 t1) _
  unfold issue0
  rw [wp_bind, Prog.lift_eq]
  iintro ⟨H, HF, HF1, HO, HK⟩
  iapply (wp_issue_at c 𝒱 arg7 (V .stage) arg18 q fs 0 0 _ _ _ _ _ _ (by decide) (by decide) (by decide) _ _) $$ HF
  iintro HB
  rw [wp_ret]
  imodintro
  rw [wp_bind]
  iapply (hz _) $$ H
  iintro %a %σ' %hσ' H
  unfold Scf.Loop.for
  iapply Scf.wp_for frame (wpE (defs₀ (F := F)) 𝒱 (c : Thread nD τ) none) Set.univ k0_t1_loop.lb k0_t1_loop.ub k0_t1_loop.st (k0_t1_ok i h1) _ _
    (fun k _ => iprop((∃ σ, ⌜I k σ⌝ ∗ own (mkE c 𝒱 V qs ∅) σ) ∗ Coming c V arg7 arg18 q fs k ∗ Free c arg7 (V .stage) arg18 q fs (par (k + 1)) ∗ (∃ W, owes (c : Thread nD τ) 0 W))) (by
      intro k a
      iintro ⟨H, HC, HF, HO⟩
      iapply (wp_batch i c 𝒱 V qs arg7 harg7 harg17 arg18 q fs I h1 hq hI hf k _)
      isplitl [H]; · iexact H
      isplitl [HC]; · iexact HC
      isplitl [HF]; · iexact HF
      isplitl [HO]; · iexact HO
      iintro H
      iexact H)
  isplitl [H HB HF1 HO]
  · isplitl [H]
    · iexists σ'
      isplitr; · ipureintro; exact hσ'
      iexact H
    isplitl [HB]
    · iapply (Entails.of_eq (coming_lt c V arg7 arg18 q fs 0 (by decide)).symm); iexact HB
    isplitl [HF1]; · iexact HF1
    iexact HO
  iintro %a ⟨⟨%σ'', %hσ'', H⟩, HC, HF, HO⟩
  iapply HK
  · ipureintro; exact hσ''
  · isplitl [H]; · iexact H
    isplitl [HC]
    · iapply (Entails.of_eq (coming_ge c V arg7 arg18 q fs 8 (by decide))); iexact HC
    isplitl [HF]; · iexact HF
    iexact HO

end
end Cert.KernelIdeal.Own
end
end
-- ==== Proof.Point.lean ====
module

public import proofs.«01_k».proof.Proof.Prologue

@[expose] public section

/-! One step of the grid: the prologue where there is one, then the rows of the step. -/

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem off7_half : ∀ (t1 : Fin k0_t1_loop.trips) (t2 : Fin k0_t2_loop.trips) (g : Fin 4),
    k0_off7 t1 t2 (BitVec.ofNat 32 (32 * g.val)) 0 = (par t1.val).val := by decide

/-- What a chunk reads of the staged rows lies in the half its batch landed in. -/
theorem chunk_half (i : grid0.Coords) (h1 : k0_cond1 i = 1#1) (t1 : Fin k0_t1_loop.trips) (t2 : Fin k0_t2_loop.trips) (g : Fin 4) (ci : Fin 14) (c : Fin 4) :
    (Rect.unit (s := S2x256x7168) (offS t1 t2 (BitVec.ofNat 32 (32 * g.val)) (128 * (ci.val * 4 + c.val))) S1x32x128.size (offS_inb i h1 t1 t2 g ci c)).toLoadRect.set ⊆ halfSet (par t1.val) := by
  intro y hy
  have h7 := off7_half t1 t2 g
  replace hy := Rect.mem_set_unit.mp hy
  refine Rect.mem_set_unit.mpr fun a => ?_
  match a with
  | 0 =>
    have h := hy 0
    change k0_off7 t1 t2 (BitVec.ofNat 32 (32 * g.val)) 0 ≤ (y 0).val ∧ (y 0).val < k0_off7 t1 t2 (BitVec.ofNat 32 (32 * g.val)) 0 + 1 at h
    rw [h7] at h
    exact h
  | 1 => exact ⟨Nat.zero_le _, (y 1).2.trans_eq (Nat.zero_add _).symm⟩
  | 2 => exact ⟨Nat.zero_le _, (y 2).2.trans_eq (Nat.zero_add _).symm⟩

theorem KTri.zeroG {E : Env} (hE : Fit E) : KTri (F := F) E (zeroG (E.V .dgs)) (fun _ => True) :=
  KTri.bind (KTri.load hE .dgs (by decide) _ _) fun _ _ => KTri.store hE .dgs (by decide) rfl _ _ _ _ _

theorem KTri.fills {E : Env} (hE : Fit E) (i : grid0.Coords) (h1 : k0_cond1 i = 1#1) (t1 : Fin k0_t1_loop.trips) (hD : halfSet (par t1.val) ⊆ E.D .stage) :
    KTri (F := F) E (fills i (E.V .s) (E.V .g) (E.V .tab) (E.V .mtab) (E.V .arow) (E.V .stage) h1 t1) (fun _ => True) :=
  KTri.loop _ _ _ _ (fun _ => True) (fun t2 _ _ => (KTri.fill i hE h1 t1 t2 fun g ci c => (chunk_half i h1 t1 t2 g ci c).trans hD).mono fun _ _ => trivial) trivial

section
variable (i : grid0.Coords) (c : Dev nD) (𝒱 : Variants) (V : (j : Slot) → Memref sig .tc j.sp j.sh j.el) (qs : Slot → PosShare TreeShare)
  (arg7 : Memref sig .tc .hbm S2048x7168 .i8) (harg7 : arg7.IsWhole) (h8 : (V .de).IsWhole) (harg17 : (V .stage).IsWhole) (arg18 : DmaSems sig S2)
  (q : Fin 2 → PosShare TreeShare) (fs : Buf (Elt F) (arg7.view.loc (c : Thread nD τ)))

theorem mkE_fit (hqs : ∀ j, j.input = false → qs j = fullShare) (D : Finset S2x256x7168.Idx) : Fit (mkE c 𝒱 V qs D) where
  whole := by intro j h; cases j <;> first | rfl | exact absurd rfl h
  share := hqs

/-- What a step works on besides the buffers: both halves, and nothing owed. -/
def Idle : sProp 𝕄 :=
  iprop(Free c arg7 (V .stage) arg18 q fs 0 ∗ Free c arg7 (V .stage) arg18 q fs 1 ∗ (∃ W, owes (c : Thread nD τ) 0 W))

/-- What the prologue, where there is one, is to do. -/
structure Pro (σ : St F) (R : St F → Prop) : Type where
  I : ℕ → St F → Prop
  stage : ∀ k σ X, I k σ → I k (Function.update σ .stage X)
  fill : ∀ (h1 : k0_cond1 i = 1#1) (t1 : Fin k0_t1_loop.trips) (h : t1.val < 8) σ, I t1.val σ → Landing c arg7 fs (par t1.val) ⟨t1.val, h⟩ (σ .stage) →
      Tri (mkE c 𝒱 V qs (halfSet (par t1.val))) σ (fills i (V .s) (V .g) (V .tab) (V .mtab) (V .arow) (V .stage) h1 t1) (fun _ σ' => I (t1.val + 1) σ')
  zero : k0_cond1 i = 1#1 → Tri (mkE c 𝒱 V qs ∅) σ (zeroG (V .dgs)) (fun _ σ' => I 0 σ')
  done : k0_cond1 i = 1#1 → ∀ σ', I 8 σ' → R σ'
  skip : ¬ k0_cond1 i = 1#1 → R σ

theorem wp_body (hq : qs .stage = fullShare) (σ : St F) (R Q : St F → Prop) (P : Pro i c 𝒱 V qs arg7 fs σ R)
    (hrest : ∀ σ', R σ' → Tri (mkE c 𝒱 V qs ∅) σ' (rest i (V .ord) (V .ordv) (V .e) (V .es) (V .de) h8 (V .sc) (V .dg) (V .tab) (V .mtab) (V .gbuf) (V .mbuf) (V .arow) (V .dgs)) (fun _ σ' => Q σ'))
    (K : PUnit → sProp 𝕄) :
    iprop(own (mkE c 𝒱 V qs ∅) σ ∗ Idle c V arg7 arg18 q fs
      ∗ (∀ σ', ⌜Q σ'⌝ -∗ iprop(own (mkE c 𝒱 V qs ∅) σ' ∗ Idle c V arg7 arg18 q fs) -∗ K ⟨⟩))
    ⊢ wp frame (wpE (defs₀ (F := F)) 𝒱 (c : Thread nD τ) none) Set.univ
        (body i (V .ord) (V .ordv) (V .s) (V .e) (V .es) (V .g) arg7 harg7 (V .de) h8 (V .sc) (V .dg) (V .tab) (V .mtab) (V .gbuf) (V .mbuf) (V .arow) (V .dgs) (V .stage) harg17 arg18) K := by
  unfold body Idle
  rw [wp_bind]
  by_cases h1 : k0_cond1 i = 1#1
  · rw [dif_pos h1]
    iintro ⟨H, ⟨HF0, HF1, HO⟩, HK⟩
    iapply (wp_prologue i c 𝒱 V qs arg7 harg7 harg17 arg18 q fs P.I h1 hq P.stage (P.fill h1) σ (P.zero h1) _)
    isplitl [H]; · iexact H
    isplitl [HF0]; · iexact HF0
    isplitl [HF1]; · iexact HF1
    isplitl [HO]; · iexact HO
    iintro %σ' %hσ' ⟨H, HF0, HF1, HO⟩
    iapply (hrest σ' (P.done h1 σ' hσ') _) $$ H
    iintro %a %σ'' %hQ H
    iapply HK
    · ipureintro; exact hQ
    isplitl [H]; · iexact H
    isplitl [HF0]; · iexact HF0
    isplitl [HF1]; · iexact HF1
    iexact HO
  · rw [dif_neg h1]
    show _ ⊢ wp _ _ _ (.ret _) _
    rw [wp_ret]
    iintro ⟨H, HI, HK⟩
    imodintro
    iapply (hrest σ (P.skip h1) _) $$ H
    iintro %a %σ'' %hQ H
    iapply HK
    · ipureintro; exact hQ
    isplitl [H]; · iexact H
    iexact HI

/-- The inputs kept: the prologue. -/
def proKeep (hqs : ∀ j, j.input = false → qs j = fullShare) (σ : St F) (hσ : InRange σ) : Pro i c 𝒱 V qs arg7 fs σ (Keep σ) where
  I _ σ' := Keep σ σ'
  stage _ σ' X h := h.trans (Keep.update σ' .stage rfl X)
  fill h1 t1 _ σ' h _ := (KTri.fills (mkE_fit c 𝒱 V qs hqs _) i h1 t1 (Finset.Subset.refl _) σ' (hσ.keep h)).mono fun _ _ h' => h.trans h'.2
  zero _ := (KTri.zeroG (mkE_fit c 𝒱 V qs hqs _) σ hσ).mono fun _ _ h => h.2
  done _ _ h := h
  skip _ := Keep.refl σ

theorem restKeep (hqs : ∀ j, j.input = false → qs j = fullShare) (σ : St F) (hσ : InRange σ) (σ' : St F) (h : Keep σ σ') :
    Tri (mkE c 𝒱 V qs ∅) σ' (rest i (V .ord) (V .ordv) (V .e) (V .es) (V .de) h8 (V .sc) (V .dg) (V .tab) (V .mtab) (V .gbuf) (V .mbuf) (V .arow) (V .dgs)) (fun _ σ' => Keep σ σ') :=
  (KTri.rest i (mkE_fit c 𝒱 V qs hqs ∅) h8 σ' (hσ.keep h)).mono fun _ _ h' => h.trans h'.2

end

end Cert.KernelIdeal.Own
end
end
-- ==== Proof.Step.lean ====
module

public import proofs.«01_k».proof.Proof.Point
public import proofs.«01_k».proof.Proof.Gen.KernelIdeal.Launch
public import Idealize.ShloMosaic.Lib.Pipeline.FrameBody

@[expose] public section

/-! One step of the grid on the buffers as the pipeline holds them. -/

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The buffers of a step, from the staging buffers it is handed. -/
@[reducible] def Vs (s : (w : Fin 8) → Fin (spec0 w).nbuf) : (j : Slot) → Memref sig .tc j.sp j.sh j.el
  | .ord => Memref.whole main_arg5
  | .ordv => spec0_0.stage (s 0) | .s => spec0_1.stage (s 1) | .e => spec0_2.stage (s 2) | .es => spec0_3.stage (s 3) | .g => spec0_4.stage (s 4)
  | .de => spec0_5.stage (s 5) | .sc => spec0_6.stage (s 6) | .dg => spec0_7.stage (s 7)
  | .tab => Memref.whole cc0_scratch0 | .mtab => Memref.whole cc0_scratch1 | .gbuf => Memref.whole cc0_scratch2 | .mbuf => Memref.whole cc0_scratch3
  | .arow => Memref.whole cc0_scratch4 | .dgs => Memref.whole cc0_scratch5 | .stage => Memref.whole cc0_scratch6

/-- The shares: the row numbers are held beside the pipeline's own half. -/
@[reducible] def qs : Slot → PosShare TreeShare
  | .ord => fullShare.right
  | _ => fullShare

theorem qs_out : ∀ j : Slot, j.input = false → qs j = fullShare := by intro j h; cases j <;> first | rfl | exact absurd h (by decide)

/-- A half of the share of the rows read from the main memory to each half of the staging buffer. -/
@[reducible] def qh : Fin 2 → PosShare TreeShare := fun p => if p = 0 then fullShare.left else fullShare.right

section
variable (c : Dev nD) (s : (w : Fin 8) → Fin (spec0 w).nbuf)

theorem ownsOn_owns {sp : Space} {sh : Shape} {e : EltTy} (m : Memref sig .tc sp sh e) (q : PosShare TreeShare) (X : sh.Idx → Elt F e) :
    (ownsOn c m Finset.univ q X : sProp 𝕄) = owns (c : Thread nD τ) m q X := by
  unfold ownsOn owns
  simp only [Finset.mem_univ, true_implies, funext_iff]
  rfl

theorem ownsOn_whole (b : Ref sig .tc) (q : PosShare TreeShare) (X : b.ty.Contents (Elt F)) :
    (ownsOn c (Memref.whole b) Finset.univ q X : sProp 𝕄) = ((c : Thread nD τ).loc b ↦{q} X) :=
  (ownsOn_owns c _ q X).trans (owns_whole (c : Thread nD τ) b q X)

/-- The scratch buffers but the staging one, read at `σ`. -/
def Scr (σ : St F) : sProp 𝕄 :=
  iprop(((c : Thread nD τ).loc cc0_scratch0 ↦{fullShare} σ .tab) ∗ ((c : Thread nD τ).loc cc0_scratch1 ↦{fullShare} σ .mtab)
    ∗ ((c : Thread nD τ).loc cc0_scratch2 ↦{fullShare} σ .gbuf) ∗ ((c : Thread nD τ).loc cc0_scratch3 ↦{fullShare} σ .mbuf)
    ∗ ((c : Thread nD τ).loc cc0_scratch4 ↦{fullShare} σ .arow) ∗ ((c : Thread nD τ).loc cc0_scratch5 ↦{fullShare} σ .dgs))

/-- What a copy works with: the staging buffer, the counters, the rows in the main memory, nothing owed. -/
def Cop (fs : Buf (Elt F) ((c : Thread nD τ).loc main_arg0)) : sProp 𝕄 :=
  iprop((∃ f : Buf (Elt F) ((c : Thread nD τ).loc cc0_scratch6), (c : Thread nD τ).loc cc0_scratch6 ↦{fullShare} f)
    ∗ semVal ((c : Thread nD τ), .dma 13) 0 ∗ semVal ((c : Thread nD τ), .dma 14) 0
    ∗ ((c : Thread nD τ).loc main_arg0 ↦{fullShare} fs))

/-- The windows' staging buffers, read at `σ`. -/
def Win (σ : St F) : sProp 𝕄 :=
  iprop(owns (c : Thread nD τ) (spec0_0.stage (s 0)) fullShare (σ .ordv) ∗ owns (c : Thread nD τ) (spec0_1.stage (s 1)) fullShare (σ .s)
    ∗ owns (c : Thread nD τ) (spec0_2.stage (s 2)) fullShare (σ .e) ∗ owns (c : Thread nD τ) (spec0_3.stage (s 3)) fullShare (σ .es)
    ∗ owns (c : Thread nD τ) (spec0_4.stage (s 4)) fullShare (σ .g) ∗ owns (c : Thread nD τ) (spec0_5.stage (s 5)) fullShare (σ .de)
    ∗ owns (c : Thread nD τ) (spec0_6.stage (s 6)) fullShare (σ .sc) ∗ owns (c : Thread nD τ) (spec0_7.stage (s 7)) fullShare (σ .dg))

theorem own_eq (𝒱 : Variants) (σ : St F) : own (mkE c 𝒱 (Vs s) qs ∅) σ
    = iprop(((c : Thread nD τ).loc main_arg5 ↦{fullShare.right} σ .ord) ∗ owns (c : Thread nD τ) (spec0_0.stage (s 0)) fullShare (σ .ordv) ∗ owns (c : Thread nD τ) (spec0_1.stage (s 1)) fullShare (σ .s)
    ∗ owns (c : Thread nD τ) (spec0_2.stage (s 2)) fullShare (σ .e) ∗ owns (c : Thread nD τ) (spec0_3.stage (s 3)) fullShare (σ .es)
    ∗ owns (c : Thread nD τ) (spec0_4.stage (s 4)) fullShare (σ .g) ∗ owns (c : Thread nD τ) (spec0_5.stage (s 5)) fullShare (σ .de)
    ∗ owns (c : Thread nD τ) (spec0_6.stage (s 6)) fullShare (σ .sc) ∗ owns (c : Thread nD τ) (spec0_7.stage (s 7)) fullShare (σ .dg)
    ∗ ((c : Thread nD τ).loc cc0_scratch0 ↦{fullShare} σ .tab) ∗ ((c : Thread nD τ).loc cc0_scratch1 ↦{fullShare} σ .mtab)
    ∗ ((c : Thread nD τ).loc cc0_scratch2 ↦{fullShare} σ .gbuf) ∗ ((c : Thread nD τ).loc cc0_scratch3 ↦{fullShare} σ .mbuf)
    ∗ ((c : Thread nD τ).loc cc0_scratch4 ↦{fullShare} σ .arow) ∗ ((c : Thread nD τ).loc cc0_scratch5 ↦{fullShare} σ .dgs)
    ∗ ownsOn c (Memref.whole cc0_scratch6) ∅ fullShare (σ .stage)) := by
  unfold own
  rw [bigSep_univ_eq_bigSepL Slot.all (by ext j; cases j <;> simp [Slot.all]) (by decide)]
  have h0 := ownsOn_whole (F := F) c main_arg5 fullShare.right (σ .ord)
  have h1 := ownsOn_whole (F := F) c cc0_scratch0 fullShare (σ .tab)
  have h2 := ownsOn_whole (F := F) c cc0_scratch1 fullShare (σ .mtab)
  have h3 := ownsOn_whole (F := F) c cc0_scratch2 fullShare (σ .gbuf)
  have h4 := ownsOn_whole (F := F) c cc0_scratch3 fullShare (σ .mbuf)
  have h5 := ownsOn_whole (F := F) c cc0_scratch4 fullShare (σ .arow)
  have h6 := ownsOn_whole (F := F) c cc0_scratch5 fullShare (σ .dgs)
  rw [← h0, ← h1, ← h2, ← h3, ← h4, ← h5, ← h6]
  simp only [← ownsOn_owns]
  rfl

/-! ### The staging buffer in halves -/

theorem half_cover : halfSet 0 ∪ halfSet 1 = (Finset.univ : Finset S2x256x7168.Idx) := by
  ext y
  simp only [Finset.mem_union, Finset.mem_univ, iff_true]
  have h0 : (y 0).val < 2 := (y 0).2
  have h (p : Fin 2) (hp : (y 0).val = p.val) : y ∈ halfSet p := by
    refine Rect.mem_set_unit.mpr fun a => ?_
    match a with
    | 0 => exact ⟨hp.ge, by show (y 0).val < p.val + 1; omega⟩
    | 1 => exact ⟨Nat.zero_le _, (y 1).2.trans_eq (Nat.zero_add _).symm⟩
    | 2 => exact ⟨Nat.zero_le _, (y 2).2.trans_eq (Nat.zero_add _).symm⟩
  rcases (by omega : (y 0).val = 0 ∨ (y 0).val = 1) with hy | hy
  · exact .inl (h 0 hy)
  · exact .inr (h 1 hy)

theorem half_disjoint : Disjoint (halfSet 0) (halfSet 1) := by
  rw [Finset.disjoint_left]
  intro y h0 h1
  have h0 := (Rect.mem_set_unit.mp h0 0).2
  have h1 := (Rect.mem_set_unit.mp h1 0).1
  change (y 0).val < 0 + 1 at h0
  change 1 ≤ (y 0).val at h1
  omega

theorem dst_set_whole (p : Fin 2) : (theDst (Memref.whole cc0_scratch6) p).view.set = halfSet p := by
  rw [dst_set]
  exact Finset.map_refl

theorem free_in (fs : Buf (Elt F) ((c : Thread nD τ).loc main_arg0)) :
    Cop c fs ⊢ iprop(Free c (Memref.whole main_arg0) (Memref.whole cc0_scratch6) cc0_scratch7 qh fs 0 ∗ Free c (Memref.whole main_arg0) (Memref.whole cc0_scratch6) cc0_scratch7 qh fs 1) := by
  unfold Cop Free
  rw [dst_set_whole, dst_set_whole]
  have hu : ∀ f : Buf (Elt F) ((c : Thread nD τ).loc cc0_scratch6), ((c : Thread nD τ).loc cc0_scratch6 ↦{fullShare} f : sProp 𝕄)
      ⊢ iprop(((c : Thread nD τ).loc cc0_scratch6 ↦[halfSet 0]{fullShare} f) ∗ ((c : Thread nD τ).loc cc0_scratch6 ↦[halfSet 1]{fullShare} f)) := fun f => by
    have h := (pointsTo_union (Ix := Unit) (Name := ℕ) (U := Pipeline.UD sig nD τ) (Lvl := ℕ) (ℓ := (c : Thread nD τ).loc cc0_scratch6) (q := fullShare) (f := f) half_disjoint).1
    rw [half_cover] at h
    exact h
  have hv : ((c : Thread nD τ).loc main_arg0 ↦{fullShare} fs : sProp 𝕄)
      ⊢ iprop(((c : Thread nD τ).loc main_arg0 ↦{fullShare.left} fs) ∗ ((c : Thread nD τ).loc main_arg0 ↦{fullShare.right} fs)) :=
    (pointsTo_share (PosShare.mem_left_op_right fullShare)).1
  iintro ⟨⟨%f, Hf⟩, H0, H1, HA⟩
  ihave Hf := (hu f) $$ Hf
  icases Hf with ⟨Hf0, Hf1⟩
  ihave HA := hv $$ HA
  icases HA with ⟨HA0, HA1⟩
  isplitl [Hf0 HA0 H0]
  · isplitl [Hf0]; · iexists f; iexact Hf0
    isplitl [HA0]; · iexact HA0
    iexact H0
  · isplitl [Hf1]; · iexists f; iexact Hf1
    isplitl [HA1]; · iexact HA1
    iexact H1

theorem free_out (fs : Buf (Elt F) ((c : Thread nD τ).loc main_arg0)) :
    iprop(Free c (Memref.whole main_arg0) (Memref.whole cc0_scratch6) cc0_scratch7 qh fs 0 ∗ Free c (Memref.whole main_arg0) (Memref.whole cc0_scratch6) cc0_scratch7 qh fs 1) ⊢ Cop c fs := by
  unfold Cop Free
  rw [dst_set_whole, dst_set_whole]
  have hu : ∀ f g : Buf (Elt F) ((c : Thread nD τ).loc cc0_scratch6),
      iprop(((c : Thread nD τ).loc cc0_scratch6 ↦[halfSet 0]{fullShare} f) ∗ ((c : Thread nD τ).loc cc0_scratch6 ↦[halfSet 1]{fullShare} g))
      ⊢ ((c : Thread nD τ).loc cc0_scratch6 ↦{fullShare} ((halfSet 1).piecewise g f) : sProp 𝕄) := fun f g => by
    have h := pointsTo_join (Ix := Unit) (Name := ℕ) (U := Pipeline.UD sig nD τ) (Lvl := ℕ) (ℓ := (c : Thread nD τ).loc cc0_scratch6) (q := fullShare) (f := f) (g := g) half_disjoint
    rw [half_cover] at h
    exact h
  have hv : iprop(((c : Thread nD τ).loc main_arg0 ↦{fullShare.left} fs) ∗ ((c : Thread nD τ).loc main_arg0 ↦{fullShare.right} fs))
      ⊢ ((c : Thread nD τ).loc main_arg0 ↦{fullShare} fs : sProp 𝕄) :=
    (pointsTo_share (PosShare.mem_left_op_right fullShare)).2
  iintro ⟨⟨⟨%f, Hf⟩, HA0, H0⟩, ⟨%g, Hg⟩, HA1, H1⟩
  isplitl [Hf Hg]
  · iexists ((halfSet 1).piecewise g f)
    iapply (hu f g)
    isplitl [Hf]; · iexact Hf
    iexact Hg
  isplitl [H0]; · iexact H0
  isplitl [H1]; · iexact H1
  iapply hv
  isplitl [HA0]; · iexact HA0
  iexact HA1

/-! ### A step -/

/-- Everything a step is handed. -/
def Held (fs : Buf (Elt F) ((c : Thread nD τ).loc main_arg0)) (σ : St F) : sProp 𝕄 :=
  iprop(((c : Thread nD τ).loc main_arg5 ↦{fullShare.right} σ .ord) ∗ Scr c σ ∗ Cop c fs ∗ (∃ W, owes (c : Thread nD τ) 0 W) ∗ Win c s σ)

theorem held_in (𝒱 : Variants) (fs : Buf (Elt F) ((c : Thread nD τ).loc main_arg0)) (σ : St F) :
    Held c s fs σ ⊢ iprop(own (mkE c 𝒱 (Vs s) qs ∅) σ ∗ Idle c (Vs s) (Memref.whole main_arg0) cc0_scratch7 qh fs) := by
  have hn : (iprop(emp) : sProp 𝕄) ⊢ ownsOn c (Memref.whole cc0_scratch6) ∅ fullShare (σ .stage) := by
    have h0 : ∀ f, ((Memref.whole cc0_scratch6 : Memref sig .tc _ _ _).view.loc (c : Thread nD τ) ↦[(Memref.whole cc0_scratch6 : Memref sig .tc _ _ _).view.setOn ∅]{fullShare} f : sProp 𝕄) = iprop(emp) := fun f => pointsTo_empty
    unfold ownsOn
    iintro -
    iexists (σ .stage)
    isplitr
    · ipureintro; intro y hy; cases hy
    iapply (Entails.of_eq (h0 _).symm)
    iempintro
  rw [own_eq]
  unfold Held Idle Scr Win
  iintro ⟨H5, ⟨S0, S1, S2, S3, S4, S5⟩, HC, HO, W0, W1, W2, W3, W4, W5, W6, W7⟩
  ihave HC := (free_in c fs) $$ HC
  icases HC with ⟨F0, F1⟩
  isplitl [H5 S0 S1 S2 S3 S4 S5 W0 W1 W2 W3 W4 W5 W6 W7]
  · isplitl [H5]; · iexact H5
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [S0]; · iexact S0
    isplitl [S1]; · iexact S1
    isplitl [S2]; · iexact S2
    isplitl [S3]; · iexact S3
    isplitl [S4]; · iexact S4
    isplitl [S5]; · iexact S5
    iapply hn
    iempintro
  isplitl [F0]; · iexact F0
  isplitl [F1]; · iexact F1
  iexact HO

theorem held_out (𝒱 : Variants) (fs : Buf (Elt F) ((c : Thread nD τ).loc main_arg0)) (σ : St F) :
    iprop(own (mkE c 𝒱 (Vs s) qs ∅) σ ∗ Idle c (Vs s) (Memref.whole main_arg0) cc0_scratch7 qh fs) ⊢ Held c s fs σ := by
  rw [own_eq]
  unfold Held Idle Scr Win
  iintro ⟨⟨H5, W0, W1, W2, W3, W4, W5, W6, W7, S0, S1, S2, S3, S4, S5, -⟩, F0, F1, HO⟩
  isplitl [H5]; · iexact H5
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [F0 F1]
  · iapply (free_out c fs)
    isplitl [F0]; · iexact F0
    iexact F1
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  iexact W7

variable (t : Fin grid0.N)

/-- The body at a point. -/
def bodyAt : Prog (TpuEff nD τ sig (Elt F) Λ₀ .tc) PUnit := defs₀ (F := F) .tc 0 (t, s)

theorem bodyAt_eq : bodyAt (F := F) s t = body (grid0.coords t) (Vs s .ord) (Vs s .ordv) (Vs s .s) (Vs s .e) (Vs s .es) (Vs s .g) (Memref.whole main_arg0) (Memref.isWhole_whole _)
    (Vs s .de) (hstage0_5 ((s 5).cast nbuf0_5)) (Vs s .sc) (Vs s .dg) (Vs s .tab) (Vs s .mtab) (Vs s .gbuf) (Vs s .mbuf) (Vs s .arow) (Vs s .dgs) (Vs s .stage) (Memref.isWhole_whole _) cc0_scratch7 := by
  unfold bodyAt defs₀
  rw [Defs.onTc_tc]
  exact body_eq _ _ _ _ _ _ _ _ _ _ _ _ _ _ _ _ _ _ _ _ _ _ _ _ _ _ _ _ _ _ _ _ _ _ _ _

/-- From the buffers read at `σ` the body runs, and leaves them as `Q` says. -/
def Runs (𝒱 : Variants) (fs : Buf (Elt F) ((c : Thread nD τ).loc main_arg0)) (σ : St F) (Q : St F → Prop) : Prop :=
  ∀ K : PUnit → sProp 𝕄, iprop(Held c s fs σ ∗ (∀ σ', ⌜Q σ'⌝ -∗ Held c s fs σ' -∗ K ⟨⟩))
    ⊢ wp frame (wpE (defs₀ (F := F)) 𝒱 (c : Thread nD τ) none) Set.univ (bodyAt s t) K

theorem Runs.mono {c : Dev nD} {s : (w : Fin 8) → Fin (spec0 w).nbuf} {t : Fin grid0.N} {𝒱 : Variants} {fs : Buf (Elt F) ((c : Thread nD τ).loc main_arg0)} {σ : St F}
    {Q Q' : St F → Prop} (h : Runs c s t 𝒱 fs σ Q) (hQ : ∀ σ', Q σ' → Q' σ') : Runs c s t 𝒱 fs σ Q' := by
  intro K
  iintro ⟨H, HK⟩
  iapply (h K)
  isplitl [H]; · iexact H
  iintro %σ' %hσ H
  iapply HK
  · ipureintro; exact hQ σ' hσ
  iexact H

theorem wp_point (𝒱 : Variants) (fs : Buf (Elt F) ((c : Thread nD τ).loc main_arg0)) (σ : St F) (R Q : St F → Prop)
    (P : Pro (grid0.coords t) c 𝒱 (Vs s) qs (Memref.whole main_arg0) fs σ R)
    (hrest : ∀ σ', R σ' → Tri (mkE c 𝒱 (Vs s) qs ∅) σ' (rest (grid0.coords t) (Vs s .ord) (Vs s .ordv) (Vs s .e) (Vs s .es) (Vs s .de) (hstage0_5 ((s 5).cast nbuf0_5)) (Vs s .sc) (Vs s .dg) (Vs s .tab) (Vs s .mtab) (Vs s .gbuf) (Vs s .mbuf) (Vs s .arow) (Vs s .dgs)) (fun _ σ' => Q σ')) :
    Runs c s t 𝒱 fs σ Q := by
  intro K
  rw [bodyAt_eq]
  iintro ⟨H, HK⟩
  ihave H := (held_in c s 𝒱 fs σ) $$ H
  icases H with ⟨H, HI⟩
  iapply (wp_body (grid0.coords t) c 𝒱 (Vs s) qs (Memref.whole main_arg0) (Memref.isWhole_whole _) (hstage0_5 ((s 5).cast nbuf0_5)) (Memref.isWhole_whole _) cc0_scratch7 qh fs rfl σ R Q P hrest _)
  isplitl [H]; · iexact H
  isplitl [HI]; · iexact HI
  iintro %σ' %hQ H
  iapply HK
  · ipureintro; exact hQ
  iapply (held_out c s 𝒱 fs σ')
  iexact H

end

end Cert.KernelIdeal.Own
end
end
-- ==== Proof.Run.lean ====
module

public import proofs.«01_k».proof.Proof.Step
public import Idealize.ShloMosaic.Lib.Pipeline.Frame

@[expose] public section

/-! The whole run: the host's operations, then the grid. -/

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-- The buffers once the host's operations have run. -/
def Vm (c : Dev nD) (b : Ref sig .tc) : Buf (Elt F) ((c : Thread nD τ).loc b) := StableHlo.after hostOps0 (fun b => m (c, b)) b

theorem Vm_arg0 (c : Dev nD) : Vm m c main_arg0 = m ((c : Thread nD τ).loc main_arg0) := rfl
theorem Vm_arg1 (c : Dev nD) : Vm m c main_arg1 = m ((c : Thread nD τ).loc main_arg1) := rfl
theorem Vm_arg2 (c : Dev nD) : Vm m c main_arg2 = m ((c : Thread nD τ).loc main_arg2) := rfl
theorem Vm_arg3 (c : Dev nD) : Vm m c main_arg3 = m ((c : Thread nD τ).loc main_arg3) := rfl
theorem Vm_arg4 (c : Dev nD) : Vm m c main_arg4 = m ((c : Thread nD τ).loc main_arg4) := rfl
theorem Vm_arg5 (c : Dev nD) : Vm m c main_arg5 = m ((c : Thread nD τ).loc main_arg5) := rfl

/-- The row numbers as the pipeline is handed them. -/
def rows : pre0.Contents (Elt F)
  | ⟨0, _⟩ => Vm m 0 main_arg5
  | ⟨_ + 1, h⟩ => absurd h (Nat.not_lt.2 (Nat.le_add_left _ _))

theorem admitted : ok0 (rows m) := by unfold ok0; trivial

def adm : (p : Fin 1) → (pcfgs (F := F) p).Adm := fun _ => ⟨rows m, admitted m⟩

abbrev cfgM : Pipeline.Cfg sig Λ₀ := Pipeline.pin (pcfgs (F := F)) (adm m) 0

/-- The counters of the kernel's own copies. -/
abbrev osem0 : Fin 2 → SemLoc sig := fun j => (![SemLoc.dma 13, SemLoc.dma 14] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 13) 0 ∗ semVal ((c : Thread nD τ), SemLoc.dma 14) 0) := by
  rw [Pipeline.ownSems0_eq_of_list c osem0 [0, 1] (by decide) (by decide)]; rfl

/-- The rows left in the main memory. -/
def H0 : Finset (Ref sig .tc) := {main_arg0}
theorem H0_sub : H0 ⊆ Pipeline.restRefsP sig pre0 spec0 := by decide
theorem hbmPts0_eq (c : Dev nD) :
    (bigSep H0 (fun b => ((c : Thread nD τ).loc b) ↦{fullShare} Vm m c b) : sProp 𝕄) = iprop((c : Thread nD τ).loc main_arg0 ↦{fullShare} Vm m c main_arg0) := by
  rw [BI.bigSep_eq_bigSepL_of_eq [main_arg0] (by decide) (by decide)]; rfl

variable (F) in
/-- What holds of the table of rows and of their factors before a step. -/
abbrev Tables : Type := ℕ → (S30728x128.Idx → Elt F .i32) → (S2048x128.Idx → Elt F .f32) → Prop

/-- Between steps: the scratch buffers at contents of which `J` holds, the counters at zero, the rows in the main memory and the row numbers
    as they were. -/
def Inv (J : Tables F) (c : Dev nD) (k : ℕ) : sProp 𝕄 :=
  iprop(∃ σ : St F, ⌜J k (σ .tab) (σ .mtab)⌝ ∗ Scr c σ ∗ Cop c (Vm m c main_arg0) ∗ (∃ r, prngReg c r) ∗ ((c : Thread nD τ).loc main_arg5 ↦{fullShare.right} Vm m c main_arg5))

theorem table_eq (c : Dev nD) : (Pipeline.ΦT pre0 (rows m) c : sProp 𝕄) = iprop((c : Thread nD τ).loc main_arg5 ↦{fullShare.right} Vm m c main_arg5) := by
  obtain rfl : c = 0 := Subsingleton.elim _ _
  unfold Pipeline.ΦT Pipeline.prefHeld
  rw [bigSep_univ_eq_bigSepL [(0 : Fin 1)] (by decide) (by decide)]
  rfl

theorem inv_in (J : Tables F) (h : ∀ x y, J 0 x y) (c : Dev nD) :
    iprop(Pipeline.ΦD osem0 spec0 H0 (Vm m) c ∗ Pipeline.ΦT pre0 (rows m) c) ⊢ Inv m J c 0 := by
  rw [table_eq, Pipeline.ΦD_eq, scopedRest0_eq, ownSems00_eq, hbmPts0_eq]
  unfold Inv Scr Cop
  iintro ⟨⟨⟨⟨%f0, S0⟩, ⟨%f1, S1⟩, ⟨%f2, S2⟩, ⟨%f3, S3⟩, ⟨%f4, S4⟩, ⟨%f5, S5⟩, S6⟩, Hg, ⟨Hs0, Hs1⟩, HA⟩, HT⟩
  have x : St F := Classical.arbitrary _
  iexists (Function.update (Function.update (Function.update (Function.update (Function.update (Function.update x .tab f0) .mtab f1) .gbuf f2) .mbuf f3) .arow f4) .dgs f5)
  isplitr; · ipureintro; exact h _ _
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [S6 Hs0 Hs1 HA]
  · isplitl [S6]; · iexact S6
    isplitl [Hs0]; · iexact Hs0
    isplitl [Hs1]; · iexact Hs1
    iexact HA
  isplitl [Hg]; · iexact Hg
  iexact HT

theorem inv_out (J : Tables F) (c : Dev nD) (k : ℕ) :
    Inv m J c k ⊢ Pipeline.ΦD osem0 spec0 H0 (Vm m) c := by
  rw [Pipeline.ΦD_eq, scopedRest0_eq, ownSems00_eq, hbmPts0_eq]
  unfold Inv Scr Cop
  iintro ⟨%σ, -, ⟨S0, S1, S2, S3, S4, S5⟩, ⟨S6, Hs0, Hs1, HA⟩, Hg, -⟩
  isplitl [S0 S1 S2 S3 S4 S5 S6]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    iexact S6
  isplitl [Hg]; · iexact Hg
  isplitl [Hs0 Hs1]
  · isplitl [Hs0]; · iexact Hs0
    iexact Hs1
  iexact HA

/-- The scratch buffers of one reading, the windows of another. -/
def mix (σ X : St F) (o : S16384.Idx → Elt F .i32) : St F
  | .ord => o
  | .ordv => X .ordv | .s => X .s | .e => X .e | .es => X .es | .g => X .g | .de => X .de | .sc => X .sc | .dg => X .dg
  | .tab => σ .tab | .mtab => σ .mtab | .gbuf => σ .gbuf | .mbuf => σ .mbuf | .arow => σ .arow | .dgs => σ .dgs | .stage => σ .stage

/-- A step with its windows at given contents: from the invariant and the windows read at `X`, the body leaves the invariant of the next
    step and the windows as `Q` says. -/
theorem wp_step (J : Tables F) (c : Dev nD) (t : Fin grid0.N) (s : (w : Fin 8) → Fin (spec0 w).nbuf) (X : St F) (Q : St F → Prop)
    (h : ∀ σ : St F, σ .ord = Vm m c main_arg5 → J t.val (σ .tab) (σ .mtab) →
      σ .ordv = X .ordv → σ .s = X .s → σ .e = X .e → σ .es = X .es → σ .g = X .g → σ .dg = X .dg →
      Runs c s t Variants.none (Vm m c main_arg0) σ (fun σ' => σ' .ord = Vm m c main_arg5 ∧ J (t.val + 1) (σ' .tab) (σ' .mtab) ∧ Q σ')) :
    ∀ K : PUnit → sProp 𝕄, iprop(Inv m J c t.val ∗ (∃ W, owes (c : Thread nD τ) 0 W) ∗ Win c s X
      ∗ (iprop(Inv m J c (t.val + 1) ∗ (∃ W, owes (c : Thread nD τ) 0 W) ∗ ∃ σ', ⌜Q σ'⌝ ∗ Win c s σ') -∗ K ⟨⟩))
    ⊢ wp frame (wpE (defs₀ (F := F)) Variants.none (c : Thread nD τ) none) Set.univ (bodyAt s t) K := by
  intro K
  iintro ⟨HI, HO, HW, HK⟩
  unfold Inv
  icases HI with ⟨%σ, %hJ, HS, HC, Hg, HT⟩
  iapply (h (mix σ X (Vm m c main_arg5)) rfl hJ rfl rfl rfl rfl rfl rfl _)
  unfold Held
  isplitl [HT HS HC HO HW]
  · isplitl [HT]; · iexact HT
    isplitl [HS]; · iexact HS
    isplitl [HC]; · iexact HC
    isplitl [HO]; · iexact HO
    iexact HW
  iintro %σ' %hQ ⟨HT, HS, HC, HO, HW⟩
  iapply HK
  isplitl [HS HC Hg HT]
  · iexists σ'
    isplitr; · ipureintro; exact hQ.2.1
    isplitl [HS]; · iexact HS
    isplitl [HC]; · iexact HC
    isplitl [Hg]; · iexact Hg
    rw [hQ.1]; iexact HT
  isplitl [HO]; · iexact HO
  iexists σ'
  isplitr; · ipureintro; exact hQ.2.2
  iexact HW

/-! ## The frame: nothing said of the windows -/

def dats (_ : Fin 1) (c : Dev nD) : Dat τ (Elt F) Unit ℕ (Pipeline.UD sig nD τ) ℕ (cfgM m) c where
  A w := Vm m c (Pipeline.arrRef spec0 w)
  after w t := Pipeline.Dat.unnamed (cfg := cfgM m) w t
  Φ k := Inv m (fun _ _ _ => True) c k.val
  q _ := fullShare
  owed _ := 0

theorem A_eq (c : Dev nD) (w : Fin 8) : (dats m 0 c).A w = Vm m c (Pipeline.arrRef spec0 w) := by dsimp only [dats]

abbrev forgets0 : Fin 8 → Bool := fun _ => true

def bodyPre (c : Dev nD) (t : Fin (cfgM m).N) : sProp 𝕄 :=
  iprop((dats m 0 c).Φ t.castSucc ∗ (dats m 0 c).owesAt () t.castSucc
    ∗ (∃ d, owns (c : Thread nD τ) (spec0_0.stage ((cfgM m).slots t 0)) fullShare d) ∗ (∃ d, owns (c : Thread nD τ) (spec0_1.stage ((cfgM m).slots t 1)) fullShare d)
    ∗ (∃ d, owns (c : Thread nD τ) (spec0_2.stage ((cfgM m).slots t 2)) fullShare d) ∗ (∃ d, owns (c : Thread nD τ) (spec0_3.stage ((cfgM m).slots t 3)) fullShare d)
    ∗ (∃ d, owns (c : Thread nD τ) (spec0_4.stage ((cfgM m).slots t 4)) fullShare d) ∗ (∃ d, owns (c : Thread nD τ) (spec0_5.stage ((cfgM m).slots t 5)) fullShare d)
    ∗ (∃ d, owns (c : Thread nD τ) (spec0_6.stage ((cfgM m).slots t 6)) fullShare d) ∗ (∃ d, owns (c : Thread nD τ) (spec0_7.stage ((cfgM m).slots t 7)) fullShare d))
def bodyPost (c : Dev nD) (t : Fin (cfgM m).N) : sProp 𝕄 :=
  iprop((dats m 0 c).Φ t.succ ∗ (dats m 0 c).owesAt () t.succ
    ∗ (∃ d, owns (c : Thread nD τ) (spec0_0.stage ((cfgM m).slots t 0)) fullShare d) ∗ (∃ d, owns (c : Thread nD τ) (spec0_1.stage ((cfgM m).slots t 1)) fullShare d)
    ∗ (∃ d, owns (c : Thread nD τ) (spec0_2.stage ((cfgM m).slots t 2)) fullShare d) ∗ (∃ d, owns (c : Thread nD τ) (spec0_3.stage ((cfgM m).slots t 3)) fullShare d)
    ∗ (∃ d, owns (c : Thread nD τ) (spec0_4.stage ((cfgM m).slots t 4)) fullShare d) ∗ (∃ d, owns (c : Thread nD τ) (spec0_5.stage ((cfgM m).slots t 5)) fullShare d)
    ∗ (∃ d, owns (c : Thread nD τ) (spec0_6.stage ((cfgM m).slots t 6)) fullShare d) ∗ (∃ d, owns (c : Thread nD τ) (spec0_7.stage ((cfgM m).slots t 7)) fullShare d))

variable (hin : ∀ (c : Dev nD) (y : S16384.Idx), BitVec.toNat (w := 32) (m ((c : Thread nD τ).loc main_arg5) y) < 16384)

include hin in
theorem sound_body (c : Dev nD) (t : Fin (cfgM m).N) :
    bodyPre m c t ⊢ wp frame (wpE (defs₀ (F := F)) Variants.none c none) Set.univ (bodyAt ((cfgM m).slots t) t) (fun _ => bodyPost m c t) := by
  unfold bodyPre bodyPost
  rw [show (dats m 0 c).Φ t.succ = Inv m (fun _ _ _ => True) c (t.val + 1) from rfl, show (dats m 0 c).Φ t.castSucc = Inv m (fun _ _ _ => True) c t.val from rfl,
    show (dats m 0 c).owesAt () t.succ = (dats m 0 c).owesAt () t.castSucc from rfl]
  unfold Dat.owesAt Pipeline.owesWithin
  rw [show (dats m 0 c).owed t.castSucc = 0 from rfl]
  iintro ⟨HI, ⟨%W, %hW, HO⟩, ⟨%d0, W0⟩, ⟨%d1, W1⟩, ⟨%d2, W2⟩, ⟨%d3, W3⟩, ⟨%d4, W4⟩, ⟨%d5, W5⟩, ⟨%d6, W6⟩, ⟨%d7, W7⟩⟩
  have x : St F := Classical.arbitrary _
  let X : St F := fun
    | .ordv => d0 | .s => d1 | .e => d2 | .es => d3 | .g => d4 | .de => d5 | .sc => d6 | .dg => d7
    | .ord => x .ord | .tab => x .tab | .mtab => x .mtab | .gbuf => x .gbuf | .mbuf => x .mbuf | .arow => x .arow | .dgs => x .dgs | .stage => x .stage
  have h := wp_step m (fun _ _ _ => True) c t ((cfgM m).slots t) X (fun _ => True) (by
    intro σ ho _ _ _ _ _ _ _
    have hr : InRange σ := fun y => by rw [ho]; exact hin c y
    have hp := wp_point c ((cfgM m).slots t) t Variants.none (Vm m c main_arg0) σ (Keep σ) (Keep σ)
      (proKeep (grid0.coords t) c Variants.none (Vs ((cfgM m).slots t)) qs (Memref.whole main_arg0) (Vm m c main_arg0) qs_out σ hr)
      (fun σ' hk => restKeep (grid0.coords t) c Variants.none (Vs ((cfgM m).slots t)) qs _ qs_out σ hr σ' hk)
    exact hp.mono fun σ' hk => ⟨(hk .ord rfl).trans ho, trivial, trivial⟩)
  unfold Win at h
  iapply (h _)
  isplitl [HI]; · iexact HI
  isplitl [HO]; · iexists W; iexact HO
  isplitl [W0 W1 W2 W3 W4 W5 W6 W7]
  · isplitl [W0]; · iexact W0
    isplitl [W1]; · iexact W1
    isplitl [W2]; · iexact W2
    isplitl [W3]; · iexact W3
    isplitl [W4]; · iexact W4
    isplitl [W5]; · iexact W5
    isplitl [W6]; · iexact W6
    iexact W7
  iintro ⟨HI, ⟨%W', HO⟩, %σ', -, W0, W1, W2, W3, W4, W5, W6, W7⟩
  isplitl [HI]; · iexact HI
  isplitl [HO]
  · iexists W'; isplitr; · ipureintro; exact fun _ _ => Or.inl trivial
    iexact HO
  isplitl [W0]; · iexists _; iexact W0
  isplitl [W1]; · iexists _; iexact W1
  isplitl [W2]; · iexists _; iexact W2
  isplitl [W3]; · iexists _; iexact W3
  isplitl [W4]; · iexists _; iexact W4
  isplitl [W5]; · iexists _; iexact W5
  isplitl [W6]; · iexists _; iexact W6
  iexists _; iexact W7

theorem defs₀_row (t : Fin (cfgM m).N) : defs₀ (F := F) .tc (cfgM m).body ((cfgM m).bodyArgs t ((cfgM m).slots t)) = bodyAt ((cfgM m).slots t) t := rfl

include hin in
theorem body_obligation (c : Dev nD) :
    BodyObligation (dats (F := F) m 0 c) (defs₀ (F := F)) Variants.none () Set.univ forgets0 := fun t => by
  rw [bigSep_W0]
  exact triple_restated (sound_body m hin c t) rfl .rfl fun _ => .rfl

theorem hmainD :
    Pipeline.HMainP (Ix := Unit) (Name := ℕ) (U := Pipeline.UD sig nD τ) (Lvl := ℕ) pcfgs 0 (defs₀ (F := F)) Variants.none m (main (F := F)) (Vm m) :=
  Pipeline.hmainP_prefix pcfgs 0 defs₀ Variants.none m main hostOps0 hostOps0_sub ⟨rfl, rfl, rfl, rfl⟩ main_chain

include hin in
set_option backward.isDefEq.respectTransparency.types false in
theorem run_main :
    θ_run defs (onTc (τ := τ) (main (F := F))) (s₀ m ρ)
      (fun r => Pipeline.RDat.FramePost (cfgM m) (fun c => (dats m 0 c).toRForget forgets0) (Vm m) r ∧ r.2.sem = fun _ => 0) :=
  Pipeline.θ_run_frameP_dma_forget (Q' := _) pcfgs (adm m) (dats m) (0 : Fin 1) launch0 osem0 defs₀ Variants.none forgets0 ownSemFacts0 H0 H0_sub m ρ main
    (hbody := fun c => (body_obligation m hin c).loose) (hshare := fun c => (dats m 0 c).share_full fun _ => rfl)
    (howed := fun _ _ => rfl) (V := Vm m) (hmain := hmainD m) (hA := A_eq m)
    (hpf := fun c k => by
      obtain rfl : c = 0 := Subsingleton.elim _ _
      obtain rfl : k = 0 := Subsingleton.elim _ _
      rfl)
    (hin := fun c => inv_in m (fun _ _ _ => True) (fun _ _ => trivial) c) (hout := fun c => inv_out m (fun _ _ _ => True) c 64)

theorem rest_mem (b : Ref sig .tc) (h : b ∈ Pipeline.restRefs sig spec0) : b ∈ Pipeline.restRefs sig (cfgM m).spec := h

include hin in
/-- Every run ends with the operands as they were and every counter at zero. -/
theorem frame_run : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) := by
  refine (θ_run _ _ _).mono (fun r h => ⟨fun c => ?_, h.2⟩) (run_main m ρ hin)
  have h1 := h.1 c
  refine ⟨(h1.2 main_arg0 (rest_mem m main_arg0 (by decide))).trans (Vm_arg0 m c),
    (h1.2 main_arg1 (rest_mem m main_arg1 (by decide))).trans (Vm_arg1 m c), ?_,
    (h1.2 main_arg3 (rest_mem m main_arg3 (by decide))).trans (Vm_arg3 m c),
    (h1.2 main_arg4 (rest_mem m main_arg4 (by decide))).trans (Vm_arg4 m c),
    (h1.2 main_arg5 (rest_mem m main_arg5 (by decide))).trans (Vm_arg5 m c)⟩
  have h2 := h1.1 2
  rw [Pipeline.RDat.ArrAt_in _ _ rfl] at h2
  exact h2

end Cert.KernelIdeal.Own
end
end
-- ==== Proof.Frames.lean ====
module

public import proofs.«01_k».proof.Defs
public import proofs.«01_k».proof.Proof.Run
public import proofs.«01_k».proof.Proof.Gen.Kernel
public import proofs.«01_k».proof.Proof.Gen.Pre_rows_in_range
public import proofs.«01_k».proof.Proof.Gen.ReferenceIdeal.Frame
public import Idealize.ShloMosaic.Lib.ReduceAll
public import Idealize.ShloMosaic.Lib.StableHlo.Predicate
public import Idealize.ShloMosaic.Lib.Pipeline.Regions

@[expose] public section

/-! The three programs end with their operands as they were. -/

noncomputable section

namespace Cert.Proof

open Idealize.ShloMosaic Idealize.ShloMosaic.TcCoe Idealize.SL.Sem

/-- Two signed comparisons as a bound on the number. -/
theorem word_lt (w : BitVec 32) (h : IntOp.andi (IntOp.cmpi .sge w 0#32) (IntOp.cmpi .slt w 16384#32) = 1#1) : w.toNat < 16384 := by
  have hb : ∀ a b : Bool, (BitVec.ofBool a &&& BitVec.ofBool b) = 1#1 → a = true ∧ b = true := by decide
  obtain ⟨ha, hc⟩ := hb ((0#32).sle w) (w.slt 16384#32) h
  rw [BitVec.sle_eq_decide, decide_eq_true_eq] at ha
  rw [BitVec.slt_eq_decide, decide_eq_true_eq] at hc
  have e0 : (0#32).toInt = 0 := by decide
  have e1 : (16384#32).toInt = 16384 := by decide
  have hw := w.isLt
  rw [e0, BitVec.toInt_eq_toNat_cond] at ha
  rw [e1, BitVec.toInt_eq_toNat_cond] at hc
  split at ha <;> split at hc <;> omega

section
variable {F : FTy → Type} [FloatOps F]

/-- The precondition says of every row number that it is below 16384. -/
theorem rows_lt (a0 : IVec Pre_rows_in_range.S2048x7168 8) (a1 : FVec F Pre_rows_in_range.S2048 .f32) (a2 : FVec F Pre_rows_in_range.S16384x7168 .fp8e4m3)
    (a3 : FVec F Pre_rows_in_range.S16384x56 .f32) (a4 : FVec F Pre_rows_in_range.S2048x8 .f32) (a5 : IVec Pre_rows_in_range.S16384 32)
    (h : Pre_rows_in_range.fn a0 a1 a2 a3 a4 a5 = fun _ => 1#1) (y : Pre_rows_in_range.S16384.Idx) : (a5 y).toNat < 16384 := by
  have h0 := congrFun h (fun a => a.elim0)
  unfold Pre_rows_in_range.fn at h0
  haveI : Subsingleton Pre_rows_in_range.S_.Idx := ⟨fun a b => funext fun i => i.elim0⟩
  have h2 : IntOp.andi (IntOp.cmpi .sge (a5 y) 0#32) (IntOp.cmpi .slt (a5 y) 16384#32) = 1#1 := Host.reduce_andi_all _ _ _ _ _ h0 y
  exact word_lt _ h2

theorem kernel_body : @Kernel.cc0_moe_combine_bwd F _ Kernel.Gen.facts = @KernelIdeal.cc0_moe_combine_bwd F _ KernelIdeal.Gen.facts := by
  chain_rfl

theorem kernel_defs₀ : @Kernel.defs₀ F _ Kernel.Gen.facts = @KernelIdeal.defs₀ F _ KernelIdeal.Gen.facts := by
  chain_rfl
theorem kernel_defs : @Kernel.defs F _ Kernel.Gen.facts = @KernelIdeal.defs F _ KernelIdeal.Gen.facts := by
  chain_rfl
theorem kernel_main : @Kernel.main F _ Kernel.Gen.facts = @KernelIdeal.main F _ KernelIdeal.Gen.facts := by
  chain_rfl
end

theorem frame_Kernel : quiescent_Kernel := by
  intro m g hm
  have h := KernelIdeal.Own.frame_run (F := Bits) m g (fun c y => rows_lt _ _ _ _ _ _ (hm c) y)
  rw [← kernel_defs, ← kernel_main] at h
  exact h

theorem frame_KernelIdeal : quiescent_KernelIdeal := by
  intro m g hm
  exact KernelIdeal.Own.frame_run (F := Ideal) m g (fun c y => rows_lt _ _ _ _ _ _ (hm c) y)

theorem frame_ReferenceIdeal : quiescent_ReferenceIdeal := by
  intro m g hm
  exact ReferenceIdeal.Gen.frame (F := Ideal) m g

end Cert.Proof
end
end
-- ==== Proof.Words.lean ====
module

public import proofs.«01_k».proof.Proof.Sweep
public import Idealize.ShloMosaic.Lib.BitcastFour

@[expose] public section

/-! The bytes of the words the table is made of. -/

noncomputable section

namespace Cert.KernelIdeal.Own

open Cert.KernelIdeal Cert.KernelIdeal.Gen
open Idealize.ShloMosaic Idealize.ShloMosaic.TcCoe Idealize.ShloMosaic.Tactic

/-- A byte of a word, the lowest first. -/
def byteOf (w : BitVec 32) (b : ℕ) : BitVec 8 := (w >>> (8 * b)).setWidth 8

theorem byteOf_getLsbD (w : BitVec 32) (b i : ℕ) (hi : i < 8) : (byteOf w b).getLsbD i = w.getLsbD (8 * b + i) := by
  simp [byteOf, hi]

theorem lo16 (i : ℕ) (h : i < 32) : (65535#32).getLsbD i = decide (i < 16) := by interval_cases i <;> rfl
theorem alt8 (i : ℕ) (h : i < 32) : (16711935#32).getLsbD i = (decide (i < 8) || (decide (16 ≤ i) && decide (i < 24))) := by interval_cases i <;> rfl

theorem trX16 (x y : IVec S8x128 32) (j : S8x128.Idx) (i : ℕ) (h : i < 32) :
    (trX x y 16#32 65535#32 j).getLsbD i = if i < 16 then (x j).getLsbD i else (y j).getLsbD (i - 16) := by
  show ((x j) ^^^ ((((x j) >>> 16 ^^^ y j) &&& 65535#32) <<< 16)).getLsbD i = _
  rw [BitVec.getLsbD_xor, BitVec.getLsbD_shiftLeft, BitVec.getLsbD_and, BitVec.getLsbD_xor, BitVec.getLsbD_ushiftRight]
  by_cases h16 : i < 16
  · simp [h16]
  · rw [lo16 _ (by omega)]
    have e : 16 + (i - 16) = i := by omega
    have e2 : i - 16 < 16 := by omega
    simp [h16, h, e, e2]
theorem trY16 (x y : IVec S8x128 32) (j : S8x128.Idx) (i : ℕ) (h : i < 32) :
    (trY x y 16#32 65535#32 j).getLsbD i = if i < 16 then (x j).getLsbD (16 + i) else (y j).getLsbD i := by
  show ((y j) ^^^ (((x j) >>> 16 ^^^ y j) &&& 65535#32)).getLsbD i = _
  rw [BitVec.getLsbD_xor, BitVec.getLsbD_and, BitVec.getLsbD_xor, BitVec.getLsbD_ushiftRight, lo16 i h]
  by_cases h16 : i < 16
  · simp [h16]
    cases (y j).getLsbD i <;> simp
  · simp [h16]
theorem trX8 (x y : IVec S8x128 32) (j : S8x128.Idx) (i : ℕ) (h : i < 32) :
    (trX x y 8#32 16711935#32 j).getLsbD i = if i < 8 ∨ (16 ≤ i ∧ i < 24) then (x j).getLsbD i else (y j).getLsbD (i - 8) := by
  show ((x j) ^^^ ((((x j) >>> 8 ^^^ y j) &&& 16711935#32) <<< 8)).getLsbD i = _
  rw [BitVec.getLsbD_xor, BitVec.getLsbD_shiftLeft, BitVec.getLsbD_and, BitVec.getLsbD_xor, BitVec.getLsbD_ushiftRight]
  by_cases h8 : i < 8
  · simp [h8]
  · rw [alt8 _ (by omega)]
    have e : 8 + (i - 8) = i := by omega
    by_cases h2 : 16 ≤ i ∧ i < 24
    · have e2 : ¬ (i - 8 < 8) := by omega
      have e3 : ¬ (16 ≤ i - 8) := by omega
      simp [h8, h2, e2, e3]
    · have e2 : (i - 8 < 8) ∨ (16 ≤ i - 8 ∧ i - 8 < 24) := by omega
      rw [if_neg (by omega)]
      rcases e2 with e2 | ⟨e2, e3⟩
      · simp [h8, h, e, e2]
      · simp [h8, h, e, e2, e3]
theorem trY8 (x y : IVec S8x128 32) (j : S8x128.Idx) (i : ℕ) (h : i < 32) :
    (trY x y 8#32 16711935#32 j).getLsbD i = if i < 8 ∨ (16 ≤ i ∧ i < 24) then (x j).getLsbD (8 + i) else (y j).getLsbD i := by
  show ((y j) ^^^ (((x j) >>> 8 ^^^ y j) &&& 16711935#32)).getLsbD i = _
  rw [BitVec.getLsbD_xor, BitVec.getLsbD_and, BitVec.getLsbD_xor, BitVec.getLsbD_ushiftRight, alt8 i h]
  by_cases h8 : i < 8 ∨ (16 ≤ i ∧ i < 24)
  · rw [if_pos h8]
    have : (decide (i < 8) || (decide (16 ≤ i) && decide (i < 24))) = true := by simpa using h8
    rw [this]
    cases (y j).getLsbD i <;> simp
  · rw [if_neg h8]
    have : (decide (i < 8) || (decide (16 ≤ i) && decide (i < 24))) = false := by simpa using h8
    rw [this]; simp

/-- The exchange: byte `c` of word `k` is byte `k` of word `c`. -/
theorem byteOf_words (x : Fin 4 → IVec S8x128 32) (k c : Fin 4) (j : S8x128.Idx) :
    byteOf (words (x 0) (x 1) (x 2) (x 3) k j) c.val = byteOf (x c j) k.val := by
  apply BitVec.eq_of_getLsbD_eq
  intro i hi
  rw [byteOf_getLsbD _ _ _ hi, byteOf_getLsbD _ _ _ hi]
  fin_cases k <;> fin_cases c <;>
    simp only [words, Matrix.cons_val_zero, Matrix.cons_val_one, Matrix.cons_val, Fin.zero_eta, Fin.mk_one, Fin.reduceFinMk, Fin.isValue, Nat.reduceMul, Nat.zero_add, Nat.mul_one, Nat.mul_zero, Fin.val_zero, Fin.val_one, Fin.val_two] <;>
    first
    | (rw [trX8 _ _ _ _ (by omega)]; split <;> (first | omega | (first | rw [trX16 _ _ _ _ (by omega)] | rw [trY16 _ _ _ _ (by omega)]) <;> split <;> (first | omega | (congr 1; omega) | rfl)))
    | (rw [trY8 _ _ _ _ (by omega)]; split <;> (first | omega | (first | rw [trX16 _ _ _ _ (by omega)] | rw [trY16 _ _ _ _ (by omega)]) <;> split <;> (first | omega | (congr 1; omega) | rfl)))

/-- Four rows of bytes as a row of words. -/
theorem byteOf_asWord (x : IVec S32x128 8) (j : S8x128.Idx) (k : ℕ) (hk : k < 4) (p : S32x128.Idx)
    (h0 : (p 0).val = 4 * (j 0).val + k) (h1 : (p 1).val = (j 1).val) : byteOf (asWord x j) k = x p := by
  apply BitVec.eq_of_getLsbD_eq
  intro i hi
  rw [byteOf_getLsbD _ _ _ hi]
  have hj : j = ValueIdx.ix2 (n0 := 8) (n1 := 128) (j 0) (j 1) := ValueIdx.eq_ix2 j
  have hp : p = ValueIdx.ix2 (n0 := 32) (n1 := 128) (p 0) (p 1) := ValueIdx.eq_ix2 p
  have h1' : (p 1 : Fin 128) = (j 1 : Fin 128) := Fin.ext h1
  rw [hp, h1', hj]
  unfold asWord
  have := bitcast_8_32_getLsbD_ix2 x bitcasts_S32x128_w8_S8x128_w32 (j 0) (j 1) (8 * k + i) (by omega) (p 0) (by rw [h0]; omega)
  rw [show (8 * k + i) % 8 = i by omega] at this
  exact this

/-- A row of words as four rows of bytes. -/
theorem bytes_word (w : IVec S8x128 32) (j : S8x128.Idx) (k : ℕ) (hk : k < 4) (p : S32x128.Idx)
    (h0 : (p 0).val = 4 * (j 0).val + k) (h1 : (p 1).val = (j 1).val) :
    bitcast S32x128 8 w bitcasts_S8x128_w32_S32x128_w8 p = byteOf (w j) k := by
  apply BitVec.eq_of_getLsbD_eq
  intro i hi
  rw [byteOf_getLsbD _ _ _ hi, bitcast_getLsbD w bitcasts_S8x128_w32_S32x128_w8 p i hi (by decide)]
  have hr : S32x128.row p = (p 0).val := rfl
  have e1 : (S32x128.row p * 8 + i) % 32 = 8 * k + i := by rw [hr, h0]; omega
  rw [e1]
  congr 2
  funext a
  match a with
  | ⟨0, _⟩ =>
    refine Fin.ext ((Shape.Bitcasts.srcIdx_row _ _ _ _ ⟨0, Nat.zero_lt_two⟩ rfl).trans ?_)
    show (S32x128.row p * 8 + i) / 32 = (j 0).val
    rw [hr, h0]; omega
  | ⟨1, _⟩ => exact Fin.ext ((Shape.Bitcasts.srcIdx_other _ _ _ _ ⟨1, Nat.one_lt_two⟩ (by show ¬ 1 + 2 = 2; omega)).trans h1)

end Cert.KernelIdeal.Own
end
end
-- ==== Proof.Places.lean ====
module

public import proofs.«01_k».proof.Proof.Point
public import proofs.«01_k».proof.Proof.Words

@[expose] public section

/-! Where the accesses of a step start, as numbers. -/

noncomputable section

namespace Cert.KernelIdeal.Own

open Cert.KernelIdeal Cert.KernelIdeal.Gen
open Idealize.ShloMosaic Idealize.ShloMosaic.TcCoe Idealize.ShloMosaic.Tactic

theorem trips1 : k0_t1_loop.trips = 8 := by decide
theorem trips2 : k0_t2_loop.trips = 2 := by decide
theorem trips3 : k0_t3_loop.trips = 64 := by decide
theorem trips4 : k0_t4_loop.trips = 14 := by decide

theorem t1_lt (t : Fin k0_t1_loop.trips) : t.val < 8 := t.2.trans_eq trips1
theorem t2_lt (t : Fin k0_t2_loop.trips) : t.val < 2 := t.2.trans_eq trips2
theorem t3_lt (t : Fin k0_t3_loop.trips) : t.val < 64 := t.2.trans_eq trips3
theorem t4_lt (t : Fin k0_t4_loop.trips) : t.val < 14 := t.2.trans_eq trips4

theorem off7_row : ∀ (t1 : Fin k0_t1_loop.trips) (t2 : Fin k0_t2_loop.trips) (g : Fin 4),
    k0_off7 t1 t2 (BitVec.ofNat 32 (32 * g.val)) 1 = 128 * t2.val + 32 * g.val := by decide

theorem off11_at : ∀ (t1 : Fin k0_t1_loop.trips) (t2 : Fin k0_t2_loop.trips) (g : Fin 4) (b : Fin 4) (ci : Fin 14),
    k0_off11 t1 t2 (BitVec.ofNat 32 (32 * g.val)) (BitVec.ofNat 32 b.val) (BitVec.ofNat 32 ci.val) 0
      = 15 * (256 * t1.val + 128 * t2.val + 32 * g.val + b.val) + ci.val := by
  intro t1 t2 g b ci
  have h1 := t1_lt t1; have h2 := t2_lt t2; have h3 := g.2; have h4 := b.2; have h5 := ci.2
  unfold k0_off11
  simp [Scalar.shrui, Scalar.muli, Scalar.addi, Scalar.indexCast, IntOp.shrui, IntOp.muli, IntOp.addi, Scf.iv]
  omega
theorem off11_lane (t1 : Fin k0_t1_loop.trips) (t2 : Fin k0_t2_loop.trips) (g b c : BitVec 32) : k0_off11 t1 t2 g b c 1 = 0 := rfl
theorem off64_at : ∀ (t1 : Fin k0_t1_loop.trips) (t2 : Fin k0_t2_loop.trips), k0_off64 t1 t2 = ![0, 256 * t1.val + 128 * t2.val] := by decide
theorem off65_at : ∀ (t1 : Fin k0_t1_loop.trips) (t2 : Fin k0_t2_loop.trips), k0_off65 t1 t2 = ![0, 256 * t1.val + 128 * t2.val] := by decide
theorem off66_at : ∀ (t1 : Fin k0_t1_loop.trips) (t2 : Fin k0_t2_loop.trips) (q : Fin 16),
    k0_off66 t1 t2 (BitVec.ofNat 32 (8 * q.val)) = ![256 * t1.val + 128 * t2.val + 8 * q.val, 0] := by decide
theorem off67_at (i : grid0.Coords) (t3 : Fin k0_t3_loop.trips) (c : Fin 4) :
    k0_off67 i t3 (BitVec.ofNat 32 c.val) 0 = 256 * (i 0).val + 4 * t3.val + c.val := by
  have h0 : (i 0).val < 64 := (i 0).2
  have h3 := t3_lt t3; have h4 := c.2
  unfold k0_off67
  simp [Scalar.shrui, Scalar.muli, Scalar.addi, Scalar.indexCast, IntOp.shrui, IntOp.muli, IntOp.addi, Scf.iv]
  omega
theorem off72_at : ∀ (t3 : Fin k0_t3_loop.trips) (r : Fin 8), k0_off72 t3 (BitVec.ofNat 32 (544 * r.val)) = ![544 * r.val + t3.val, 0] := by decide
theorem off77_at : ∀ (t3 : Fin k0_t3_loop.trips) (c : Fin 4), k0_off77 t3 (BitVec.ofNat 32 c.val) = ![4 * t3.val + c.val, 0] := by decide
theorem off81_at : ∀ (t4 : Fin k0_t4_loop.trips) (c : Fin 4) (q : Fin 8),
    k0_off81 t4 (BitVec.ofNat 32 (16 * c.val)) (BitVec.ofNat 32 (8 * q.val)) = ![68 * (16 * c.val + t4.val) + 8 * q.val, 0] := by decide
theorem off82_at : ∀ (t4 : Fin k0_t4_loop.trips) (c : Fin 4), k0_off82 t4 (BitVec.ofNat 32 c.val) 1 = 128 * (4 * t4.val + c.val) := by decide

end Cert.KernelIdeal.Own
end
end
-- ==== Proof.Table.lean ====
module

public import proofs.«01_k».proof.Proof.Places
public import Idealize.ShloMosaic.Lib.Pipeline.Value

@[expose] public section

/-! The table once it is filled: of every row its codes, sixteen bytes to a lane, and its factors. -/

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open Idealize.SL.Sem

variable {F : FTy → Type} [FloatOps F]

local notation "𝕄" => MT nD τ sig Unit (Elt F) ℕ (Pipeline.UD sig nD τ) ℕ

/-! ## What changes -/

/-- Only the buffers named may differ. -/
def Off (W : Finset Slot) (σ σ' : St F) : Prop := ∀ j, j ∉ W → σ' j = σ j

theorem Off.refl (W : Finset Slot) (σ : St F) : Off W σ σ := fun _ _ => rfl
theorem Off.trans {W : Finset Slot} {σ σ' σ'' : St F} (h : Off W σ σ') (h' : Off W σ' σ'') : Off W σ σ'' := fun j hj => (h' j hj).trans (h j hj)
theorem Off.mono {W W' : Finset Slot} {σ σ' : St F} (h : Off W σ σ') (hs : W ⊆ W') : Off W' σ σ' := fun j hj => h j fun hm => hj (hs hm)
theorem Off.update (W : Finset Slot) (σ : St F) (j : Slot) (hj : j ∈ W) (X : j.sh.Idx → Elt F j.el) : Off W σ (Function.update σ j X) := by
  intro k hk
  rw [Function.update_of_ne]
  rintro rfl
  exact hk hj

theorem put_cases {s : Shape} {V : Type} (r : Rect s) (w : r.shape.Idx → V) (X : s.Idx → V) (y : s.Idx) :
    (∃ j, r.idx j = y ∧ put r w X y = w j) ∨ ((∀ j, r.idx j ≠ y) ∧ put r w X y = X y) := by
  by_cases h : ∃ j, r.idx j = y
  · obtain ⟨j, rfl⟩ := h
    exact .inl ⟨j, rfl, put_idx r w X j⟩
  · have h' : ∀ j, r.idx j ≠ y := fun j hj => h ⟨j, hj⟩
    exact .inr ⟨h', put_not r w X y h'⟩

section
variable {E : Env}

theorem Tri.ld (hE : Fit E) {σ : St F} (j : Slot) (hj : j ≠ .stage) (r : LoadRect j.sh) (hl : (E.V j).view.LoadsAt r) :
    Tri E σ (Prog.lift (.load (E.V j) r hl)) (fun a σ' => a = (fun y => σ j (r.idx y)) ∧ σ' = σ) :=
  Tri.load j r hl (by rw [hE.whole j hj]; exact Finset.subset_univ _)

theorem Tri.st (hE : Fit E) {σ : St F} (j : Slot) (hj : j ≠ .stage) (hi : j.input = false) (r : Rect j.sh) (w : r.shape.Idx → Elt F j.el)
    (hx : ((E.V j).access r).Stores Finset.univ) (hm : (Finset.univ : Finset r.shape.Idx) = Finset.univ ∨ ∀ a, r.stride a = 1) :
    Tri E σ (Prog.lift (.store (E.V j) r w Finset.univ hx hm)) (fun _ σ' => σ' = Function.update σ j (put r w (σ j))) :=
  Tri.store j r w hx hm (by rw [hE.whole j hj]; exact Finset.subset_univ _) (hE.share j hi)

/-- A load whose value is not used, then a store. -/
theorem Tri.ldst (hE : Fit E) {σ : St F} (j : Slot) (hj : j ≠ .stage) (hi : j.input = false) (r' : LoadRect j.sh) (hl : (E.V j).view.LoadsAt r')
    (r : Rect j.sh) (w : r.shape.Idx → Elt F j.el)
    (hx : ((E.V j).access r).Stores Finset.univ) (hm : (Finset.univ : Finset r.shape.Idx) = Finset.univ ∨ ∀ a, r.stride a = 1) :
    Tri E σ (Prog.lift (.load (E.V j) r' hl) >>= fun _ => Prog.lift (.store (E.V j) r w Finset.univ hx hm))
      (fun _ σ' => σ' = Function.update σ j (put r w (σ j))) :=
  Tri.bind (Tri.ld hE j hj r' hl) (by rintro _ _ ⟨-, rfl⟩; exact Tri.st hE j hj hi r w hx hm)
end

/-! ## What the table is to hold -/

section
variable (D : S2048x7168.Idx → BitVec 8) (S : S1x2048.Idx → F .f32) (G : S8x2048.Idx → F .f32)

/-- The chunk `n` of row `t`: byte `c` of lane `l` is the code at column `128 (4 n + c) + l`. -/
def TabAt (tab : S30728x128.Idx → BitVec 32) (t n : ℕ) : Prop :=
  ∀ (y : S30728x128.Idx) (c : ℕ) (z : S2048x7168.Idx), c < 4 → (y 0).val = 15 * t + n → (z 0).val = t →
    (z 1).val = 128 * (4 * n + c) + (y 1).val → byteOf (tab y) c = D z

/-- The codes of 32 rows from `T`, at the block `n` of columns. -/
def blkAt (T n : ℕ) : IVec S32x128 8 := fun p =>
  D (ValueIdx.ix2 (n0 := 2048) (n1 := 7168) ⟨(T + (p 0).val) % 2048, Nat.mod_lt _ (by decide)⟩ ⟨(128 * n + (p 1).val) % 7168, Nat.mod_lt _ (by decide)⟩)

variable (F) in
/-- The largest magnitudes over the first `4 n` blocks. -/
def amUp (T : ℕ) : ℕ → FVec F S32x128 .bf16
  | 0 => broadcast S32x128 (Scalar.ofBits .bf16 0x0000#16)
  | n + 1 => maximumf (maximumf (maximumf (maximumf (amUp T n) (mags (blkAt D T (4 * n)))) (mags (blkAt D T (4 * n + 1))))
      (mags (blkAt D T (4 * n + 2)))) (mags (blkAt D T (4 * n + 3)))

variable (F) in
/-- The row maxima of 128 rows from `T`. -/
def arSpec (T : ℕ) : FVec F S128x128 .f32 := fun y =>
  rowMax (amUp F D (T + 32 * ((y 0).val / 32)) 14) (ValueIdx.ix2 (n0 := 32) (n1 := 128) ⟨(y 0).val % 32, Nat.mod_lt _ (by decide)⟩ (y 1))

/-- The factors of 128 rows from `T`. -/
def metaSpec (T : ℕ) : FVec F S128x128 .f32 := metaRows (arSpec F D T)
  (fun y => S (ValueIdx.ix2 (n0 := 1) (n1 := 2048) (y 0) ⟨(T + (y 1).val) % 2048, Nat.mod_lt _ (by decide)⟩))
  (fun y => G (ValueIdx.ix2 (n0 := 8) (n1 := 2048) (y 0) ⟨(T + (y 1).val) % 2048, Nat.mod_lt _ (by decide)⟩))

def MetaAt (mtab : S2048x128.Idx → F .f32) (t : ℕ) : Prop :=
  ∀ (y : S2048x128.Idx) (z : S128x128.Idx), (y 0).val = t → (z 0).val = t % 128 → (z 1).val = (y 1).val →
    mtab y = metaSpec D S G (128 * (t / 128)) z

/-- The first `n` rows are in the table. -/
def Filled (n : ℕ) (tab : S30728x128.Idx → BitVec 32) (mtab : S2048x128.Idx → F .f32) : Prop :=
  (∀ t, t < n → ∀ k, k < 14 → TabAt D tab t k) ∧ ∀ t, t < n → MetaAt D S G mtab t

/-- The batch `n` of 256 rows is staged. -/
def Staged (n : ℕ) (X : S2x256x7168.Idx → BitVec 8) : Prop :=
  ∀ (y : S2x256x7168.Idx) (z : S2048x7168.Idx), (y 0).val = n % 2 → (z 0).val = 256 * n + (y 1).val → (z 1).val = (y 2).val → X y = D z

end

section
variable {E : Env} (hE : Fit E) (i : grid0.Coords) (h1 : k0_cond1 i = 1#1) (t1 : Fin k0_t1_loop.trips) (t2 : Fin k0_t2_loop.trips)
  (D : S2048x7168.Idx → BitVec 8) (S : S1x2048.Idx → F .f32) (G : S8x2048.Idx → F .f32)

include hE in
theorem Tri.stT {σ : St F} (g : Fin 4) (ci : Fin 14) (b : Fin 4) (w : IVec S8x128 32) (P : ℕ → ℕ → Prop)
    (hP : ∀ t n, n < 14 → P t n → TabAt D (σ .tab) t n)
    (hw : ∀ (j : S8x128.Idx) (c : ℕ) (z : S2048x7168.Idx), c < 4 → (z 0).val = 256 * t1.val + 128 * t2.val + 32 * g.val + b.val + 4 * (j 0).val →
      (z 1).val = 128 * (4 * ci.val + c) + (j 1).val → byteOf (w j) c = D z) :
    Tri E σ (stT i (E.V .tab) h1 t1 t2 g ci b w) (fun _ σ' => Off {.tab} σ σ' ∧ ∀ t n, n < 14 →
      (P t n ∨ (n = ci.val ∧ ∃ s, s < 8 ∧ t = 256 * t1.val + 128 * t2.val + 32 * g.val + b.val + 4 * s)) → TabAt D (σ' .tab) t n) := by
  refine (Tri.ldst hE .tab (by decide) rfl _ _ _ _ _ _).mono ?_
  rintro _ _ rfl
  refine ⟨Off.update _ _ _ (by simp) _, ?_⟩
  rw [Function.update_self, shapeCast_self]
  intro t n hn hor y c z hc hy hz0 hz1
  have ho := off11_at t1 t2 g b ci
  rcases put_cases ⟨rTab i h1 t1 t2 g ci b, spos_60_1⟩ w (σ .tab) y with ⟨j, rfl, e⟩ | ⟨hne, e⟩
  · rw [e]
    have e0 : ((rTab i h1 t1 t2 g ci b).idx j 0).val = k0_off11 t1 t2 (BitVec.ofNat 32 (32 * g.val)) (BitVec.ofNat 32 b.val) (BitVec.ofNat 32 ci.val) 0 + 60 * (j 0).val := rfl
    have e1 : ((rTab i h1 t1 t2 g ci b).idx j 1).val = 0 + 1 * (j 1).val := rfl
    have hci := ci.2
    change ((rTab i h1 t1 t2 g ci b).idx j 0).val = _ at hy
    change _ = _ + ((rTab i h1 t1 t2 g ci b).idx j 1).val at hz1
    rw [e0, ho] at hy
    rw [e1] at hz1
    have h1' : t = 256 * t1.val + 128 * t2.val + 32 * g.val + b.val + 4 * (j 0).val := by omega
    have h2' : n = ci.val := by omega
    exact hw j c z hc (by omega) (by subst h2'; omega)
  · rw [e]
    rcases hor with hp | ⟨rfl, s, hs, rfl⟩
    · exact hP t n hn hp y c z hc hy hz0 hz1
    · exfalso
      refine hne (ValueIdx.ix2 (n0 := 8) (n1 := 128) ⟨s, hs⟩ (y 1)) (funext fun a => Fin.ext ?_)
      match a with
      | 0 =>
        show k0_off11 t1 t2 (BitVec.ofNat 32 (32 * g.val)) (BitVec.ofNat 32 b.val) (BitVec.ofNat 32 ci.val) 0 + 60 * s = (y 0).val
        rw [ho, hy]; omega
      | 1 => show 0 + 1 * (y 1).val = (y 1).val; omega

theorem Tri.ldS {σ : St F} (g : Fin 4) (ci : Fin 14) (c : Fin 4)
    (hS : (Rect.unit (s := S2x256x7168) (offS t1 t2 (BitVec.ofNat 32 (32 * g.val)) (128 * (ci.val * 4 + c.val))) S1x32x128.size (offS_inb i h1 t1 t2 g ci c)).toLoadRect.set ⊆ E.D .stage)
    (hst : Staged D t1.val (σ .stage)) :
    Tri E σ (ldS i (E.V .stage) h1 t1 t2 g ci c) (fun a σ' => σ' = σ ∧ a = blkAt D (256 * t1.val + 128 * t2.val + 32 * g.val) (4 * ci.val + c.val)) := by
  refine Tri.bind (Tri.load .stage _ _ hS) ?_
  rintro x _ ⟨rfl, rfl⟩
  refine Tri.pure ⟨rfl, ?_⟩
  funext p
  have hp0 : (p 0).val < 32 := (p 0).2
  have hp1 : (p 1).val < 128 := (p 1).2
  have hci := ci.2; have hc := c.2; have hg := g.2; have ht1 := t1_lt t1; have ht2 := t2_lt t2
  refine (shapeCast_apply _ shapeCasts_S1x32x128_S32x128 p (ValueIdx.ix3 (n0 := 1) (n1 := 32) (n2 := 128) 0 (p 0) (p 1)) ?_).trans ?_
  · rw [Shape.rowMajor_val_two, Shape.rowMajor_val_three]; show (0 * 32 + (p 0).val) * 128 + (p 1).val = (p 0).val * 128 + (p 1).val; omega
  · refine hst _ _ ?_ ?_ ?_
    · show k0_off7 t1 t2 (BitVec.ofNat 32 (32 * g.val)) 0 + 1 * 0 = _
      rw [off7_half]; rfl
    · show (256 * t1.val + 128 * t2.val + 32 * g.val + (p 0).val) % 2048 = 256 * t1.val + (k0_off7 t1 t2 (BitVec.ofNat 32 (32 * g.val)) 1 + 1 * (p 0).val)
      rw [off7_row]; omega
    · show (128 * (4 * ci.val + c.val) + (p 1).val) % 7168 = 128 * (ci.val * 4 + c.val) + 1 * (p 1).val
      omega

end

end Cert.KernelIdeal.Own
end
end
-- ==== Proof.Filling.lean ====
module

public import proofs.«01_k».proof.Proof.Table

@[expose] public section

/-! The prologue fills the table. -/

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open Idealize.SL.Sem

variable {F : FTy → Type} [FloatOps F]

local notation "𝕄" => MT nD τ sig Unit (Elt F) ℕ (Pipeline.UD sig nD τ) ℕ

section
variable {E : Env} (hE : Fit E) (i : grid0.Coords) (h1 : k0_cond1 i = 1#1) (t1 : Fin k0_t1_loop.trips) (t2 : Fin k0_t2_loop.trips)
  (D : S2048x7168.Idx → BitVec 8) (S : S1x2048.Idx → F .f32) (G : S8x2048.Idx → F .f32)
  (hD : halfSet (par t1.val) ⊆ E.D .stage)

/-- The first row of a group. -/
abbrev gRow (t1 : Fin k0_t1_loop.trips) (t2 : Fin k0_t2_loop.trips) (g : Fin 4) : ℕ := 256 * t1.val + 128 * t2.val + 32 * g.val

/-- The words of a chunk hold its codes. -/
theorem words_blk (T : ℕ) (hT : T + 32 ≤ 2048) (n : ℕ) (hn : n < 14) (b : Fin 4) (j : S8x128.Idx) (c : ℕ) (z : S2048x7168.Idx) (hc : c < 4)
    (h0 : (z 0).val = T + b.val + 4 * (j 0).val) (h1 : (z 1).val = 128 * (4 * n + c) + (j 1).val) :
    byteOf (words (asWord (blkAt D T (4 * n))) (asWord (blkAt D T (4 * n + 1))) (asWord (blkAt D T (4 * n + 2))) (asWord (blkAt D T (4 * n + 3))) b j) c = D z := by
  have hb := b.2
  have hj0 : (j 0).val < 8 := (j 0).2
  have hj1 : (j 1).val < 128 := (j 1).2
  have e := byteOf_words (fun k : Fin 4 => asWord (blkAt D T (4 * n + k.val))) b ⟨c, hc⟩ j
  refine (Eq.trans ?_ e).trans ?_
  · rfl
  · refine (byteOf_asWord _ j b.val hb (ValueIdx.ix2 (n0 := 32) (n1 := 128) ⟨4 * (j 0).val + b.val, by omega⟩ (j 1)) rfl rfl).trans ?_
    unfold blkAt
    refine congrArg D (funext fun a => Fin.ext ?_)
    match a with
    | 0 => show (T + (4 * (j 0).val + b.val)) % 2048 = (z 0).val; omega
    | 1 => show (128 * (4 * n + c) + (j 1).val) % 7168 = (z 1).val; omega

include hE hD in
theorem Tri.chunkV (σ : St F) (g : Fin 4) (ci : Fin 14) (P : ℕ → ℕ → Prop) (hst : Staged D t1.val (σ .stage))
    (hP : ∀ t n, n < 14 → P t n → TabAt D (σ .tab) t n) :
    Tri E σ (chunk i (E.V .tab) (E.V .stage) h1 t1 t2 g ci (amUp F D (gRow t1 t2 g) ci.val)) (fun a σ' =>
      (Off {.tab} σ σ' ∧ ∀ t n, n < 14 → (P t n ∨ (n = ci.val ∧ gRow t1 t2 g ≤ t ∧ t < gRow t1 t2 g + 32)) → TabAt D (σ' .tab) t n)
      ∧ a = amUp F D (gRow t1 t2 g) (ci.val + 1)) := by
  have hT : gRow t1 t2 g + 32 ≤ 2048 := by have := t1_lt t1; have := t2_lt t2; have := g.2; unfold gRow; omega
  have hld := fun c : Fin 4 => Tri.ldS (E := E) i h1 t1 t2 D (σ := σ) g ci c ((chunk_half i h1 t1 t2 g ci c).trans hD) hst
  unfold chunk
  refine Tri.bind (hld 0) ?_; rintro _ _ ⟨rfl, rfl⟩
  refine Tri.bind (hld 1) ?_; rintro _ _ ⟨rfl, rfl⟩
  refine Tri.bind (hld 2) ?_; rintro _ _ ⟨rfl, rfl⟩
  refine Tri.bind (hld 3) ?_; rintro _ _ ⟨rfl, rfl⟩
  have hw := fun (b : Fin 4) (j : S8x128.Idx) (c : ℕ) (z : S2048x7168.Idx) hc h0 h1 => words_blk D (gRow t1 t2 g) hT ci.val ci.2 b j c z hc h0 h1
  refine Tri.bind (Tri.stT hE i h1 t1 t2 D g ci 0 _ P hP (hw 0)) ?_; rintro _ σ1 ⟨o1, p1⟩
  refine Tri.bind (Tri.stT hE i h1 t1 t2 D g ci 1 _ _ p1 (hw 1)) ?_; rintro _ σ2 ⟨o2, p2⟩
  refine Tri.bind (Tri.stT hE i h1 t1 t2 D g ci 2 _ _ p2 (hw 2)) ?_; rintro _ σ3 ⟨o3, p3⟩
  refine Tri.bind (Tri.stT hE i h1 t1 t2 D g ci 3 _ _ p3 (hw 3)) ?_; rintro _ σ4 ⟨o4, p4⟩
  refine Tri.pure ⟨⟨((o1.trans o2).trans o3).trans o4, fun t n hn hor => p4 t n hn ?_⟩, rfl⟩
  rcases hor with h | ⟨h, ha, hb⟩
  · exact .inl (.inl (.inl (.inl h)))
  · have hm : (t - gRow t1 t2 g) % 4 = 0 ∨ (t - gRow t1 t2 g) % 4 = 1 ∨ (t - gRow t1 t2 g) % 4 = 2 ∨ (t - gRow t1 t2 g) % 4 = 3 := by omega
    have hdiv : (t - gRow t1 t2 g) / 4 < 8 := by omega
    unfold gRow at *
    rcases hm with e | e | e | e
    · exact .inl (.inl (.inl (.inr ⟨h, _, hdiv, by show _ = _ + (0 : ℕ) + _; omega⟩)))
    · exact .inl (.inl (.inr ⟨h, _, hdiv, by show _ = _ + (1 : ℕ) + _; omega⟩))
    · exact .inl (.inr ⟨h, _, hdiv, by show _ = _ + (2 : ℕ) + _; omega⟩)
    · exact .inr ⟨h, _, hdiv, by show _ = _ + (3 : ℕ) + _; omega⟩

/-- The maxima of the first `g` groups. -/
def ArowAt (T : ℕ) (g : ℕ) (arow : S256x128.Idx → F .f32) : Prop :=
  ∀ (y : S256x128.Idx) (k : ℕ) (p : S32x128.Idx), k < g → (y 0).val = 32 * k + (p 0).val → (y 1).val = (p 1).val →
    arow y = rowMax (amUp F D (T + 32 * k) 14) p

include hE hD in
theorem Tri.groupV (σ : St F) (g : Fin 4) (P : ℕ → ℕ → Prop) (hst : Staged D t1.val (σ .stage))
    (hP : ∀ t n, n < 14 → P t n → TabAt D (σ .tab) t n) (hA : ArowAt D (256 * t1.val + 128 * t2.val) g.val (σ .arow)) :
    Tri E σ (group i (E.V .tab) (E.V .arow) (E.V .stage) h1 t1 t2 g) (fun _ σ' =>
      Off {.tab, .arow} σ σ' ∧ (∀ t n, n < 14 → (P t n ∨ (gRow t1 t2 g ≤ t ∧ t < gRow t1 t2 g + 32)) → TabAt D (σ' .tab) t n)
      ∧ ArowAt D (256 * t1.val + 128 * t2.val) (g.val + 1) (σ' .arow)) := by
  unfold group
  refine Tri.bind (Tri.upTo _ (fun n a σ' => (Off {.tab} σ σ' ∧ ∀ t k, k < 14 → (P t k ∨ (k < n ∧ gRow t1 t2 g ≤ t ∧ t < gRow t1 t2 g + 32)) → TabAt D (σ' .tab) t k)
      ∧ a = amUp F D (gRow t1 t2 g) n) ?_ _ ⟨⟨Off.refl _ _, fun t k hk hor => hP t k hk (by rcases hor with h | h; exact h; omega)⟩, rfl⟩) ?_
  · rintro ci _ σ' ⟨⟨o, p⟩, rfl⟩
    have hst' : Staged D t1.val (σ' .stage) := by rw [o .stage (by decide)]; exact hst
    refine (Tri.chunkV hE i h1 t1 t2 D hD σ' g ci _ hst' p).mono ?_
    rintro a σ'' ⟨⟨o', p'⟩, e⟩
    refine ⟨⟨o.trans o', fun t k hk hor => p' t k hk ?_⟩, e⟩
    rcases hor with h | ⟨h, hh⟩
    · exact .inl (.inl h)
    · by_cases hk' : k = ci.val
      · exact .inr ⟨hk', hh⟩
      · exact .inl (.inr ⟨by omega, hh⟩)
  · rintro a σ' ⟨⟨o, p⟩, rfl⟩
    refine (Tri.ldst hE .arow (by decide) rfl _ _ _ _ _ _).mono ?_
    rintro _ _ rfl
    refine ⟨(o.mono (by decide)).trans (Off.update _ _ _ (by decide) _), ?_, ?_⟩
    · rw [Function.update_of_ne (by decide)]
      intro t n hn hor
      refine p t n hn ?_
      rcases hor with h | h
      · exact .inl h
      · exact .inr ⟨hn, h⟩
    · rw [Function.update_self, shapeCast_self, o .arow (by decide)]
      intro y k q hk h0 h1'
      have hq0 : (q 0).val < 32 := (q 0).2
      rcases put_cases (Rect.unit (s := S256x128) ![32 * g.val, 0] S32x128.size (arow_inb g)) (rowMax (amUp F D (gRow t1 t2 g) 14)) (σ .arow) y with ⟨j, rfl, e⟩ | ⟨hne, e⟩
      · rw [e]
        have e0 : 32 * g.val + 1 * (j 0).val = 32 * k + (q 0).val := h0
        have e1 : 0 + 1 * (j 1).val = (q 1).val := h1'
        have hj0 : (j 0).val < 32 := (j 0).2
        have hk' : k = g.val := by omega
        subst hk'
        refine congrArg _ (funext fun a => Fin.ext ?_)
        match a with
        | 0 => show (j 0).val = (q 0).val; omega
        | 1 => show (j 1).val = (q 1).val; omega
      · rw [e]
        by_cases hk' : k = g.val
        · exfalso
          subst hk'
          refine hne q (funext fun a => Fin.ext ?_)
          match a with
          | 0 => show 32 * g.val + 1 * (q 0).val = (y 0).val; omega
          | 1 => show 0 + 1 * (q 1).val = (y 1).val; omega
        · exact hA y k q (by omega) h0 h1'

include hE hD in
theorem Tri.fillV (σ : St F) (hst : Staged D t1.val (σ .stage)) (hS : σ .s = S) (hG : σ .g = G)
    (hF : Filled D S G (256 * t1.val + 128 * t2.val) (σ .tab) (σ .mtab)) :
    Tri E σ (fill i (E.V .s) (E.V .g) (E.V .tab) (E.V .mtab) (E.V .arow) (E.V .stage) h1 t1 t2) (fun _ σ' =>
      Off {.tab, .mtab, .arow} σ σ' ∧ Filled D S G (256 * t1.val + 128 * (t2.val + 1)) (σ' .tab) (σ' .mtab)) := by
  have ht1 := t1_lt t1
  have ht2 := t2_lt t2
  unfold fill
  have hP0 : ∀ t n, n < 14 → t < 256 * t1.val + 128 * t2.val → TabAt D (σ .tab) t n := fun t n hn ht => hF.1 t ht n hn
  refine Tri.bind (Tri.groupV hE i h1 t1 t2 D hD σ 0 _ hst hP0 (fun y k p hk => absurd hk (Nat.not_lt_zero _))) ?_
  rintro _ σ1 ⟨o1, p1, a1⟩
  refine Tri.bind (Tri.groupV hE i h1 t1 t2 D hD σ1 1 _ (by rw [o1 .stage (by decide)]; exact hst) p1 a1) ?_
  rintro _ σ2 ⟨o2, p2, a2⟩
  replace o2 := o1.trans o2
  refine Tri.bind (Tri.groupV hE i h1 t1 t2 D hD σ2 2 _ (by rw [o2 .stage (by decide)]; exact hst) p2 a2) ?_
  rintro _ σ3 ⟨o3, p3, a3⟩
  replace o3 := o2.trans o3
  refine Tri.bind (Tri.groupV hE i h1 t1 t2 D hD σ3 3 _ (by rw [o3 .stage (by decide)]; exact hst) p3 a3) ?_
  rintro _ σ4 ⟨o4, p4, a4⟩
  replace o4 := o3.trans o4
  clear p1 p2 p3 a1 a2 a3 o1 o2 o3
  refine Tri.bind (Tri.ld hE .arow (by decide) _ _) ?_
  rintro ar σ5 ⟨har, rfl⟩
  refine Tri.bind (Tri.ld hE .s (by decide) _ _) ?_
  rintro s σ6 ⟨hs, rfl⟩
  refine Tri.bind (Tri.ld hE .g (by decide) _ _) ?_
  rintro g σ7 ⟨hg, rfl⟩
  have hmeta : metaRows ar s g = metaSpec D S G (256 * t1.val + 128 * t2.val) := by
    unfold metaSpec
    have e1 : ar = arSpec F D (256 * t1.val + 128 * t2.val) := by
      rw [har]
      funext y
      have hy0 : (y 0).val < 128 := (y 0).2
      refine a4 _ ((y 0).val / 32) _ (by show _ < 4; omega) ?_ ?_
      · show 0 + 1 * (y 0).val = 32 * ((y 0).val / 32) + (y 0).val % 32
        omega
      · show 0 + 1 * (y 1).val = (y 1).val
        omega
    have e2 : s = (fun y => S (ValueIdx.ix2 (n0 := 1) (n1 := 2048) (y 0) ⟨(256 * t1.val + 128 * t2.val + (y 1).val) % 2048, Nat.mod_lt _ (by decide)⟩)) := by
      rw [hs, o4 .s (by decide), hS]
      funext y
      have hy1 : (y 1).val < 128 := (y 1).2
      refine congrArg S (funext fun a => Fin.ext ?_)
      match a with
      | 0 => exact (congrArg (fun z : ℕ => z + 1 * (y 0).val) (congrFun (off64_at t1 t2) 0)).trans (by show 0 + 1 * (y 0).val = (y 0).val; omega)
      | 1 =>
        exact (congrArg (fun z : ℕ => z + 1 * (y 1).val) (congrFun (off64_at t1 t2) 1)).trans (by
          show 256 * t1.val + 128 * t2.val + 1 * (y 1).val = (256 * t1.val + 128 * t2.val + (y 1).val) % 2048; omega)
    have e3 : g = (fun y => G (ValueIdx.ix2 (n0 := 8) (n1 := 2048) (y 0) ⟨(256 * t1.val + 128 * t2.val + (y 1).val) % 2048, Nat.mod_lt _ (by decide)⟩)) := by
      rw [hg, o4 .g (by decide), hG]
      funext y
      have hy1 : (y 1).val < 128 := (y 1).2
      refine congrArg G (funext fun a => Fin.ext ?_)
      match a with
      | 0 => exact (congrArg (fun z : ℕ => z + 1 * (y 0).val) (congrFun (off65_at t1 t2) 0)).trans (by show 0 + 1 * (y 0).val = (y 0).val; omega)
      | 1 =>
        exact (congrArg (fun z : ℕ => z + 1 * (y 1).val) (congrFun (off65_at t1 t2) 1)).trans (by
          show 256 * t1.val + 128 * t2.val + 1 * (y 1).val = (256 * t1.val + 128 * t2.val + (y 1).val) % 2048; omega)
    rw [e1, e2, e3]
  rw [hmeta]
  refine (Tri.upTo _ (fun n _ σ' => Off {.mtab} σ7 σ' ∧ ∀ t, t < 256 * t1.val + 128 * t2.val + 8 * n → MetaAt D S G (σ' .mtab) t) ?_ _
    ⟨Off.refl _ _, fun t ht => by rw [o4 .mtab (by decide)]; exact hF.2 t (by omega)⟩).mono ?_
  · rintro q _ σ' ⟨o, hm⟩
    unfold stM
    refine (Tri.ldst hE .mtab (by decide) rfl _ _ _ _ _ _).mono ?_
    rintro _ _ rfl
    refine ⟨o.trans (Off.update _ _ _ (by decide) _), ?_⟩
    rw [Function.update_self, shapeCast_self]
    intro t ht y z hy hz0 hz1
    have hq := q.2
    have ho := off66_at t1 t2 q
    rcases put_cases (Rect.unit (s := S2048x128) (k0_off66 t1 t2 (BitVec.ofNat 32 (8 * q.val))) S8x128.size (k0_off66_inb i t1 t2 h1 q))
        (extractStridedSlice S8x128 ![8 * q.val, 0] (metaSpec D S G (256 * t1.val + 128 * t2.val)) (slices_meta q)) (σ' .mtab) y with ⟨j, rfl, e⟩ | ⟨hne, e⟩
    · rw [e]
      have hj0 : (j 0).val < 8 := (j 0).2
      have e0 : k0_off66 t1 t2 (BitVec.ofNat 32 (8 * q.val)) 0 + 1 * (j 0).val = t := hy
      have e1 : (z 1).val = k0_off66 t1 t2 (BitVec.ofNat 32 (8 * q.val)) 1 + 1 * (j 1).val := hz1
      replace e0 : 256 * t1.val + 128 * t2.val + 8 * q.val + 1 * (j 0).val = t :=
        (congrArg (fun z : ℕ => z + 1 * (j 0).val) (congrFun ho 0)).symm.trans e0
      replace e1 : (z 1).val = 0 + 1 * (j 1).val := e1.trans (congrArg (fun z : ℕ => z + 1 * (j 1).val) (congrFun ho 1))
      have hT : 128 * (t / 128) = 256 * t1.val + 128 * t2.val := by omega
      rw [hT]
      refine extractStridedSlice_apply _ _ _ j z fun a => ?_
      match a with
      | 0 => show (z 0).val = 8 * q.val + (j 0).val; omega
      | 1 => show (z 1).val = 0 + (j 1).val; omega
    · rw [e]
      by_cases hlt : t < 256 * t1.val + 128 * t2.val + 8 * q.val
      · exact hm t hlt y z hy hz0 hz1
      · exfalso
        refine hne (ValueIdx.ix2 (n0 := 8) (n1 := 128) ⟨t - (256 * t1.val + 128 * t2.val + 8 * q.val), by omega⟩ (y 1)) (funext fun a => Fin.ext ?_)
        match a with
        | 0 =>
          exact (congrArg (fun z : ℕ => z + 1 * (t - (256 * t1.val + 128 * t2.val + 8 * q.val))) (congrFun ho 0)).trans (by
            show 256 * t1.val + 128 * t2.val + 8 * q.val + 1 * (t - (256 * t1.val + 128 * t2.val + 8 * q.val)) = (y 0).val; omega)
        | 1 =>
          exact (congrArg (fun z : ℕ => z + 1 * (y 1).val) (congrFun ho 1)).trans (by show 0 + 1 * (y 1).val = (y 1).val; omega)
  · rintro _ σ' ⟨o, hm⟩
    refine ⟨(o4.mono (by decide)).trans (o.mono (by decide)), fun t ht k hk => ?_, fun t ht => hm t (by omega)⟩
    rw [o .tab (by decide)]
    refine p4 t k hk ?_
    unfold gRow
    show (((t < _ ∨ _ + 32 * 0 ≤ t ∧ t < _ + 32 * 0 + 32) ∨ _ + 32 * 1 ≤ t ∧ t < _ + 32 * 1 + 32) ∨ _ + 32 * 2 ≤ t ∧ t < _ + 32 * 2 + 32) ∨ _ + 32 * 3 ≤ t ∧ t < _ + 32 * 3 + 32
    omega

end

end Cert.KernelIdeal.Own
end
end
-- ==== Proof.Gather.lean ====
module

public import proofs.«01_k».proof.Proof.Filling

@[expose] public section

/-! The rows of a step gathered from the table. -/

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open Idealize.SL.Sem

variable {F : FTy → Type} [FloatOps F]

local notation "𝕄" => MT nD τ sig Unit (Elt F) ℕ (Pipeline.UD sig nD τ) ℕ

/-- The row number at position `n`. -/
def wordAt (O : S16384.Idx → BitVec 32) (n : ℕ) : ℕ := (O (fun (a : Fin 1) => match a with | 0 => (⟨n % 16384, Nat.mod_lt _ (by decide)⟩ : Fin 16384))).toNat

section
variable {E : Env} (hE : Fit E) (i : grid0.Coords) (h1 : k0_cond1 i = 1#1)
  (D : S2048x7168.Idx → BitVec 8) (tok : ℕ → ℕ)

/-- Word `q` of block `ci` and byte `k`: of four rows the codes at columns from `128 (4 ci + k)`. -/
def GAt (gbuf : S4352x128.Idx → BitVec 32) (k ci q : ℕ) : Prop :=
  ∀ (y : S4352x128.Idx) (b : ℕ) (z : S2048x7168.Idx), b < 4 → (y 0).val = 68 * (16 * k + ci) + q → (z 0).val = tok (4 * q + b) →
    (z 1).val = 128 * (4 * ci + k) + (y 1).val → byteOf (gbuf y) b = D z

/-- Row `r` of the gathered factors is the row of the table. -/
def MAt (M' : S2048x128.Idx → F .f32) (mbuf : S256x128.Idx → F .f32) (r : ℕ) : Prop :=
  ∀ (y : S256x128.Idx) (z : S2048x128.Idx), (y 0).val = r → (z 0).val = tok r → (z 1).val = (y 1).val → mbuf y = M' z

variable (t3 : Fin k0_t3_loop.trips)

include hE in
theorem Tri.gStoreV {σ : St F} (r : Fin 8) (w : IVec S8x128 32) (P : ℕ → ℕ → ℕ → Prop)
    (hP : ∀ k ci q, k < 4 → ci < 14 → q < 64 → P k ci q → GAt D tok (σ .gbuf) k ci q)
    (hw : ∀ (j : S8x128.Idx) (b : ℕ) (z : S2048x7168.Idx), b < 4 → 8 * (r.val % 2) + (j 0).val < 14 → (z 0).val = tok (4 * t3.val + b) →
      (z 1).val = 128 * (4 * (8 * (r.val % 2) + (j 0).val) + r.val / 2) + (j 1).val → byteOf (w j) b = D z) :
    Tri E σ (gStore (E.V .gbuf) t3 r w) (fun _ σ' => Off {.gbuf} σ σ' ∧ ∀ k ci q, k < 4 → ci < 14 → q < 64 →
      (P k ci q ∨ (k = r.val / 2 ∧ q = t3.val ∧ ci / 8 = r.val % 2)) → GAt D tok (σ' .gbuf) k ci q) := by
  refine (Tri.ldst hE .gbuf (by decide) rfl _ _ _ _ _ _).mono ?_
  rintro _ _ rfl
  refine ⟨Off.update _ _ _ (by decide) _, ?_⟩
  rw [Function.update_self, shapeCast_self]
  intro k ci q hk hci hq hor y b z hb hy hz0 hz1
  have ho := off72_at t3 r
  have ht3 := t3_lt t3
  have hr := r.2
  rcases put_cases ⟨rGb t3 r, spos_68_1⟩ w (σ .gbuf) y with ⟨j, rfl, e⟩ | ⟨hne, e⟩
  · rw [e]
    have hj0 : (j 0).val < 8 := (j 0).2
    have e0 : ((rGb t3 r).idx j 0).val = 544 * r.val + t3.val + 68 * (j 0).val := congrArg (fun z : ℕ => z + 68 * (j 0).val) (congrFun ho 0)
    have e1 : ((rGb t3 r).idx j 1).val = 0 + 1 * (j 1).val := congrArg (fun z : ℕ => z + 1 * (j 1).val) (congrFun ho 1)
    change ((rGb t3 r).idx j 0).val = _ at hy
    change _ = _ + ((rGb t3 r).idx j 1).val at hz1
    rw [e0] at hy
    rw [e1] at hz1
    have hq' : q = t3.val := by omega
    have hk' : k = r.val / 2 := by omega
    have hc' : ci = 8 * (r.val % 2) + (j 0).val := by omega
    subst hq'
    refine hw j b z hb (by omega) hz0 ?_
    rw [← hk', ← hc']; omega
  · rw [e]
    rcases hor with hp | ⟨rfl, rfl, hc⟩
    · exact hP k ci q hk hci hq hp y b z hb hy hz0 hz1
    · exfalso
      refine hne (ValueIdx.ix2 (n0 := 8) (n1 := 128) ⟨ci % 8, Nat.mod_lt _ (by decide)⟩ (y 1)) (funext fun a => Fin.ext ?_)
      match a with
      | 0 =>
        refine (congrArg (fun z : ℕ => z + 68 * (ci % 8)) (congrFun ho 0)).trans ?_
        show 544 * r.val + t3.val + 68 * (ci % 8) = (y 0).val
        omega
      | 1 => exact (congrArg (fun z : ℕ => z + 1 * (y 1).val) (congrFun ho 1)).trans (by show 0 + 1 * (y 1).val = (y 1).val; omega)

include hE in
theorem Tri.gHalfV {σ : St F} (h : Fin 2) (x : Fin 4 → IVec S8x128 32) (P : ℕ → ℕ → ℕ → Prop)
    (hP : ∀ k ci q, k < 4 → ci < 14 → q < 64 → P k ci q → GAt D tok (σ .gbuf) k ci q)
    (hx : ∀ (b : Fin 4) (j : S8x128.Idx) (k : ℕ) (z : S2048x7168.Idx), k < 4 → 8 * h.val + (j 0).val < 14 → (z 0).val = tok (4 * t3.val + b.val) →
      (z 1).val = 128 * (4 * (8 * h.val + (j 0).val) + k) + (j 1).val → byteOf (x b j) k = D z) :
    Tri E σ (gHalf (E.V .gbuf) t3 h (x 0) (x 1) (x 2) (x 3)) (fun _ σ' => Off {.gbuf} σ σ' ∧ ∀ k ci q, k < 4 → ci < 14 → q < 64 →
      (P k ci q ∨ (q = t3.val ∧ ci / 8 = h.val)) → GAt D tok (σ' .gbuf) k ci q) := by
  have hh := h.2
  have hw : ∀ (k : Fin 4) (r : Fin 8), r.val = 2 * k.val + h.val → ∀ (j : S8x128.Idx) (b : ℕ) (z : S2048x7168.Idx), b < 4 →
      8 * (r.val % 2) + (j 0).val < 14 → (z 0).val = tok (4 * t3.val + b) →
      (z 1).val = 128 * (4 * (8 * (r.val % 2) + (j 0).val) + r.val / 2) + (j 1).val → byteOf (words (x 0) (x 1) (x 2) (x 3) k j) b = D z := by
    intro k r hr j b z hb hlt hz0 hz1
    have e1 : r.val % 2 = h.val := by omega
    have e2 : r.val / 2 = k.val := by omega
    rw [e1] at hlt
    rw [e1, e2] at hz1
    exact (byteOf_words x k ⟨b, hb⟩ j).trans (hx ⟨b, hb⟩ j k.val z k.2 hlt hz0 hz1)
  unfold gHalf
  refine Tri.bind (Tri.gStoreV hE D tok t3 ⟨h.val, by omega⟩ _ P hP (hw 0 ⟨h.val, by omega⟩ (by show h.val = 2 * 0 + h.val; omega))) ?_
  rintro _ σ1 ⟨o1, p1⟩
  refine Tri.bind (Tri.gStoreV hE D tok t3 ⟨2 + h.val, by omega⟩ _ _ p1 (hw 1 ⟨2 + h.val, by omega⟩ (by show 2 + h.val = 2 * 1 + h.val; omega))) ?_
  rintro _ σ2 ⟨o2, p2⟩
  refine Tri.bind (Tri.gStoreV hE D tok t3 ⟨4 + h.val, by omega⟩ _ _ p2 (hw 2 ⟨4 + h.val, by omega⟩ (by show 4 + h.val = 2 * 2 + h.val; omega))) ?_
  rintro _ σ3 ⟨o3, p3⟩
  refine (Tri.gStoreV hE D tok t3 ⟨6 + h.val, by omega⟩ _ _ p3 (hw 3 ⟨6 + h.val, by omega⟩ (by show 6 + h.val = 2 * 3 + h.val; omega))).mono ?_
  rintro _ σ4 ⟨o4, p4⟩
  refine ⟨((o1.trans o2).trans o3).trans o4, fun k ci q hk hci hq hor => p4 k ci q hk hci hq ?_⟩
  rcases hor with hp | ⟨rfl, hc⟩
  · exact .inl (.inl (.inl (.inl hp)))
  · have hk' : k = 0 ∨ k = 1 ∨ k = 2 ∨ k = 3 := by omega
    rcases hk' with rfl | rfl | rfl | rfl
    · exact .inl (.inl (.inl (.inr ⟨by show 0 = h.val / 2; omega, rfl, by show ci / 8 = h.val % 2; omega⟩)))
    · exact .inl (.inl (.inr ⟨by show 1 = (2 + h.val) / 2; omega, rfl, by show ci / 8 = (2 + h.val) % 2; omega⟩))
    · exact .inl (.inr ⟨by show 2 = (4 + h.val) / 2; omega, rfl, by show ci / 8 = (4 + h.val) % 2; omega⟩)
    · exact .inr ⟨by show 3 = (6 + h.val) / 2; omega, rfl, by show ci / 8 = (6 + h.val) % 2; omega⟩

include hE in
theorem Tri.gMetaV {σ : St F} (c : Fin 4) (off : Fin 2 → ℕ) (h : ∀ a, off a + S1x128.size a ≤ S2048x128.size a) (ho : off = ![tok (4 * t3.val + c.val), 0])
    (M' : S2048x128.Idx → F .f32) (hM : σ .mtab = M') (P : ℕ → Prop) (hP : ∀ r, P r → MAt tok M' (σ .mbuf) r) :
    Tri E σ (gMeta (E.V .mtab) (E.V .mbuf) t3 off h c) (fun _ σ' => Off {.mbuf} σ σ' ∧ ∀ r, (P r ∨ r = 4 * t3.val + c.val) → MAt tok M' (σ' .mbuf) r) := by
  subst ho
  refine Tri.bind (Tri.ld hE .mtab (by decide) _ _) ?_
  rintro x σ1 ⟨hx, rfl⟩
  refine (Tri.ldst hE .mbuf (by decide) rfl _ _ _ _ _ _).mono ?_
  rintro _ _ rfl
  refine ⟨Off.update _ _ _ (by decide) _, ?_⟩
  rw [Function.update_self, shapeCast_self]
  intro r hor y z hy hz0 hz1
  have ho := off77_at t3 c
  rcases put_cases (Rect.unit (s := S256x128) (k0_off77 t3 (BitVec.ofNat 32 c.val)) S1x128.size (k0_off77_inb t3 c)) x (σ1 .mbuf) y with ⟨j, rfl, e⟩ | ⟨hne, e⟩
  · rw [e, hx, hM]
    have hj0 : (j 0).val < 1 := (j 0).2
    have e0 : 4 * t3.val + c.val + 1 * (j 0).val = r := (congrArg (fun z : ℕ => z + 1 * (j 0).val) (congrFun ho 0)).symm.trans hy
    have e1 : (z 1).val = 0 + 1 * (j 1).val := hz1.trans (congrArg (fun z : ℕ => z + 1 * (j 1).val) (congrFun ho 1))
    have hr : r = 4 * t3.val + c.val := by omega
    refine congrArg M' (funext fun a => Fin.ext ?_)
    match a with
    | 0 => show tok (4 * t3.val + c.val) + 1 * (j 0).val = (z 0).val; rw [hz0, hr]; omega
    | 1 => show 0 + 1 * (j 1).val = (z 1).val; omega
  · rw [e]
    rcases hor with hp | rfl
    · exact hP r hp y z hy hz0 hz1
    · exfalso
      refine hne (ValueIdx.ix2 (n0 := 1) (n1 := 128) 0 (y 1)) (funext fun a => Fin.ext ?_)
      match a with
      | 0 => exact (congrArg (fun z : ℕ => z + 1 * 0) (congrFun ho 0)).trans (by show 4 * t3.val + c.val + 1 * 0 = (y 0).val; omega)
      | 1 => exact (congrArg (fun z : ℕ => z + 1 * (y 1).val) (congrFun ho 1)).trans (by show 0 + 1 * (y 1).val = (y 1).val; omega)

include hE in
theorem Tri.gLoadV {σ : St F} (h : Fin 2) (n : ℕ) (off : Fin 2 → ℕ) (hi : ∀ a, off a + S8x128.size a ≤ S30728x128.size a) (ho : off = ![15 * n + 8 * h.val, 0])
    (hn : n < 2048) (hF : ∀ t, t < 2048 → ∀ k, k < 14 → TabAt D (σ .tab) t k) :
    Tri E σ (gLoad (E.V .tab) off hi) (fun x σ' => (∀ (j : S8x128.Idx) (k : ℕ) (z : S2048x7168.Idx), k < 4 → 8 * h.val + (j 0).val < 14 → (z 0).val = n →
      (z 1).val = 128 * (4 * (8 * h.val + (j 0).val) + k) + (j 1).val → byteOf (x j) k = D z) ∧ σ' = σ) := by
  subst ho
  refine (Tri.ld hE .tab (by decide) _ _).mono ?_
  rintro x _ ⟨rfl, rfl⟩
  refine ⟨fun j k z hk hlt hz0 hz1 => ?_, rfl⟩
  refine hF n hn (8 * h.val + (j 0).val) hlt _ k z hk ?_ hz0 ?_
  · show 15 * n + 8 * h.val + 1 * (j 0).val = _; omega
  · show (z 1).val = _ + (0 + 1 * (j 1).val); omega

include hE in
theorem Tri.gWordV {σ : St F} (c : Fin 4) :
    Tri E σ (gWord i (E.V .ord) t3 c) (fun v σ' => BitVec.toNat (w := 32) v = wordAt (σ .ord) (256 * (i 0).val + (4 * t3.val + c.val)) ∧ σ' = σ) := by
  refine (Tri.word (E.V .ord) rfl _ _ _ (by rw [hE.whole .ord (by decide)]; exact Finset.subset_univ _)).mono ?_
  rintro v σ1 ⟨rfl, rfl⟩
  refine ⟨congrArg (fun y => BitVec.toNat (w := 32) (σ1 .ord y)) (funext fun a => Fin.ext ?_), rfl⟩
  have ha : a = 0 := Subsingleton.elim _ _
  subst ha
  have h0 : (i 0).val < 64 := (i 0).2
  have h3 := t3_lt t3; have h4 := c.2
  refine (congrArg (fun z : ℕ => z + 1 * _) (off67_at i t3 c)).trans ?_
  have hf : ∀ (z : S1.Idx), (z 0).val = 0 := fun z => by have : (z 0).val < 1 := (z 0).2; omega
  refine (congrArg (fun z : ℕ => _ + 1 * z) (hf _)).trans ?_
  show 256 * (i 0).val + 4 * t3.val + c.val + 1 * 0 = (256 * (i 0).val + (4 * t3.val + c.val)) % 16384
  omega

/-- The tokens of a step. -/
def tokAt (O : S16384.Idx → BitVec 32) (i : grid0.Coords) (r : ℕ) : ℕ := wordAt O (256 * (i 0).val + r) / 8

include hE in
theorem Tri.gatherV {σ : St F} (O : S16384.Idx → BitVec 32) (hO : σ .ord = O) (hr : InRange σ) (M' : S2048x128.Idx → F .f32) (hM : σ .mtab = M')
    (hF : ∀ t, t < 2048 → ∀ k, k < 14 → TabAt D (σ .tab) t k)
    (hG : ∀ k ci q, k < 4 → ci < 14 → q < 64 → q < t3.val → GAt D (tokAt O i) (σ .gbuf) k ci q) (hB : ∀ r, r < 4 * t3.val → MAt (tokAt O i) M' (σ .mbuf) r) :
    Tri E σ (gather i (E.V .ord) (E.V .tab) (E.V .mtab) (E.V .gbuf) (E.V .mbuf) t3) (fun _ σ' => Off {.gbuf, .mbuf} σ σ'
      ∧ (∀ k ci q, k < 4 → ci < 14 → q < 64 → q < t3.val + 1 → GAt D (tokAt O i) (σ' .gbuf) k ci q) ∧ ∀ r, r < 4 * (t3.val + 1) → MAt (tokAt O i) M' (σ' .mbuf) r) := by
  subst hO
  have hlt : ∀ n, wordAt (σ .ord) n < 16384 := fun n => hr _
  unfold gather
  refine Tri.bind (Tri.gWordV hE i t3 0) ?_
  rintro v0 σ0 ⟨e0, rfl⟩
  have l0 : BitVec.toNat (w := 32) v0 < 16384 := by rw [e0]; exact hlt _
  refine Tri.bind (Tri.assume (chk1_of _ l0)) ?_
  rintro c0 σ0' rfl
  refine Tri.bind (Tri.gWordV hE i t3 1) ?_
  rintro v1 σ1 ⟨e1, rfl⟩
  have l1 : BitVec.toNat (w := 32) v1 < 16384 := by rw [e1]; exact hlt _
  refine Tri.bind (Tri.assume (chk2_of _ l1)) ?_
  rintro c1 σ1' rfl
  refine Tri.bind (Tri.gWordV hE i t3 2) ?_
  rintro v2 σ2 ⟨e2, rfl⟩
  have l2 : BitVec.toNat (w := 32) v2 < 16384 := by rw [e2]; exact hlt _
  refine Tri.bind (Tri.assume (chk3_of _ l2)) ?_
  rintro c2 σ2' rfl
  refine Tri.bind (Tri.gWordV hE i t3 3) ?_
  rintro v3 σ3 ⟨e3, rfl⟩
  have l3 : BitVec.toNat (w := 32) v3 < 16384 := by rw [e3]; exact hlt _
  refine Tri.bind (Tri.assume (chk4_of _ l3)) ?_
  rintro c3 σ3' rfl
  have t0 : tokAt (σ3' .ord) i (4 * t3.val + (0 : Fin 4).val) = BitVec.toNat (w := 32) v0 / 8 := (congrArg (· / 8) e0).symm
  have t1 : tokAt (σ3' .ord) i (4 * t3.val + (1 : Fin 4).val) = BitVec.toNat (w := 32) v1 / 8 := (congrArg (· / 8) e1).symm
  have t2 : tokAt (σ3' .ord) i (4 * t3.val + (2 : Fin 4).val) = BitVec.toNat (w := 32) v2 / 8 := (congrArg (· / 8) e2).symm
  have t3' : tokAt (σ3' .ord) i (4 * t3.val + (3 : Fin 4).val) = BitVec.toNat (w := 32) v3 / 8 := (congrArg (· / 8) e3).symm
  have ht3 := t3_lt t3
  -- the first half
  refine Tri.bind (Tri.gLoadV hE D 0 (BitVec.toNat (w := 32) v0 / 8) _ _ (off68_eq v0 l0) (by omega) hF) ?_
  rintro a σ4 ⟨ha, rfl⟩
  refine Tri.bind (Tri.gLoadV hE D 0 (BitVec.toNat (w := 32) v1 / 8) _ _ (off68_eq v1 l1) (by omega) hF) ?_
  rintro b σ4 ⟨hb, rfl⟩
  refine Tri.bind (Tri.gLoadV hE D 0 (BitVec.toNat (w := 32) v2 / 8) _ _ (off68_eq v2 l2) (by omega) hF) ?_
  rintro c σ4 ⟨hc, rfl⟩
  refine Tri.bind (Tri.gLoadV hE D 0 (BitVec.toNat (w := 32) v3 / 8) _ _ (off71_eq v3 0#32 l3 (by decide)) (by omega) hF) ?_
  rintro d σ4 ⟨hd, rfl⟩
  refine Tri.bind (Tri.gHalfV hE D (tokAt (σ4 .ord) i) t3 0 ![a, b, c, d] (fun k ci q => q < t3.val) (fun k ci q hk hci hq h => hG k ci q hk hci hq h) ?_) ?_
  · intro bb j k z hk hl hz0 hz1
    match bb with
    | 0 => exact ha j k z hk hl (hz0.trans t0) hz1
    | 1 => exact hb j k z hk hl (hz0.trans t1) hz1
    | 2 => exact hc j k z hk hl (hz0.trans t2) hz1
    | 3 => exact hd j k z hk hl (hz0.trans t3') hz1
  rintro _ σ5 ⟨o5, p5⟩
  have hF5 : ∀ t, t < 2048 → ∀ k, k < 14 → TabAt D (σ5 .tab) t k := by rw [o5 .tab (by decide)]; exact hF
  -- the second half
  refine Tri.bind (Tri.gLoadV hE D 1 (BitVec.toNat (w := 32) v0 / 8) _ _ (off73_eq v0 l0) (by omega) hF5) ?_
  rintro a' σ6 ⟨ha', rfl⟩
  refine Tri.bind (Tri.gLoadV hE D 1 (BitVec.toNat (w := 32) v1 / 8) _ _ (off73_eq v1 l1) (by omega) hF5) ?_
  rintro b' σ6 ⟨hb', rfl⟩
  refine Tri.bind (Tri.gLoadV hE D 1 (BitVec.toNat (w := 32) v2 / 8) _ _ (off73_eq v2 l2) (by omega) hF5) ?_
  rintro c' σ6 ⟨hc', rfl⟩
  refine Tri.bind (Tri.gLoadV hE D 1 (BitVec.toNat (w := 32) v3 / 8) _ _ (off71_eq v3 8#32 l3 (by decide)) (by omega) hF5) ?_
  rintro d' σ6 ⟨hd', rfl⟩
  refine Tri.bind (Tri.gHalfV hE D (tokAt (σ4 .ord) i) t3 1 ![a', b', c', d'] _ p5 ?_) ?_
  · intro bb j k z hk hl hz0 hz1
    match bb with
    | 0 => exact ha' j k z hk hl (hz0.trans t0) hz1
    | 1 => exact hb' j k z hk hl (hz0.trans t1) hz1
    | 2 => exact hc' j k z hk hl (hz0.trans t2) hz1
    | 3 => exact hd' j k z hk hl (hz0.trans t3') hz1
  rintro _ σ7 ⟨o7, p7⟩
  have oo : Off {.gbuf} σ4 σ7 := o5.trans o7
  -- the factors
  have hB7 : ∀ r, r < 4 * t3.val → MAt (tokAt (σ4 .ord) i) M' (σ7 .mbuf) r := by rw [oo .mbuf (by decide)]; exact hB
  refine Tri.bind (Tri.gMetaV hE (tokAt (σ4 .ord) i) t3 0 _ _ (by rw [t0]; exact off76_eq v0 l0) M' (by rw [oo .mtab (by decide)]; exact hM) _ hB7) ?_
  rintro _ σ8 ⟨o8, p8⟩
  refine Tri.bind (Tri.gMetaV hE (tokAt (σ4 .ord) i) t3 1 _ _ (by rw [t1]; exact off76_eq v1 l1) M' (by rw [o8 .mtab (by decide), oo .mtab (by decide)]; exact hM) _ p8) ?_
  rintro _ σ9 ⟨o9, p9⟩
  replace o9 := o8.trans o9
  refine Tri.bind (Tri.gMetaV hE (tokAt (σ4 .ord) i) t3 2 _ _ (by rw [t2]; exact off76_eq v2 l2) M' (by rw [o9 .mtab (by decide), oo .mtab (by decide)]; exact hM) _ p9) ?_
  rintro _ σa ⟨oa, pa⟩
  replace oa := o9.trans oa
  refine (Tri.gMetaV hE (tokAt (σ4 .ord) i) t3 3 _ _ (by rw [t3']; exact off76_eq v3 l3) M' (by rw [oa .mtab (by decide), oo .mtab (by decide)]; exact hM) _ pa).mono ?_
  rintro _ σb ⟨ob, pb⟩
  replace ob := oa.trans ob
  refine ⟨(oo.mono (by decide)).trans (ob.mono (by decide)), ?_, ?_⟩
  · rw [ob .gbuf (by decide)]
    intro k ci q hk hci hq hlt
    refine p7 k ci q hk hci hq ?_
    by_cases h : q < t3.val
    · exact .inl (.inl h)
    · have hq' : q = t3.val := by omega
      by_cases h8 : ci < 8
      · exact .inl (.inr ⟨hq', by show ci / 8 = 0; omega⟩)
      · exact .inr ⟨hq', by show ci / 8 = 1; omega⟩
  · intro r hr'
    refine pb r ?_
    show (((r < 4 * t3.val ∨ r = 4 * t3.val + 0) ∨ r = 4 * t3.val + 1) ∨ r = 4 * t3.val + 2) ∨ r = 4 * t3.val + 3
    omega

end

end Cert.KernelIdeal.Own
end
end
-- ==== Proof.Rows.lean ====
module

public import proofs.«01_k».proof.Proof.Gather

@[expose] public section

/-! The rows of a step: the factors picked, the codes scaled. -/

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open Idealize.SL.Sem

variable {F : FTy → Type} [FloatOps F]

local notation "𝕄" => MT nD τ sig Unit (Elt F) ℕ (Pipeline.UD sig nD τ) ℕ

/-! ## What a step leaves -/

section
variable (D : S2048x7168.Idx → BitVec 8) (M' : S2048x128.Idx → F .f32) (tok : ℕ → ℕ) (p : S1x256.Idx → BitVec 32)

/-- The factors of 128 of the rows. -/
def mblk (h : ℕ) : FVec F S128x128 .f32 := fun z =>
  M' (ValueIdx.ix2 (n0 := 2048) (n1 := 128) ⟨tok (128 * h + (z 0).val) % 2048, Nat.mod_lt _ (by decide)⟩ (z 1))

/-- Their row numbers. -/
def pblk (h : ℕ) : IVec S1x128 32 := fun z =>
  p (ValueIdx.ix2 (n0 := 1) (n1 := 256) (z 0) ⟨(128 * h + (z 1).val) % 256, Nat.mod_lt _ (by decide)⟩)

/-- The factor of each row. -/
def alphaBlk (y : S256x128.Idx) : F .f32 :=
  pickAlpha (mblk M' tok ((y 0).val / 128)) (pblk p ((y 0).val / 128)) (ValueIdx.ix2 (n0 := 128) (n1 := 128) ⟨(y 0).val % 128, Nat.mod_lt _ (by decide)⟩ (y 1))

/-- The scale of each row. -/
def scBlk (y : S1x256.Idx) : F .f32 :=
  pickScale (mblk M' tok ((y 1).val / 128)) (pblk p ((y 1).val / 128)) (ValueIdx.ix2 (n0 := 1) (n1 := 128) (y 0) ⟨(y 1).val % 128, Nat.mod_lt _ (by decide)⟩)

/-- A code times a factor, rounded. -/
def deCell (b : BitVec 8) (a : F .f32) : F .fp8e5m2 :=
  quant (bitcastToFloat .fp8e5m2 (fun _ : S32x128.Idx => b)) (fun _ => a) (ValueIdx.ix2 (n0 := 32) (n1 := 128) 0 0)

theorem quant_at (w : IVec S8x128 32) (al : FVec F S32x128 .f32) (q : S32x128.Idx) :
    quant (codes w) al q = deCell (bitcast S32x128 8 w bitcasts_S8x128_w32_S32x128_w8 q) (al q) := rfl

def deBlk (y : S256x7168.Idx) : F .fp8e5m2 :=
  deCell (D (ValueIdx.ix2 (n0 := 2048) (n1 := 7168) ⟨tok (y 0).val % 2048, Nat.mod_lt _ (by decide)⟩ (y 1)))
    (alphaBlk M' tok p (ValueIdx.ix2 (n0 := 256) (n1 := 128) (y 0) ⟨(y 1).val % 128, Nat.mod_lt _ (by decide)⟩))
end

section
variable {E : Env} (hE : Fit E)
  (D : S2048x7168.Idx → BitVec 8) (M' : S2048x128.Idx → F .f32) (tok : ℕ → ℕ) (p : S1x256.Idx → BitVec 32)

/-! ## The factors picked -/

include hE in
theorem Tri.picksV {σ : St F} (h : Fin 2) (P : ℕ → Prop) (htok : ∀ r, r < 256 → tok r < 2048) (hp : σ .ordv = p)
    (hB : ∀ r, r < 256 → MAt tok M' (σ .mbuf) r)
    (hS : ∀ y, P ((y 1).val / 128) → σ .sc y = scBlk M' tok p y) (hA : ∀ y, P ((y 0).val / 128) → σ .arow y = alphaBlk M' tok p y) :
    Tri E σ (picks (E.V .ordv) (E.V .sc) (E.V .mbuf) (E.V .arow) h) (fun _ σ' => Off {.sc, .arow} σ σ'
      ∧ (∀ y, (P ((y 1).val / 128) ∨ (y 1).val / 128 = h.val) → σ' .sc y = scBlk M' tok p y)
      ∧ (∀ y, (P ((y 0).val / 128) ∨ (y 0).val / 128 = h.val) → σ' .arow y = alphaBlk M' tok p y)) := by
  have hh := h.2
  unfold picks
  refine Tri.bind (Tri.ld hE .mbuf (by decide) _ _) ?_
  rintro mm σ1 ⟨hm, rfl⟩
  have em : mm = mblk M' tok h.val := by
    rw [hm]
    funext z
    have hz0 : (z 0).val < 128 := (z 0).2
    have hlt := htok (128 * h.val + (z 0).val) (by omega)
    refine hB (128 * h.val + (z 0).val) (by omega) _ _ ?_ ?_ ?_
    · show 128 * h.val + 1 * (z 0).val = _; omega
    · show tok (128 * h.val + (z 0).val) % 2048 = _; omega
    · show (z 1).val = 0 + 1 * (z 1).val; omega
  refine Tri.bind (Tri.ld hE .ordv (by decide) _ _) ?_
  rintro pp σ1 ⟨hpp, rfl⟩
  have ep : pp = pblk p h.val := by
    rw [hpp, hp]
    funext z
    have hz1 : (z 1).val < 128 := (z 1).2
    refine congrArg p (funext fun a => Fin.ext ?_)
    match a with
    | 0 => show 0 + 1 * (z 0).val = (z 0).val; omega
    | 1 => show 128 * h.val + 1 * (z 1).val = (128 * h.val + (z 1).val) % 256; omega
  refine Tri.bind (Tri.ld hE .sc (by decide) _ _) ?_
  rintro _ σ1 ⟨-, rfl⟩
  refine Tri.bind (Tri.st hE .sc (by decide) rfl _ _ _ _) ?_
  rintro _ _ rfl
  unfold stA
  refine Tri.bind (Tri.ldst hE .arow (by decide) rfl _ _ _ _ _ _) ?_
  rintro _ _ rfl
  refine Tri.pure ⟨(Off.update _ _ _ (by decide) _).trans (Off.update _ _ _ (by decide) _), ?_, ?_⟩
  · rw [Function.update_of_ne (by decide), Function.update_self]
    intro y hor
    have hy1 : (y 1).val < 256 := (y 1).2
    rcases put_cases (Rect.unit (s := S1x256) ![0, 128 * h.val] S1x128.size (lane_inb h)) (pickScale mm pp) (σ1 .sc) y with ⟨j, rfl, e⟩ | ⟨hne, e⟩
    · rw [e, em, ep]
      have hj1 : (j 1).val < 128 := (j 1).2
      have e1 : ((Rect.unit (s := S1x256) ![0, 128 * h.val] S1x128.size (lane_inb h)).idx j 1).val = 128 * h.val + 1 * (j 1).val := rfl
      unfold scBlk
      have hd : ((Rect.unit (s := S1x256) ![0, 128 * h.val] S1x128.size (lane_inb h)).idx j 1).val / 128 = h.val := by rw [e1]; omega
      rw [hd]
      refine congrArg _ (funext fun a => Fin.ext ?_)
      match a with
      | 0 => show (j 0).val = 0 + 1 * (j 0).val; omega
      | 1 => show (j 1).val = (128 * h.val + 1 * (j 1).val) % 128; omega
    · rw [e]
      rcases hor with h' | h'
      · exact hS y h'
      · exfalso
        refine hne (ValueIdx.ix2 (n0 := 1) (n1 := 128) (y 0) ⟨(y 1).val % 128, Nat.mod_lt _ (by decide)⟩) (funext fun a => Fin.ext ?_)
        match a with
        | 0 => show 0 + 1 * (y 0).val = (y 0).val; omega
        | 1 => show 128 * h.val + 1 * ((y 1).val % 128) = (y 1).val; omega
  · rw [Function.update_self, shapeCast_self, Function.update_of_ne (by decide)]
    intro y hor
    have hy0 : (y 0).val < 256 := (y 0).2
    rcases put_cases (Rect.unit (s := S256x128) ![128 * h.val, 0] S128x128.size (half_inb h)) (pickAlpha mm pp) (σ1 .arow) y with ⟨j, rfl, e⟩ | ⟨hne, e⟩
    · rw [e, em, ep]
      have hj0 : (j 0).val < 128 := (j 0).2
      have e1 : ((Rect.unit (s := S256x128) ![128 * h.val, 0] S128x128.size (half_inb h)).idx j 0).val = 128 * h.val + 1 * (j 0).val := rfl
      unfold alphaBlk
      have hd : ((Rect.unit (s := S256x128) ![128 * h.val, 0] S128x128.size (half_inb h)).idx j 0).val / 128 = h.val := by rw [e1]; omega
      rw [hd]
      refine congrArg _ (funext fun a => Fin.ext ?_)
      match a with
      | 0 => show (j 0).val = (128 * h.val + 1 * (j 0).val) % 128; omega
      | 1 => show (j 1).val = 0 + 1 * (j 1).val; omega
    · rw [e]
      rcases hor with h' | h'
      · exact hA y h'
      · exfalso
        refine hne (ValueIdx.ix2 (n0 := 128) (n1 := 128) ⟨(y 0).val % 128, Nat.mod_lt _ (by decide)⟩ (y 1)) (funext fun a => Fin.ext ?_)
        match a with
        | 0 => show 128 * h.val + 1 * ((y 0).val % 128) = (y 0).val; omega
        | 1 => show 0 + 1 * (y 1).val = (y 1).val; omega

/-! ## The sweep -/

section
variable (h8 : (E.V .de).IsWhole) (t4 : Fin k0_t4_loop.trips) (htok : ∀ r, r < 256 → tok r < 2048)

include hE htok in
theorem Tri.cellV {σ : St F} (q : Fin 8) (al : FVec F S32x128 .f32) (c : Fin 4) (P : S256x7168.Idx → Prop)
    (hG : ∀ k ci q, k < 4 → ci < 14 → q < 64 → GAt D tok (σ .gbuf) k ci q)
    (hal : ∀ (j : S32x128.Idx) (y : S256x128.Idx), (y 0).val = 32 * q.val + (j 0).val → (y 1).val = (j 1).val → al j = alphaBlk M' tok p y)
    (hP : ∀ y, P y → σ .de y = deBlk D M' tok p y) :
    Tri E σ (cell (E.V .e) (E.V .de) h8 (E.V .gbuf) t4 q al c) (fun _ σ' => Off {.de} σ σ'
      ∧ ∀ y, (P y ∨ ((y 0).val / 32 = q.val ∧ (y 1).val / 128 = 4 * t4.val + c.val)) → σ' .de y = deBlk D M' tok p y) := by
  have hq := q.2
  have hc := c.2
  have ht4 := t4_lt t4
  have ho := off81_at t4 c q
  have hoe := off82_at t4 c
  unfold cell
  refine Tri.bind (Tri.ld hE .gbuf (by decide) _ _) ?_
  rintro w σ1 ⟨hw, rfl⟩
  refine Tri.bind (Tri.ld hE .e (by decide) _ _) ?_
  rintro _ σ1 ⟨-, rfl⟩
  refine Tri.bind (Tri.ld hE .de (by decide) _ _) ?_
  rintro _ σ1 ⟨-, rfl⟩
  refine Tri.bind (Tri.st hE .de (by decide) rfl _ _ _ _) ?_
  rintro _ _ rfl
  refine Tri.pure ⟨Off.update _ _ _ (by decide) _, ?_⟩
  rw [Function.update_self]
  intro y hor
  rcases put_cases (Rect.unit (s := S256x7168) (offE t4 q c) S32x128.size (offE_inb t4 q c)) (quant (codes w) al) (σ1 .de) y with ⟨j, rfl, e⟩ | ⟨hne, e⟩
  · rw [e, quant_at]
    have hj0 : (j 0).val < 32 := (j 0).2
    have hj1 : (j 1).val < 128 := (j 1).2
    have e0 : ((Rect.unit (s := S256x7168) (offE t4 q c) S32x128.size (offE_inb t4 q c)).idx j 0).val = 32 * q.val + 1 * (j 0).val := rfl
    have e1 : ((Rect.unit (s := S256x7168) (offE t4 q c) S32x128.size (offE_inb t4 q c)).idx j 1).val = 128 * (4 * t4.val + c.val) + 1 * (j 1).val :=
      congrArg (fun z : ℕ => z + 1 * (j 1).val) hoe
    unfold deBlk
    refine congrArg₂ deCell ?_ ?_
    · rw [bytes_word w (ValueIdx.ix2 (n0 := 8) (n1 := 128) ⟨(j 0).val / 4, by omega⟩ (j 1)) ((j 0).val % 4) (by omega) j
        (by show (j 0).val = 4 * ((j 0).val / 4) + (j 0).val % 4; omega) rfl, hw]
      have hlt := htok (32 * q.val + (j 0).val) (by omega)
      refine hG c.val t4.val (8 * q.val + (j 0).val / 4) hc ht4 (by omega) _ ((j 0).val % 4) _ (by omega) ?_ ?_ ?_
      · exact (congrArg (fun z : ℕ => z + 1 * ((j 0).val / 4)) (congrFun ho 0)).trans (by
          show 68 * (16 * c.val + t4.val) + 8 * q.val + 1 * ((j 0).val / 4) = _; omega)
      · show tok ((Rect.unit (s := S256x7168) (offE t4 q c) S32x128.size (offE_inb t4 q c)).idx j 0).val % 2048 = _
        rw [e0, show 32 * q.val + 1 * (j 0).val = 32 * q.val + (j 0).val by omega, Nat.mod_eq_of_lt hlt]
        exact congrArg tok (by omega)
      · refine Eq.trans e1 ?_
        refine Eq.trans ?_ (congrArg (fun z : ℕ => 128 * (4 * t4.val + c.val) + (z + 1 * (j 1).val)) (congrFun ho 1)).symm
        show _ = 128 * (4 * t4.val + c.val) + (0 + 1 * (j 1).val); omega
    · refine hal j _ ?_ ?_
      · show ((Rect.unit (s := S256x7168) (offE t4 q c) S32x128.size (offE_inb t4 q c)).idx j 0).val = _
        rw [e0]; omega
      · show ((Rect.unit (s := S256x7168) (offE t4 q c) S32x128.size (offE_inb t4 q c)).idx j 1).val % 128 = _
        rw [e1]; omega
  · rw [e]
    rcases hor with h | ⟨ha, hb⟩
    · exact hP y h
    · exfalso
      refine hne (ValueIdx.ix2 (n0 := 32) (n1 := 128) ⟨(y 0).val % 32, Nat.mod_lt _ (by decide)⟩ ⟨(y 1).val % 128, Nat.mod_lt _ (by decide)⟩) (funext fun a => Fin.ext ?_)
      match a with
      | 0 => show 32 * q.val + 1 * ((y 0).val % 32) = (y 0).val; omega
      | 1 => exact (congrArg (fun z : ℕ => z + 1 * ((y 1).val % 128)) hoe).trans (by show 128 * (4 * t4.val + c.val) + 1 * ((y 1).val % 128) = (y 1).val; omega)

theorem Tri.assumed {σ : St F} {α : Type} {P : Prop} {d : Decidable P} (h : P) {k : PLift P → Prog (TpuEff nD τ sig (Elt F) Λ₀ .tc) α} {Q : α → St F → Prop}
    (hk : ∀ x, Tri E σ (k x) Q) : Tri E σ (.op (.assume P d) k) Q :=
  Tri.bind (p := Prog.lift (.assume P d)) (Tri.assume h) (by rintro x _ rfl; exact hk x)

theorem Tri.accLhsLoaded {σ : St F} (M : Mxu F) (hM : Loaded M) (u : Fin 2) (q : Fin 8) (x : FVec F S32x256 .bf16) :
    Tri E σ (M.accLhsLoaded u (8 * q.val) x (fits q)) (fun M' σ' => Loaded M' ∧ σ' = σ) := by
  unfold Mxu.accLhsLoaded
  exact Tri.assumed (hM.2 u) fun hl => Tri.pure ⟨⟨tidy_accBy M hM.1 u _ q x, hM.2⟩, rfl⟩

theorem Tri.pushRhs {σ : St F} (M : Mxu F) (u : Fin 2) (h : M.reg u 0 = none) (x : FVec F S256x256 .bf16) :
    Tri E σ (M.pushRhs u 0 false x) (fun M' σ' => M' = M.pushed u 0 false x ∧ σ' = σ) := by
  unfold Mxu.pushRhs
  exact Tri.assumed (by intro t ht; rw [h] at ht; cases ht) fun _ => Tri.pure ⟨rfl, rfl⟩

/-- Where four cells of a strip stand. -/
theorem strip_cover (P : S256x7168.Idx → Prop) (y : S256x7168.Idx) (q : ℕ) (n : ℕ)
    (h : P y ∨ ((y 0).val / 32 = q ∧ (y 1).val / 512 = n)) :
    ((((P y ∨ ((y 0).val / 32 = q ∧ (y 1).val / 128 = 4 * n + 0)) ∨ ((y 0).val / 32 = q ∧ (y 1).val / 128 = 4 * n + 1))
      ∨ ((y 0).val / 32 = q ∧ (y 1).val / 128 = 4 * n + 2)) ∨ ((y 0).val / 32 = q ∧ (y 1).val / 128 = 4 * n + 3)) := by
  rcases h with h | ⟨h, hh⟩
  · exact .inl (.inl (.inl (.inl h)))
  · have hm : (y 1).val / 128 = 4 * n + 0 ∨ (y 1).val / 128 = 4 * n + 1 ∨ (y 1).val / 128 = 4 * n + 2 ∨ (y 1).val / 128 = 4 * n + 3 := by omega
    rcases hm with e | e | e | e
    · exact .inl (.inl (.inl (.inr ⟨h, e⟩)))
    · exact .inl (.inl (.inr ⟨h, e⟩))
    · exact .inl (.inr ⟨h, e⟩)
    · exact .inr ⟨h, e⟩

include hE in
theorem Tri.ldAV {σ : St F} (q : Fin 8) (hA : ∀ y, σ .arow y = alphaBlk M' tok p y) :
    Tri E σ (ldA (E.V .arow) q) (fun al σ' => (∀ (j : S32x128.Idx) (y : S256x128.Idx), (y 0).val = 32 * q.val + (j 0).val → (y 1).val = (j 1).val →
      al j = alphaBlk M' tok p y) ∧ σ' = σ) := by
  refine (Tri.ld hE .arow (by decide) _ _).mono ?_
  rintro al σ1 ⟨rfl, rfl⟩
  refine ⟨fun j y h0 h1 => (hA _).trans (congrArg _ (funext fun a => Fin.ext ?_)), rfl⟩
  match a with
  | 0 => show 32 * q.val + 1 * (j 0).val = (y 0).val; omega
  | 1 => show 0 + 1 * (j 1).val = (y 1).val; omega

include hE htok in
theorem Tri.sweepV {σ : St F} (M : Mxu F) (hM : Tidy M)
    (hG : ∀ k ci q, k < 4 → ci < 14 → q < 64 → GAt D tok (σ .gbuf) k ci q) (hA : ∀ y, σ .arow y = alphaBlk M' tok p y)
    (hP : ∀ y : S256x7168.Idx, (y 1).val / 512 < t4.val → σ .de y = deBlk D M' tok p y) :
    Tri E σ (sweep (E.V .e) (E.V .de) h8 (E.V .gbuf) (E.V .arow) t4 M) (fun M1 σ' => Tidy M1 ∧ Off {.de} σ σ'
      ∧ ∀ y : S256x7168.Idx, (y 1).val / 512 < t4.val + 1 → σ' .de y = deBlk D M' tok p y) := by
  have hGo : ∀ {σ' : St F}, Off {.de} σ σ' → ∀ k ci q, k < 4 → ci < 14 → q < 64 → GAt D tok (σ' .gbuf) k ci q := fun o => by
    rw [o .gbuf (by decide)]; exact hG
  have hAo : ∀ {σ' : St F}, Off {.de} σ σ' → ∀ y, σ' .arow y = alphaBlk M' tok p y := fun o => by
    rw [o .arow (by decide)]; exact hA
  unfold sweep
  refine Tri.bind (Tri.pushRhs M 0 (hM.1 0 0) _) ?_
  rintro M1 σ1 ⟨rfl, rfl⟩
  have p1 := pushed_of_none M 0 0 (hM.1 0 0) false (tile (F := F) t4 0#32)
  refine Tri.bind (Tri.pushRhs _ 1 ((p1.2 1 0 (.inl (by decide))).trans (hM.1 1 0)) _) ?_
  rintro M2 σ1 ⟨rfl, rfl⟩
  have p2 := pushed_of_none _ 1 0 ((p1.2 1 0 (.inl (by decide))).trans (hM.1 1 0)) false (tile (F := F) t4 2#32)
  refine Tri.bind (Q := fun M3 σ' => Loaded M3 ∧ Off {.de} σ1 σ' ∧ ∀ y : S256x7168.Idx, ((y 1).val / 512 < t4.val ∨ (y 0).val / 32 = (0 : Fin 8).val ∧ (y 1).val / 512 = t4.val) →
      σ' .de y = deBlk D M' tok p y) ?_ ?_
  · unfold strip0
    refine Tri.bind (Tri.ldAV hE M' tok p 0 hA) ?_
    rintro al σ2 ⟨hal, rfl⟩
    refine Tri.bind (Tri.cellV hE D M' tok p h8 t4 htok 0 al 0 _ hG hal hP) ?_
    rintro x σ3 ⟨o3, p3⟩
    refine Tri.bind (Tri.cellV hE D M' tok p h8 t4 htok 0 al 1 _ (hGo o3) hal p3) ?_
    rintro x' σ4 ⟨o4, p4⟩
    replace o4 := o3.trans o4
    refine Tri.bind (Tri.cellV hE D M' tok p h8 t4 htok 0 al 2 _ (hGo o4) hal p4) ?_
    rintro z σ5 ⟨o5, p5⟩
    replace o5 := o4.trans o5
    refine Tri.bind (Tri.cellV hE D M' tok p h8 t4 htok 0 al 3 _ (hGo o5) hal p5) ?_
    rintro z' σ6 ⟨o6, p6⟩
    replace o6 := o5.trans o6
    refine Tri.pure ⟨?_, o6, fun y hy => p6 y (strip_cover (fun y => (y 1).val / 512 < t4.val) y (0 : Fin 8).val t4.val hy)⟩
    refine ⟨⟨fun u r => ?_, fun u R hR => ?_⟩, fun u => ?_⟩
    · show (if u = 1 ∧ r = 0 then none else if u = 0 ∧ r = 0 then none else Mxu.reg (Mxu.pushed _ 1 0 false _) u r) = none
      split
      · rfl
      · rename_i n1
        split
        · rfl
        · rename_i n0
          rw [p2.2 u r (by by_contra hh; push Not at hh; exact n1 hh), p1.2 u r (by by_contra hh; push Not at hh; exact n0 hh)]
          exact hM.1 u r
    · show (if u = 1 ∧ 4 * (8 * (0 : Fin 8).val) ≤ R.val ∧ R.val < 4 * (8 * (0 : Fin 8).val) + 32 then true else
        if u = 0 ∧ 4 * (8 * (0 : Fin 8).val) ≤ R.val ∧ R.val < 4 * (8 * (0 : Fin 8).val) + 32 then true else Mxu.live (Mxu.pushed _ 1 0 false _) u R) = false
      have : (0 : Fin 8).val = 0 := rfl
      rw [if_neg (by omega), if_neg (by omega), p2.1, p1.1]
      exact hM.2 u R hR
    · match u with
      | 0 => rfl
      | 1 => rfl
  rintro M3 σ2 ⟨l3, o2, q2⟩
  refine (Tri.upTo _ (fun n M3 σ' => Loaded M3 ∧ Off {.de} σ1 σ' ∧ ∀ y : S256x7168.Idx, ((y 1).val / 512 < t4.val ∨ (y 0).val / 32 ≤ n ∧ (y 1).val / 512 = t4.val) →
      σ' .de y = deBlk D M' tok p y) ?_ M3 ⟨l3, o2, fun y hy => q2 y (by rcases hy with h | h; exact .inl h; exact .inr ⟨by show (y 0).val / 32 = 0; omega, h.2⟩)⟩).mono ?_
  · rintro q M4 σ3 ⟨l4, o3, q3⟩
    unfold strip
    refine Tri.bind (Tri.ldAV hE M' tok p q.succ (hAo o3)) ?_
    rintro al σ4 ⟨hal, rfl⟩
    refine Tri.bind (Tri.cellV hE D M' tok p h8 t4 htok q.succ al 0 _ (hGo o3) hal q3) ?_
    rintro x σ5 ⟨o5, p5⟩
    replace o5 := o3.trans o5
    refine Tri.bind (Tri.cellV hE D M' tok p h8 t4 htok q.succ al 1 _ (hGo o5) hal p5) ?_
    rintro x' σ6 ⟨o6, p6⟩
    replace o6 := o5.trans o6
    refine Tri.bind (Tri.accLhsLoaded M4 l4 0 q.succ _) ?_
    rintro M5 σ7 ⟨l5, rfl⟩
    refine Tri.bind (Tri.cellV hE D M' tok p h8 t4 htok q.succ al 2 _ (hGo o6) hal p6) ?_
    rintro z σ8 ⟨o8, p8⟩
    replace o8 := o6.trans o8
    refine Tri.bind (Tri.cellV hE D M' tok p h8 t4 htok q.succ al 3 _ (hGo o8) hal p8) ?_
    rintro z' σ9 ⟨o9, p9⟩
    replace o9 := o8.trans o9
    refine (Tri.accLhsLoaded M5 l5 1 q.succ _).mono ?_
    rintro M6 σa ⟨l6, rfl⟩
    refine ⟨l6, o9, fun y hy => p9 y (strip_cover (fun y => (y 1).val / 512 < t4.val ∨ (y 0).val / 32 ≤ q.val ∧ (y 1).val / 512 = t4.val) y q.succ.val t4.val ?_)⟩
    have hs : (q.succ : Fin 8).val = q.val + 1 := rfl
    rw [hs]
    rcases hy with h | ⟨h, hh⟩
    · exact .inl (.inl h)
    · by_cases hn : (y 0).val / 32 = q.val + 1
      · exact .inr ⟨hn, hh⟩
      · exact .inl (.inr ⟨by omega, hh⟩)
  · rintro M4 σ3 ⟨l4, o3, q3⟩
    refine ⟨l4.1, o3, fun y hy => q3 y ?_⟩
    have hy0 : (y 0).val < 256 := (y 0).2
    by_cases h : (y 1).val / 512 < t4.val
    · exact .inl h
    · exact .inr ⟨by omega, by omega⟩
end

/-! ## The end, which touches neither -/

/-- From row numbers in range the program runs and changes only the buffers named. -/
def OTri (W : Finset Slot) {α : Type} (pr : Prog (TpuEff nD τ sig (Elt F) Λ₀ .tc) α) : Prop :=
  ∀ σ : St F, InRange σ → Tri E σ pr (fun _ σ' => Off W σ σ')

section
variable {W : Finset Slot} (hW : Slot.ord ∉ W) {α β : Type}

theorem InRange.off {W : Finset Slot} (hW : Slot.ord ∉ W) {σ σ' : St F} (h : InRange σ) (ho : Off W σ σ') : InRange σ' := by
  intro y
  rw [ho .ord hW]
  exact h y

include hW in
theorem OTri.bind {pr : Prog (TpuEff nD τ sig (Elt F) Λ₀ .tc) α} {k : α → Prog (TpuEff nD τ sig (Elt F) Λ₀ .tc) β}
    (hp : OTri (E := E) (F := F) W pr) (hk : ∀ a, OTri (E := E) (F := F) W (k a)) : OTri (E := E) (F := F) W (pr >>= k) :=
  fun σ hσ => Tri.bind (hp σ hσ) fun a σ' h => (hk a σ' (hσ.off hW h)).mono fun _ _ h' => h.trans h'

theorem OTri.pure (a : α) : OTri (E := E) (F := F) W (Pure.pure a) := fun σ _ => Tri.pure (Off.refl W σ)

include hE in
theorem OTri.load (j : Slot) (hj : j ≠ .stage) (r : LoadRect j.sh) (hl : (E.V j).view.LoadsAt r) :
    OTri (E := E) (F := F) W (Prog.lift (.load (E.V j) r hl)) :=
  fun σ _ => (Tri.ld hE j hj r hl).mono fun _ _ h => h.2 ▸ Off.refl W σ

include hE in
theorem OTri.store (j : Slot) (hj : j ≠ .stage) (hi : j.input = false) (hm' : j ∈ W) (r : Rect j.sh) (w : r.shape.Idx → Elt F j.el) (Mk : Finset r.shape.Idx)
    (hx : ((E.V j).access r).Stores Mk) (hm : Mk = Finset.univ ∨ ∀ a, r.stride a = 1) :
    OTri (E := E) (F := F) W (Prog.lift (.store (E.V j) r w Mk hx hm)) :=
  fun σ _ => (Tri.storeSome j r w Mk hx hm (by rw [hE.whole j hj]; exact Finset.subset_univ _) (hE.share j hi)).mono
    (by rintro a σ' ⟨X, rfl⟩; exact Off.update W σ j hm' X)

include hW in
theorem OTri.loop (l : Scf.Loop 32) (hok : l.OK) (init : α) (body : Fin l.trips → α → Prog (TpuEff nD τ sig (Elt F) Λ₀ .tc) α)
    (h : ∀ (k : Fin l.trips) a, OTri (E := E) (F := F) W (body k a)) : OTri (E := E) (F := F) W (Scf.Loop.for l hok init body) :=
  fun σ hσ => Tri.loop l hok init body (fun _ _ σ' => Off W σ σ')
    (fun k a σ' hI => (h k a σ' (hσ.off hW hI)).mono fun _ _ h' => hI.trans h') (Off.refl W σ)

include hW in
theorem OTri.upTo {n : Nat} (f : Fin n → α → Prog (TpuEff nD τ sig (Elt F) Λ₀ .tc) α)
    (h : ∀ (k : Fin n) a, OTri (E := E) (F := F) W (f k a)) (a : α) : OTri (E := E) (F := F) W (upTo n f a) :=
  fun σ hσ => Tri.upTo f (fun _ _ σ' => Off W σ σ')
    (fun k a σ' hI => (h k a σ' (hσ.off hW hI)).mono fun _ _ h' => hI.trans h') a (Off.refl W σ)

end

abbrev Wend : Finset Slot := {.arow, .dgs, .dg}
theorem ord_end : Slot.ord ∉ Wend := by decide

include hE in
theorem OTri.stDots (h : Fin 2) (a b c d : FVec F S32x128 .f32) (s : FVec F S1x128 .f32) :
    OTri (E := E) (F := F) Wend (stDots (E.V .es) (E.V .arow) h a b c d s) :=
  OTri.bind ord_end (OTri.load hE .es (by decide) _ _) fun _ => OTri.bind ord_end (OTri.load hE .arow (by decide) _ _) fun _ =>
    OTri.store hE .arow (by decide) rfl (by decide) _ _ _ _ _

include hE in
theorem OTri.scatter (i : grid0.Coords) (t5 : Fin k0_t5_loop.trips) :
    OTri (E := E) (F := F) Wend (scatter i (E.V .ord) (E.V .arow) (E.V .dgs) t5) := by
  have hs : ∀ oA hA v oB hB, OTri (E := E) (F := F) Wend (sStore (E.V .arow) (E.V .dgs) oA hA v oB hB) := fun oA hA v oB hB =>
    OTri.bind ord_end (OTri.load hE .arow (by decide) _ _) fun _ => OTri.bind ord_end (OTri.load hE .dgs (by decide) _ _) fun _ =>
      OTri.store hE .dgs (by decide) rfl (by decide) _ _ _ _ _
  have hw : ∀ (r : Rect S16384) (h1 : r.shape.numel = 1) (hp : EltTy.packing .i32 = 1) {α : Type} (P : Elt F .i32 → Prop) (dc : ∀ v, Decidable (P v))
      (hP : ∀ v : Elt F .i32, BitVec.toNat (w := 32) v < 16384 → P v)
      (k : (v : Elt F .i32) → PLift (P v) → Prog (TpuEff nD τ sig (Elt F) Λ₀ .tc) α), (∀ v x, OTri (E := E) (F := F) Wend (k v x)) →
      OTri (E := E) (F := F) Wend (smemLoad (E.V .ord) r h1 hp >>= fun v => Prog.lift (TpuEff.assume (P v) (dc v)) >>= fun x => k v x) := by
    intro r h1 hp α P dc hP k hk σ hσ
    refine Tri.bind (Tri.word (E.V .ord) rfl r h1 hp (by rw [hE.whole .ord (by decide)]; exact Finset.subset_univ _)) ?_
    rintro v σ1 ⟨rfl, rfl⟩
    refine Tri.bind (Tri.assume (hP _ (hσ _))) ?_
    rintro x σ2 rfl
    exact hk _ x σ2 hσ
  refine hw _ _ _ _ _ (fun v h => chk5_of v h) _ fun v0 x0 => OTri.bind ord_end (hs _ _ _ _ _) fun _ => ?_
  refine hw _ _ _ _ _ (fun v h => chk5_of v h) _ fun v0 x0 => OTri.bind ord_end (hs _ _ _ _ _) fun _ => ?_
  refine hw _ _ _ _ _ (fun v h => chk5_of v h) _ fun v0 x0 => OTri.bind ord_end (hs _ _ _ _ _) fun _ => ?_
  refine hw _ _ _ _ _ (fun v h => chk5_of v h) _ fun v0 x0 => OTri.bind ord_end (hs _ _ _ _ _) fun _ => ?_
  refine hw _ _ _ _ _ (fun v h => chk5_of v h) _ fun v0 x0 => OTri.bind ord_end (hs _ _ _ _ _) fun _ => ?_
  refine hw _ _ _ _ _ (fun v h => chk5_of v h) _ fun v0 x0 => OTri.bind ord_end (hs _ _ _ _ _) fun _ => ?_
  refine hw _ _ _ _ _ (fun v h => chk5_of v h) _ fun v0 x0 => OTri.bind ord_end (hs _ _ _ _ _) fun _ => ?_
  exact hw _ _ _ _ _ (fun v h => chk5_of v h) _ fun v0 x0 => hs _ _ _ _ _

include hE in
theorem OTri.finish (i : grid0.Coords) (s0 s1 : FVec F S1x128 .f32) (M : Mxu F) (hM : Tidy M) :
    OTri (E := E) (F := F) Wend (finish i (E.V .ord) (E.V .es) (E.V .dg) (E.V .arow) (E.V .dgs) s0 (half s1 M)) := by
  refine OTri.bind ord_end (OTri.stDots hE _ _ _ _ _ _) fun _ => OTri.bind ord_end (OTri.stDots hE _ _ _ _ _ _) fun _ => ?_
  refine OTri.bind ord_end (OTri.loop ord_end _ _ _ _ (fun t5 _ => OTri.scatter hE i t5)) fun _ => ?_
  have hx : OTri (E := E) (F := F) Wend ((pops (pops (pops (pops (pops (pops (half s1 M).2.2.2.2 2) 3) 4) 5) 6) 7).exit >>= fun _ => Pure.pure PUnit.unit) := by
    intro σ hσ
    unfold Mxu.exit
    exact Tri.assumed (drained M hM) fun _ => Tri.pure (Off.refl _ _)
  by_cases h3 : k0_cond3 i = 1#1
  · rw [dif_pos h3]
    exact OTri.bind ord_end (OTri.upTo ord_end _ (fun k _ => OTri.bind ord_end (OTri.load hE .dgs (by decide) _ _) fun _ =>
      OTri.bind ord_end (OTri.load hE .dg (by decide) _ _) fun _ => OTri.store hE .dg (by decide) rfl (by decide) _ _ _ _ _) ()) fun _ => hx
  · rw [dif_neg h3]
    exact hx

/-! ## The step after its table -/

abbrev Wrest : Finset Slot := {.gbuf, .mbuf, .sc, .de, .arow, .dgs, .dg}

include hE in
theorem Tri.restV (i : grid0.Coords) (h8 : (E.V .de).IsWhole) {σ : St F} (O : S16384.Idx → BitVec 32) (hO : σ .ord = O) (hr : InRange σ) (hp : σ .ordv = p) (hM : σ .mtab = M')
    (hF : ∀ t, t < 2048 → ∀ k, k < 14 → TabAt D (σ .tab) t k) :
    Tri E σ (rest i (E.V .ord) (E.V .ordv) (E.V .e) (E.V .es) (E.V .de) h8 (E.V .sc) (E.V .dg) (E.V .tab) (E.V .mtab) (E.V .gbuf) (E.V .mbuf) (E.V .arow) (E.V .dgs))
      (fun _ σ' => Off Wrest σ σ' ∧ σ' .sc = scBlk M' (tokAt O i) p ∧ σ' .de = deBlk D M' (tokAt O i) p) := by
  have htok : ∀ r, r < 256 → tokAt O i r < 2048 := by
    intro r _
    have h : wordAt O (256 * (i 0).val + r) < 16384 := by unfold wordAt; rw [← hO]; exact hr _
    unfold tokAt; omega
  unfold rest steps sweeps
  refine Tri.bind (Tri.loop _ _ _ _ (fun n _ σ' => Off {.gbuf, .mbuf} σ σ' ∧ (∀ k ci q, k < 4 → ci < 14 → q < 64 → q < n → GAt D (tokAt O i) (σ' .gbuf) k ci q)
      ∧ ∀ r, r < 4 * n → MAt (tokAt O i) M' (σ' .mbuf) r) ?_ ⟨Off.refl _ _, fun _ _ _ _ _ _ h => absurd h (Nat.not_lt_zero _), fun _ h => absurd h (Nat.not_lt_zero _)⟩) ?_
  · rintro t3 _ σ1 ⟨o, g, b⟩
    refine (Tri.gatherV hE i D t3 O (by rw [o .ord (by decide)]; exact hO) (hr.off (by decide) o) M' (by rw [o .mtab (by decide)]; exact hM)
      (by rw [o .tab (by decide)]; exact hF) g b).mono ?_
    rintro _ σ2 ⟨o', g', b'⟩
    exact ⟨o.trans o', g', b'⟩
  rintro _ σ1 ⟨o1, g1, b1⟩
  rw [trips3] at g1 b1
  refine Tri.bind (Tri.picksV hE M' (tokAt O i) p 0 (fun _ => False) htok (by rw [o1 .ordv (by decide)]; exact hp) b1 (fun _ h => h.elim) (fun _ h => h.elim)) ?_
  rintro s0 σ2 ⟨o2, s2, a2⟩
  have oo2 : Off Wrest σ σ2 := (o1.mono (by decide)).trans (o2.mono (by decide))
  refine Tri.bind (Q := fun r σ' => (∃ s1 M, Tidy M ∧ r = half s1 M) ∧ Off Wrest σ σ' ∧ σ' .sc = scBlk M' (tokAt O i) p ∧ σ' .de = deBlk D M' (tokAt O i) p) ?_ ?_
  · refine Tri.bind (Tri.picksV hE M' (tokAt O i) p 1 (fun k => False ∨ k = (0 : Fin 2).val) htok (by rw [oo2 .ordv (by decide)]; exact hp) (by rw [o2 .mbuf (by decide)]; exact b1) s2 a2) ?_
    rintro s1 σ3 ⟨o3, s3, a3⟩
    have oo3 : Off Wrest σ σ3 := oo2.trans (o3.mono (by decide))
    have hs3 : σ3 .sc = scBlk M' (tokAt O i) p := funext fun y => s3 y (by
      have hy : (y 1).val < 256 := (y 1).2
      show (False ∨ (y 1).val / 128 = 0) ∨ (y 1).val / 128 = 1
      omega)
    have ha3 : ∀ y, σ3 .arow y = alphaBlk M' (tokAt O i) p y := fun y => a3 y (by
      have hy : (y 0).val < 256 := (y 0).2
      show (False ∨ (y 0).val / 128 = 0) ∨ (y 0).val / 128 = 1
      omega)
    have hg3 : ∀ k ci q, k < 4 → ci < 14 → q < 64 → GAt D (tokAt O i) (σ3 .gbuf) k ci q := by
      rw [o3 .gbuf (by decide), o2 .gbuf (by decide)]
      exact fun k ci q hk hc hq => g1 k ci q hk hc hq hq
    refine Tri.bind (Tri.loop _ _ _ _ (fun n M σ' => Tidy M ∧ Off {.de} σ3 σ' ∧ ∀ y : S256x7168.Idx, (y 1).val / 512 < n → σ' .de y = deBlk D M' (tokAt O i) p y) ?_
      ⟨⟨fun _ _ => rfl, fun _ _ _ => rfl⟩, Off.refl _ _, fun _ h => absurd h (Nat.not_lt_zero _)⟩) ?_
    · rintro t4 M σ4 ⟨m4, o4, d4⟩
      refine (Tri.sweepV hE D M' (tokAt O i) p h8 t4 htok M m4 (by rw [o4 .gbuf (by decide)]; exact hg3) (by rw [o4 .arow (by decide)]; exact ha3) d4).mono ?_
      rintro M1 σ5 ⟨m5, o5, d5⟩
      exact ⟨m5, o4.trans o5, d5⟩
    · rintro M σ4 ⟨m4, o4, d4⟩
      refine Tri.pure ⟨⟨s1, M, m4, rfl⟩, oo3.trans (o4.mono (by decide)), (o4 .sc (by decide)).trans hs3, funext fun y => d4 y ?_⟩
      have hy : (y 1).val < 7168 := (y 1).2
      rw [trips4]; omega
  · rintro _ σ3 ⟨⟨s1, M, hM', rfl⟩, o3, hs, hd⟩
    refine (OTri.finish hE i s0 s1 M hM' σ3 (hr.off (by decide) o3)).mono ?_
    intro _ σ4 o4
    exact ⟨o3.trans (o4.mono (by decide)), (o4 .sc (by decide)).trans hs, (o4 .de (by decide)).trans hd⟩

end

end Cert.KernelIdeal.Own
end
end
-- ==== Proof.Valued.lean ====
module

public import proofs.«01_k».proof.Proof.Rows
public import proofs.«01_k».proof.Proof.Filling
public import proofs.«01_k».proof.Proof.Run

@[expose] public section

/-! What a step computes: the table filled, then the rows of the step. -/

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open Idealize.SL.Sem

variable {F : FTy → Type} [FloatOps F]

local notation "𝕄" => MT nD τ sig Unit (Elt F) ℕ (Pipeline.UD sig nD τ) ℕ

theorem par_val : ∀ t1 : Fin k0_t1_loop.trips, (par t1.val).val = t1.val % 2 := by decide

/-- The batch that landed is the batch of the rows in the main memory. -/
theorem staged (c : Dev nD) (fs : Buf (Elt F) ((c : Thread nD τ).loc main_arg0)) (t1 : Fin k0_t1_loop.trips) (h : t1.val < 8)
    (X : S2x256x7168.Idx → Elt F .i8) (hX : Landing c (Memref.whole main_arg0) fs (par t1.val) ⟨t1.val, h⟩ X) : Staged fs t1.val X := by
  intro y z h0 hz0 hz1
  have hx := hX (ValueIdx.ix2 (n0 := 256) (n1 := 7168) (y 1) (y 2))
  have hp := par_val t1
  have e1 : shapeCast S256x7168 (fun x : S1x256x7168.Idx => X ((Rect.unit (s := S2x256x7168) (offHalf (par t1.val)) S1x256x7168.size (offHalf_inb (par t1.val))).toLoadRect.idx x)) halfCasts
      (ValueIdx.ix2 (n0 := 256) (n1 := 7168) (y 1) (y 2)) = X y := by
    rw [shapeCast_apply _ _ _ (ValueIdx.ix3 (n0 := 1) (n1 := 256) (n2 := 7168) 0 (y 1) (y 2)) (by
      rw [Shape.rowMajor_val_two, Shape.rowMajor_val_three]
      show (0 * 256 + (y 1).val) * 7168 + (y 2).val = (y 1).val * 7168 + (y 2).val
      omega)]
    refine congrArg X (funext fun a => Fin.ext ?_)
    match a with
    | 0 => show (par t1.val).val + 1 * 0 = (y 0).val; omega
    | 1 => show 0 + 1 * (y 1).val = (y 1).val; omega
    | 2 => show 0 + 1 * (y 2).val = (y 2).val; omega
  rw [e1] at hx
  rw [hx]
  have e2 : (Rect.unit (s := S2048x7168) (offRows ⟨t1.val, h⟩) S256x7168.size (offRows_inb ⟨t1.val, h⟩)).toLoadRect.idx (ValueIdx.ix2 (n0 := 256) (n1 := 7168) (y 1) (y 2)) = z := by
    refine funext fun a => Fin.ext ?_
    match a with
    | 0 => show 256 * t1.val + 1 * (y 1).val = (z 0).val; omega
    | 1 => show 0 + 1 * (y 2).val = (z 1).val; omega
  exact congrArg fs e2

section
variable (i : grid0.Coords) (c : Dev nD) (𝒱 : Variants) (V : (j : Slot) → Memref sig .tc j.sp j.sh j.el) (qs : Slot → PosShare TreeShare)
  (fs : Buf (Elt F) ((c : Thread nD τ).loc main_arg0)) (S : S1x2048.Idx → F .f32) (G : S8x2048.Idx → F .f32)

theorem Tri.fillsV {E : Env} (hE : Fit E) (h1 : k0_cond1 i = 1#1) (t1 : Fin k0_t1_loop.trips)
    (D : S2048x7168.Idx → BitVec 8) (hD : halfSet (par t1.val) ⊆ E.D .stage) (σ : St F) (hst : Staged D t1.val (σ .stage)) (hS : σ .s = S) (hG : σ .g = G)
    (hF : Filled D S G (256 * t1.val) (σ .tab) (σ .mtab)) :
    Tri E σ (fills i (E.V .s) (E.V .g) (E.V .tab) (E.V .mtab) (E.V .arow) (E.V .stage) h1 t1)
      (fun _ σ' => Off {.tab, .mtab, .arow} σ σ' ∧ Filled D S G (256 * (t1.val + 1)) (σ' .tab) (σ' .mtab)) := by
  unfold fills
  refine (Tri.loop _ _ _ _ (fun n _ σ' => Off {.tab, .mtab, .arow} σ σ' ∧ Filled D S G (256 * t1.val + 128 * n) (σ' .tab) (σ' .mtab)) ?_
    ⟨Off.refl _ _, hF⟩).mono ?_
  · rintro t2 _ σ1 ⟨o, f⟩
    refine (Tri.fillV hE i h1 t1 t2 D S G hD σ1 (by rw [o .stage (by decide)]; exact hst) (by rw [o .s (by decide)]; exact hS)
      (by rw [o .g (by decide)]; exact hG) f).mono ?_
    rintro _ σ2 ⟨o', f'⟩
    exact ⟨o.trans o', f'⟩
  · rintro _ σ1 ⟨o, f⟩
    rw [trips2] at f
    exact ⟨o, by rw [show 256 * (t1.val + 1) = 256 * t1.val + 128 * 2 by omega]; exact f⟩

/-- What the prologue may change. -/
abbrev Wpro : Finset Slot := {.tab, .mtab, .arow, .dgs, .stage}

/-- The prologue, where there is one, fills the table. -/
def proV (hqs : ∀ j, j.input = false → qs j = fullShare) (σ : St F) (hS : σ .s = S) (hG : σ .g = G)
    (hs : ¬ k0_cond1 i = 1#1 → Filled fs S G 2048 (σ .tab) (σ .mtab)) :
    Pro i c 𝒱 V qs (Memref.whole main_arg0) fs σ (fun σ' => Off Wpro σ σ' ∧ Filled fs S G 2048 (σ' .tab) (σ' .mtab)) where
  I k σ' := Off Wpro σ σ' ∧ Filled fs S G (256 * k) (σ' .tab) (σ' .mtab)
  stage k σ' X h := ⟨h.1.trans (Off.update _ _ _ (by decide) _), by
    rw [Function.update_of_ne (by decide), Function.update_of_ne (by decide)]; exact h.2⟩
  fill h1 t1 h σ' h' hL := (Tri.fillsV i S G (mkE_fit c 𝒱 V qs hqs (halfSet (par t1.val))) h1 t1 fs (Finset.Subset.refl _) σ' (staged c fs t1 h _ hL)
    (by rw [h'.1 .s (by decide)]; exact hS) (by rw [h'.1 .g (by decide)]; exact hG) h'.2).mono
      fun _ _ h2 => ⟨h'.1.trans (h2.1.mono (by decide)), h2.2⟩
  zero _ := by
    have hE := mkE_fit c 𝒱 V qs hqs ∅
    refine (Tri.ldst hE .dgs (by decide) rfl _ _ _ _ _ _).mono ?_
    rintro _ _ rfl
    exact ⟨Off.update _ _ _ (by decide) _, fun t ht => absurd ht (by omega), fun t ht => absurd ht (by omega)⟩
  done _ _ h := h
  skip h := ⟨Off.refl _ _, hs h⟩
end

/-! ## The step -/

variable (F) in
/-- The factors of every row. -/
def metaAll (D : S2048x7168.Idx → BitVec 8) (S : S1x2048.Idx → F .f32) (G : S8x2048.Idx → F .f32) : S2048x128.Idx → F .f32 := fun y =>
  metaSpec D S G (128 * ((y 0).val / 128)) (ValueIdx.ix2 (n0 := 128) (n1 := 128) ⟨(y 0).val % 128, Nat.mod_lt _ (by decide)⟩ (y 1))

theorem metaAll_eq {D : S2048x7168.Idx → BitVec 8} {S : S1x2048.Idx → F .f32} {G : S8x2048.Idx → F .f32} {tab : S30728x128.Idx → BitVec 32}
    {mtab : S2048x128.Idx → F .f32} (h : Filled D S G 2048 tab mtab) : mtab = metaAll F D S G := by
  funext y
  exact h.2 (y 0).val (y 0).2 y _ rfl rfl rfl

theorem cond1_of : ∀ t : Fin grid0.N, ¬ k0_cond1 (grid0.coords t) = 1#1 → 0 < t.val := by decide

/-- The table is full after the first step. -/
def JV (D : S2048x7168.Idx → BitVec 8) (S : S1x2048.Idx → F .f32) (G : S8x2048.Idx → F .f32) : Tables F := fun k tab mtab => 0 < k → Filled D S G 2048 tab mtab

/-- What a step changes. -/
abbrev Wall : Finset Slot := Wpro ∪ Wrest

theorem stepV (c : Dev nD) (s : (w : Fin 8) → Fin (spec0 w).nbuf) (t : Fin grid0.N) (𝒱 : Variants) (fs : Buf (Elt F) ((c : Thread nD τ).loc main_arg0)) (σ : St F)
    (hr : InRange σ) (hJ : JV fs (σ .s) (σ .g) t.val (σ .tab) (σ .mtab)) :
    Runs c s t 𝒱 fs σ (fun σ' => Off Wall σ σ' ∧ JV fs (σ .s) (σ .g) (t.val + 1) (σ' .tab) (σ' .mtab)
      ∧ σ' .sc = scBlk (metaAll F fs (σ .s) (σ .g)) (tokAt (σ .ord) (grid0.coords t)) (σ .ordv)
      ∧ σ' .de = deBlk fs (metaAll F fs (σ .s) (σ .g)) (tokAt (σ .ord) (grid0.coords t)) (σ .ordv)) := by
  refine wp_point c s t 𝒱 fs σ _ _ (proV (grid0.coords t) c 𝒱 (Vs s) qs fs (σ .s) (σ .g) qs_out σ rfl rfl (fun h => hJ (cond1_of t h))) ?_
  rintro σ1 ⟨o1, f1⟩
  refine (Tri.restV (mkE_fit c 𝒱 (Vs s) qs qs_out ∅) fs (metaAll F fs (σ .s) (σ .g)) (σ .ordv) (grid0.coords t) _ (σ .ord) (o1 .ord (by decide)) (hr.off (by decide) o1)
    (o1 .ordv (by decide)) (metaAll_eq f1) f1.1).mono ?_
  rintro _ σ2 ⟨o2, s2, d2⟩
  refine ⟨(o1.mono (by decide)).trans (o2.mono (by decide)), fun _ => ?_, s2, d2⟩
  rw [o2 .tab (by decide), o2 .mtab (by decide)]
  exact f1

end Cert.KernelIdeal.Own
end
end
-- ==== Proof.Pipe.lean ====
module

public import proofs.«01_k».proof.Proof.Run
public import proofs.«01_k».proof.Proof.Valued

@[expose] public section

/-! The whole run with the values of the codes and of the scales. -/

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-- The part of an operand a step reads. -/
def iblk (c : Dev nD) (w : Fin 8) (t : Fin (cfgM m).N) : (((cfgM m).win w).xblock ((cfgM m).grid.coords t)).Idx → Elt F ((cfgM m).win w).elt :=
  (((cfgM m).win w).blk t).view.read (Elt F) (Vm m c (Pipeline.arrRef spec0 w))

theorem idx_ext2 {sz : Fin 2 → ℕ} {x z : Shape.Idx ⟨2, sz⟩} (h0 : (x 0).val = (z 0).val) (h1 : (x 1).val = (z 1).val) : x = z :=
  funext fun a => Fin.ext (by match a with | 0 => exact h0 | 1 => exact h1)

theorem tr0 : ∀ t : Fin grid0.N, cc0_transform_0 (grid0.coords t) 0 = 0 ∧ cc0_transform_0 (grid0.coords t) 1 = t.val := by decide +kernel
theorem tr6 : ∀ t : Fin grid0.N, cc0_transform_6 (grid0.coords t) 0 = t.val ∧ cc0_transform_6 (grid0.coords t) 1 = 0 := by decide +kernel
theorem tr7 : ∀ t : Fin grid0.N, cc0_transform_7 (grid0.coords t) 0 = 0 ∧ cc0_transform_7 (grid0.coords t) 1 = t.val := by decide +kernel

theorem iblk0_apply (c : Dev nD) (t : Fin (cfgM m).N) (y : S1x256.Idx) (z : S1x16384.Idx) (h0 : (z 0).val = 0) (h1 : (z 1).val = 256 * t.val + (y 1).val) :
    (iblk m c 0 t : S1x256.Idx → Elt F .i32) y = (Vm m c main_v0 : S1x16384.Idx → Elt F .i32) z := by
  have hy0 : (y 0).val = 0 := by have := (y 0).isLt; have e : S1x256.size 0 = 1 := rfl; omega
  have e : @Eq S1x16384.Idx ((((cfgM m).win 0).blk t).view.emb y) z := idx_ext2
    ((show _ = cc0_transform_0 (grid0.coords t) 0 * 1 + 1 * (y 0).val from rfl).trans (by rw [(tr0 t).1]; omega))
    ((show _ = cc0_transform_0 (grid0.coords t) 1 * 256 + 1 * (y 1).val from rfl).trans (by rw [(tr0 t).2]; omega))
  exact congrArg (Vm m c main_v0 : S1x16384.Idx → Elt F .i32) e

theorem iblk1_eq (c : Dev nD) (t : Fin (cfgM m).N) : (iblk m c 1 t : S1x2048.Idx → Elt F .f32) = Vm m c main_v1 := by
  funext y
  have e : @Eq S1x2048.Idx ((((cfgM m).win 1).blk t).view.emb y) y := idx_ext2
    ((show _ = 0 * 1 + 1 * (y 0).val from rfl).trans (by omega))
    ((show _ = 0 * 2048 + 1 * (y 1).val from rfl).trans (by omega))
  exact congrArg (Vm m c main_v1 : S1x2048.Idx → Elt F .f32) e

theorem iblk4_eq (c : Dev nD) (t : Fin (cfgM m).N) : (iblk m c 4 t : S8x2048.Idx → Elt F .f32) = Vm m c main_v3 := by
  funext y
  have e : @Eq S8x2048.Idx ((((cfgM m).win 4).blk t).view.emb y) y := idx_ext2
    ((show _ = 0 * 8 + 1 * (y 0).val from rfl).trans (by omega))
    ((show _ = 0 * 2048 + 1 * (y 1).val from rfl).trans (by omega))
  exact congrArg (Vm m c main_v3 : S8x2048.Idx → Elt F .f32) e

/-- The table of the tokens' factors. -/
def metaV (c : Dev nD) : S2048x128.Idx → Elt F .f32 := metaAll F (Vm m c main_arg0) (Vm m c main_v1) (Vm m c main_v3)

def deAt (c : Dev nD) (t : Fin grid0.N) : S256x7168.Idx → Elt F .fp8e5m2 :=
  deBlk (Vm m c main_arg0) (metaV m c) (tokAt (Vm m c main_arg5) (grid0.coords t)) (iblk m c 0 t : S1x256.Idx → Elt F .i32)
def scAt (c : Dev nD) (t : Fin grid0.N) : S1x256.Idx → Elt F .f32 :=
  scBlk (metaV m c) (tokAt (Vm m c main_arg5) (grid0.coords t)) (iblk m c 0 t : S1x256.Idx → Elt F .i32)

abbrev JM (c : Dev nD) : Tables F := JV (Vm m c main_arg0) (Vm m c main_v1) (Vm m c main_v3)

def datsV (_ : Fin 1) (c : Dev nD) : Dat τ (Elt F) Unit ℕ (Pipeline.UD sig nD τ) ℕ (cfgM m) c where
  A w := Vm m c (Pipeline.arrRef spec0 w)
  after w t := match w with
    | ⟨0, _⟩ => iblk m c 0 t
    | ⟨1, _⟩ => iblk m c 1 t
    | ⟨2, _⟩ => Pipeline.Dat.unnamed (cfg := cfgM m) 2 t
    | ⟨3, _⟩ => Pipeline.Dat.unnamed (cfg := cfgM m) 3 t
    | ⟨4, _⟩ => iblk m c 4 t
    | ⟨5, _⟩ => deAt m c t
    | ⟨6, _⟩ => scAt m c t
    | ⟨7, _⟩ => Pipeline.Dat.unnamed (cfg := cfgM m) 7 t
  Φ k := Inv m (JM m c) c k.val
  q _ := fullShare
  owed _ := 0

theorem AV_eq (c : Dev nD) (w : Fin 8) : (datsV m 0 c).A w = Vm m c (Pipeline.arrRef spec0 w) := by dsimp only [datsV]
theorem afterV0 (c : Dev nD) (t : Fin (cfgM m).N) : (datsV m 0 c).after 0 t = iblk m c 0 t := by rfl
theorem afterV1 (c : Dev nD) (t : Fin (cfgM m).N) : (datsV m 0 c).after 1 t = iblk m c 1 t := by rfl
theorem afterV4 (c : Dev nD) (t : Fin (cfgM m).N) : (datsV m 0 c).after 4 t = iblk m c 4 t := by rfl
theorem afterV5 (c : Dev nD) (t : Fin (cfgM m).N) : (datsV m 0 c).after 5 t = deAt m c t := by rfl
theorem afterV6 (c : Dev nD) (t : Fin (cfgM m).N) : (datsV m 0 c).after 6 t = scAt m c t := by rfl

theorem beforeV0 (c : Dev nD) (t : Fin (cfgM m).N) (d) : (datsV m 0 c).before 0 t d = iblk m c 0 t :=
  ((datsV m 0 c).before_in_eq_fetched 0 rfl (fun _ => rfl) (fun _ _ _ => rfl) (fun t => by rw [afterV0]; unfold Dat.blockOf iblk; rw [AV_eq]; try rfl) t d).trans
    (by unfold Dat.fetched Dat.blockOf iblk; rw [AV_eq]; try rfl)
theorem beforeV1 (c : Dev nD) (t : Fin (cfgM m).N) (d) : (datsV m 0 c).before 1 t d = iblk m c 1 t :=
  ((datsV m 0 c).before_in_eq_fetched 1 rfl (fun _ => rfl) (fun _ _ _ => rfl) (fun t => by rw [afterV1]; unfold Dat.blockOf iblk; rw [AV_eq]; try rfl) t d).trans
    (by unfold Dat.fetched Dat.blockOf iblk; rw [AV_eq]; try rfl)
theorem beforeV4 (c : Dev nD) (t : Fin (cfgM m).N) (d) : (datsV m 0 c).before 4 t d = iblk m c 4 t :=
  ((datsV m 0 c).before_in_eq_fetched 4 rfl (fun _ => rfl) (fun _ _ _ => rfl) (fun t => by rw [afterV4]; unfold Dat.blockOf iblk; rw [AV_eq]; try rfl) t d).trans
    (by unfold Dat.fetched Dat.blockOf iblk; rw [AV_eq]; try rfl)

/-- The windows of which nothing is said. -/
abbrev forgetsV : Fin 8 → Bool := fun w => match w with
  | ⟨2, _⟩ => true | ⟨3, _⟩ => true | ⟨7, _⟩ => true
  | ⟨0, _⟩ => false | ⟨1, _⟩ => false | ⟨4, _⟩ => false | ⟨5, _⟩ => false | ⟨6, _⟩ => false

def bodyPreV (c : Dev nD) (t : Fin (cfgM m).N) : sProp 𝕄 :=
  iprop((datsV m 0 c).Φ t.castSucc ∗ (datsV m 0 c).owesAt () t.castSucc
    ∗ (∃ d, owns (c : Thread nD τ) (spec0_0.stage ((cfgM m).slots t 0)) fullShare ((datsV m 0 c).before 0 t d)) ∗ (∃ d, owns (c : Thread nD τ) (spec0_1.stage ((cfgM m).slots t 1)) fullShare ((datsV m 0 c).before 1 t d))
    ∗ (∃ d, owns (c : Thread nD τ) (spec0_2.stage ((cfgM m).slots t 2)) fullShare d) ∗ (∃ d, owns (c : Thread nD τ) (spec0_3.stage ((cfgM m).slots t 3)) fullShare d)
    ∗ (∃ d, owns (c : Thread nD τ) (spec0_4.stage ((cfgM m).slots t 4)) fullShare ((datsV m 0 c).before 4 t d)) ∗ (∃ d, owns (c : Thread nD τ) (spec0_5.stage ((cfgM m).slots t 5)) fullShare ((datsV m 0 c).before 5 t d))
    ∗ (∃ d, owns (c : Thread nD τ) (spec0_6.stage ((cfgM m).slots t 6)) fullShare ((datsV m 0 c).before 6 t d)) ∗ (∃ d, owns (c : Thread nD τ) (spec0_7.stage ((cfgM m).slots t 7)) fullShare d))
def bodyPostV (c : Dev nD) (t : Fin (cfgM m).N) : sProp 𝕄 :=
  iprop((datsV m 0 c).Φ t.succ ∗ (datsV m 0 c).owesAt () t.succ
    ∗ (owns (c : Thread nD τ) (spec0_0.stage ((cfgM m).slots t 0)) fullShare ((datsV m 0 c).after 0 t)) ∗ (owns (c : Thread nD τ) (spec0_1.stage ((cfgM m).slots t 1)) fullShare ((datsV m 0 c).after 1 t))
    ∗ (∃ d, owns (c : Thread nD τ) (spec0_2.stage ((cfgM m).slots t 2)) fullShare d) ∗ (∃ d, owns (c : Thread nD τ) (spec0_3.stage ((cfgM m).slots t 3)) fullShare d)
    ∗ (owns (c : Thread nD τ) (spec0_4.stage ((cfgM m).slots t 4)) fullShare ((datsV m 0 c).after 4 t)) ∗ (owns (c : Thread nD τ) (spec0_5.stage ((cfgM m).slots t 5)) fullShare ((datsV m 0 c).after 5 t))
    ∗ (owns (c : Thread nD τ) (spec0_6.stage ((cfgM m).slots t 6)) fullShare ((datsV m 0 c).after 6 t)) ∗ (∃ d, owns (c : Thread nD τ) (spec0_7.stage ((cfgM m).slots t 7)) fullShare d))

variable (hin : ∀ (c : Dev nD) (y : S16384.Idx), BitVec.toNat (w := 32) (m ((c : Thread nD τ).loc main_arg5) y) < 16384)

include hin in
theorem sound_bodyV (c : Dev nD) (t : Fin (cfgM m).N) :
    bodyPreV m c t ⊢ wp frame (wpE (defs₀ (F := F)) Variants.none c none) Set.univ (bodyAt ((cfgM m).slots t) t) (fun _ => bodyPostV m c t) := by
  unfold bodyPreV bodyPostV
  simp only [beforeV0, beforeV1, beforeV4, afterV0, afterV1, afterV4, afterV5, afterV6]
  rw [show (datsV m 0 c).Φ t.succ = Inv m (JM m c) c (t.val + 1) from rfl, show (datsV m 0 c).Φ t.castSucc = Inv m (JM m c) c t.val from rfl,
    show (datsV m 0 c).owesAt () t.succ = (datsV m 0 c).owesAt () t.castSucc from rfl]
  unfold Dat.owesAt Pipeline.owesWithin
  rw [show (datsV m 0 c).owed t.castSucc = 0 from rfl]
  iintro ⟨HI, ⟨%W, %hW, HO⟩, ⟨%d0, W0⟩, ⟨%d1, W1⟩, ⟨%d2, W2⟩, ⟨%d3, W3⟩, ⟨%d4, W4⟩, ⟨%d5, W5⟩, ⟨%d6, W6⟩, ⟨%d7, W7⟩⟩
  have x : St F := Classical.arbitrary _
  let X : St F := fun
    | .ordv => (iblk m c 0 t : S1x256.Idx → Elt F .i32) | .s => (iblk m c 1 t : S1x2048.Idx → Elt F .f32) | .e => d2 | .es => d3 | .g => (iblk m c 4 t : S8x2048.Idx → Elt F .f32)
    | .de => (datsV m 0 c).before 5 t d5 | .sc => (datsV m 0 c).before 6 t d6 | .dg => d7
    | .ord => x .ord | .tab => x .tab | .mtab => x .mtab | .gbuf => x .gbuf | .mbuf => x .mbuf | .arow => x .arow | .dgs => x .dgs | .stage => x .stage
  have h := wp_step m (JM m c) c t ((cfgM m).slots t) X
    (fun σ' => σ' .ordv = (iblk m c 0 t : S1x256.Idx → Elt F .i32) ∧ σ' .s = (iblk m c 1 t : S1x2048.Idx → Elt F .f32) ∧ σ' .g = (iblk m c 4 t : S8x2048.Idx → Elt F .f32)
      ∧ σ' .de = deAt m c t ∧ σ' .sc = scAt m c t) (by
    intro σ ho hJ h0 h1 _ _ h4 _
    have hr : InRange σ := fun y => by rw [ho]; exact hin c y
    have e1 : σ .s = Vm m c main_v1 := h1.trans (iblk1_eq m c t)
    have e4 : σ .g = Vm m c main_v3 := h4.trans (iblk4_eq m c t)
    have hp := stepV c ((cfgM m).slots t) t Variants.none (Vm m c main_arg0) σ hr (by rw [e1, e4]; exact hJ)
    refine hp.mono fun σ' hk => ?_
    obtain ⟨hoff, hj, hsc, hde⟩ := hk
    rw [e1, e4] at hj hsc hde
    rw [ho, h0] at hsc hde
    exact ⟨(hoff .ord (by decide)).trans ho, hj, (hoff .ordv (by decide)).trans h0, (hoff .s (by decide)).trans h1, (hoff .g (by decide)).trans h4, hde, hsc⟩)
  unfold Win at h
  iapply (h _)
  isplitl [HI]; · iexact HI
  isplitl [HO]; · iexists W; iexact HO
  isplitl [W0 W1 W2 W3 W4 W5 W6 W7]
  · isplitl [W0]; · iexact W0
    isplitl [W1]; · iexact W1
    isplitl [W2]; · iexact W2
    isplitl [W3]; · iexact W3
    isplitl [W4]; · iexact W4
    isplitl [W5]; · iexact W5
    isplitl [W6]; · iexact W6
    iexact W7
  iintro ⟨HI, ⟨%W', HO⟩, %σ', %hQ, W0, W1, W2, W3, W4, W5, W6, W7⟩
  obtain ⟨q0, q1, q4, q5, q6⟩ := hQ
  rw [q0, q1, q4, q5, q6]
  isplitl [HI]; · iexact HI
  isplitl [HO]
  · iexists W'; isplitr; · ipureintro; exact fun _ _ => Or.inl trivial
    iexact HO
  isplitl [W0]; · iexact W0
  isplitl [W1]; · iexact W1
  isplitl [W2]; · iexists _; iexact W2
  isplitl [W3]; · iexists _; iexact W3
  isplitl [W4]; · iexact W4
  isplitl [W5]; · iexact W5
  isplitl [W6]; · iexact W6
  iexists _; iexact W7

include hin in
theorem body_obligationV (c : Dev nD) :
    BodyObligation (datsV (F := F) m 0 c) (defs₀ (F := F)) Variants.none () Set.univ forgetsV := fun t => by
  rw [bigSep_W0]
  exact triple_restated (sound_bodyV m hin c t) rfl .rfl fun _ => by rw [bigSep_W0]; exact .rfl

include hin in
set_option backward.isDefEq.respectTransparency.types false in
theorem run_mainV :
    θ_run defs (onTc (τ := τ) (main (F := F))) (s₀ m ρ)
      (fun r => Pipeline.RDat.FramePost (cfgM m) (fun c => (datsV m 0 c).toRForget forgetsV) (Vm m) r ∧ r.2.sem = fun _ => 0) :=
  Pipeline.θ_run_frameP_dma_forget (Q' := _) pcfgs (adm m) (datsV m) (0 : Fin 1) launch0 osem0 defs₀ Variants.none forgetsV ownSemFacts0 H0 H0_sub m ρ main
    (hbody := fun c => (body_obligationV m hin c).loose) (hshare := fun c => (datsV m 0 c).share_full fun _ => rfl)
    (howed := fun _ _ => rfl) (V := Vm m) (hmain := hmainD m) (hA := AV_eq m)
    (hpf := fun c k => by
      obtain rfl : c = 0 := Subsingleton.elim _ _
      obtain rfl : k = 0 := Subsingleton.elim _ _
      rfl)
    (hin := fun c => inv_in m (JM m c) (fun _ _ h => absurd h (Nat.lt_irrefl 0)) c) (hout := fun c => inv_out m (JM m c) c 64)

/-- The codes and the scales of the whole run. -/
def codesV (c : Dev nD) : S16384x7168.Idx → Elt F .fp8e5m2 := (datsV m 0 c).arrAt 5 (cfgM m).N
def scalesV (c : Dev nD) : S1x16384.Idx → Elt F .f32 := (datsV m 0 c).arrAt 6 (cfgM m).N

include hin in
/-- Every run ends with the codes and the scales as the steps leave them and the operands as they were. -/
theorem value_run : θ_run defs (onTc (τ := τ) (main (F := F))) (s₀ m ρ) (fun r => ∀ c : Dev nD,
      (r.2.mem ((c.tc : Thread nD τ).loc main_v4_0) = codesV m c
      ∧ r.2.mem ((c.tc : Thread nD τ).loc main_v4_1) = scalesV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run _ _ _).mono (fun r h => fun c => ?_) (run_mainV m ρ hin)
  have h1 := h.1 c
  refine ⟨⟨?_, ?_⟩, (h1.2 main_arg0 (rest_mem m main_arg0 (by decide))).trans (Vm_arg0 m c),
    (h1.2 main_arg1 (rest_mem m main_arg1 (by decide))).trans (Vm_arg1 m c), ?_,
    (h1.2 main_arg3 (rest_mem m main_arg3 (by decide))).trans (Vm_arg3 m c),
    (h1.2 main_arg4 (rest_mem m main_arg4 (by decide))).trans (Vm_arg4 m c),
    (h1.2 main_arg5 (rest_mem m main_arg5 (by decide))).trans (Vm_arg5 m c)⟩
  · exact ((datsV m 0 c).toRForget_arrAt_iff (w := 5) rfl _ _).1 (h1.1 5)
  · exact ((datsV m 0 c).toRForget_arrAt_iff (w := 6) rfl _ _).1 (h1.1 6)
  · have h2 := h1.1 2
    rw [Pipeline.RDat.ArrAt_in _ _ rfl] at h2
    exact h2

theorem index5 (t : Fin (cfgM m).N) : ((cfgM m).win 5).index t = cc0_transform_6 (grid0.coords t) := by rfl
theorem index6 (t : Fin (cfgM m).N) : ((cfgM m).win 6).index t = cc0_transform_7 (grid0.coords t) := by rfl

theorem flushAt5 : ∀ t : Fin grid0.N, (spec0 5).flushAt cc0_transform_6 t = true := by decide +kernel
theorem flushAt6 : ∀ t : Fin grid0.N, (spec0 6).flushAt cc0_transform_7 t = true := by decide +kernel
theorem flush5 (t : Fin (cfgM m).N) : ((cfgM m).win 5).flush t = true := flushAt5 t
theorem flush6 (t : Fin (cfgM m).N) : ((cfgM m).win 6).flush t = true := flushAt6 t

theorem disjoint5 (t1 t2 : Fin (cfgM m).N) (h : t1 ≠ t2) : ((cfgM m).win 5).index t1 ≠ ((cfgM m).win 5).index t2 := fun hi => h (by
  rw [index5, index5] at hi
  exact Fin.ext ((tr6 t1).1.symm.trans ((congrFun hi 0).trans (tr6 t2).1)))
theorem disjoint6 (t1 t2 : Fin (cfgM m).N) (h : t1 ≠ t2) : ((cfgM m).win 6).index t1 ≠ ((cfgM m).win 6).index t2 := fun hi => h (by
  rw [index6, index6] at hi
  exact Fin.ext ((tr7 t1).2.symm.trans ((congrFun hi 1).trans (tr7 t2).2)))

theorem flushedV5 (c : Dev nD) (t : Fin (cfgM m).N) : (datsV m 0 c).flushed 5 t = deAt m c t := by
  show ((cfgM m).win 5).cut _ ((datsV m 0 c).after 5 t) = _
  rw [afterV5]; rfl
theorem flushedV6 (c : Dev nD) (t : Fin (cfgM m).N) : (datsV m 0 c).flushed 6 t = scAt m c t := by
  show ((cfgM m).win 6).cut _ ((datsV m 0 c).after 6 t) = _
  rw [afterV6]; rfl

theorem codesV_apply (c : Dev nD) (t : Fin grid0.N) (y : S256x7168.Idx) (z : S16384x7168.Idx) (h0 : (z 0).val = 256 * t.val + (y 0).val) (h1 : (z 1).val = (y 1).val) :
    codesV m c z = deAt m c t y := by
  have h := (datsV m 0 c).read_blk_arrAt_eq_flushed 5 (fun t1 t2 _ _ hne => ((cfgM m).win 5).disjoint_blk (disjoint5 m t1 t2 hne)) (cfgM m).N t t.isLt (flush5 m t)
  have e : @Eq S16384x7168.Idx ((((cfgM m).win 5).blk t).view.emb y) z := idx_ext2
    ((show _ = cc0_transform_6 (grid0.coords t) 0 * 256 + 1 * (y 0).val from rfl).trans (by rw [(tr6 t).1]; omega))
    ((show _ = cc0_transform_6 (grid0.coords t) 1 * 7168 + 1 * (y 1).val from rfl).trans (by rw [(tr6 t).2]; omega))
  rw [flushedV5] at h
  rw [← e]
  unfold codesV
  generalize (datsV m 0 c).arrAt 5 (cfgM m).N = A at h ⊢
  exact congrFun h y

theorem scalesV_apply (c : Dev nD) (t : Fin grid0.N) (y : S1x256.Idx) (z : S1x16384.Idx) (h0 : (z 0).val = (y 0).val) (h1 : (z 1).val = 256 * t.val + (y 1).val) :
    scalesV m c z = scAt m c t y := by
  have h := (datsV m 0 c).read_blk_arrAt_eq_flushed 6 (fun t1 t2 _ _ hne => ((cfgM m).win 6).disjoint_blk (disjoint6 m t1 t2 hne)) (cfgM m).N t t.isLt (flush6 m t)
  have e : @Eq S1x16384.Idx ((((cfgM m).win 6).blk t).view.emb y) z := idx_ext2
    ((show _ = cc0_transform_7 (grid0.coords t) 0 * 1 + 1 * (y 0).val from rfl).trans (by rw [(tr7 t).1]; omega))
    ((show _ = cc0_transform_7 (grid0.coords t) 1 * 256 + 1 * (y 1).val from rfl).trans (by rw [(tr7 t).2]; omega))
  rw [flushedV6] at h
  rw [← e]
  unfold scalesV
  generalize (datsV m 0 c).arrAt 6 (cfgM m).N = A at h ⊢
  exact congrFun h y

end Cert.KernelIdeal.Own
end
-- ==== Proof.Maths.lean ====
module

public import Idealize.ShloMosaic.Lib.IdealHost

@[expose] public section

/-! The arithmetic of the codes and the scales over the extended reals: the largest magnitude of a row, the scale made from it, and why
    the clip to the range of the codes changes nothing. -/

noncomputable section

namespace Cert.Scale

open Idealize.ShloMosaic

/-- The magnitude of an extended real. -/
def mag (x : EReal) : EReal := max x (-x)

theorem mag_of_nonneg {x : EReal} (h : 0 ≤ x) : mag x = x :=
  max_eq_left ((EReal.neg_le_neg_iff.2 h).trans (by rw [neg_zero]; exact h))

theorem mag_neg (x : EReal) : mag (-x) = mag x := by unfold mag; rw [neg_neg, max_comm]

theorem mag_nonneg (x : EReal) : 0 ≤ mag x := by
  rcases le_total 0 x with h | h
  · rw [mag_of_nonneg h]; exact h
  · rw [← mag_neg, mag_of_nonneg (by rw [← neg_zero]; exact EReal.neg_le_neg_iff.2 h), ← neg_zero]; exact EReal.neg_le_neg_iff.2 h

theorem mag_mul (x y : EReal) : mag (x * y) = mag x * mag y := by
  have key : ∀ {a b : EReal}, 0 ≤ a → 0 ≤ b → mag (a * b) = mag a * mag b := fun {a b} ha hb => by
    rw [mag_of_nonneg (mul_nonneg ha hb), mag_of_nonneg ha, mag_of_nonneg hb]
  have hn : ∀ {a : EReal}, a ≤ 0 → 0 ≤ -a := fun {a} h => by rw [← neg_zero]; exact EReal.neg_le_neg_iff.2 h
  rcases le_total 0 x with hx | hx <;> rcases le_total 0 y with hy | hy
  · exact key hx hy
  · rw [← mag_neg, ← mag_neg y, ← key hx (hn hy), mul_comm x, mul_comm x, EReal.neg_mul]
  · rw [← mag_neg, ← mag_neg x, ← key (hn hx) hy, EReal.neg_mul]
  · rw [← mag_neg x, ← mag_neg y, ← key (hn hx) (hn hy), EReal.neg_mul, mul_comm x (-y), EReal.neg_mul, neg_neg, mul_comm y]

/-- The largest magnitude of the weighted row from the largest of the codes. -/
theorem amax_eq {ι : Type} [Finite ι] [Nonempty ι] (x : ι → EReal) (g s M A : EReal)
    (hM : ∀ z, M ≤ z ↔ 0 ≤ z ∧ ∀ d, mag (x d) ≤ z) (hA : ∀ z, A ≤ z ↔ ∀ d, mag (g * (x d * s)) ≤ z) :
    mag (g * (M * s)) = A := by
  have hM0 : 0 ≤ M := ((hM M).1 le_rfl).1
  have e : ∀ y, mag (g * (y * s)) = mag y * (mag g * mag s) := fun y => by
    rw [mag_mul, mag_mul, mul_comm (mag g), mul_assoc, mul_comm (mag s)]
  have hc : 0 ≤ mag g * mag s := mul_nonneg (mag_nonneg g) (mag_nonneg s)
  obtain ⟨d, hd⟩ := Finite.exists_max fun d => mag (x d)
  rw [e, mag_of_nonneg hM0]
  refine le_antisymm ?_ ((hA _).2 fun i => ?_)
  · have h1 : M ≤ mag (x d) := (hM _).2 ⟨mag_nonneg _, hd⟩
    have h2 := (hA A).1 le_rfl d
    rw [e] at h2
    exact (mul_le_mul_of_nonneg_right h1 hc).trans h2
  · rw [e]
    exact mul_le_mul_of_nonneg_right (((hM M).1 le_rfl).2 i) hc

/-- The candidates for a scale: a power of two that exceeds the bound, or else infinity. -/
def cand (pw : Fin 256 → EReal) (κ a : EReal) (k : Fin 256) : EReal := if a * κ < pw k then pw k else ⊤

/-- The scale: the least candidate, or one where the row is zero. -/
def scaleOf (pw : Fin 256 → EReal) (κ a : EReal) : EReal := if a = 0 then 1 else ⨅ k, cand pw κ a k

/-- Dividing by the scale leaves every entry within the range of the codes. -/
theorem in_range (pw : Fin 256 → EReal) (κ : ℝ) (hκ : 1 / 57344 ≤ κ) (v a : EReal) (hv : mag v ≤ a) :
    mag (v * Ideal.div 1 (scaleOf pw κ a)) ≤ ((57344 : ℝ) : EReal) := by
  have ha : 0 ≤ a := (mag_nonneg v).trans hv
  have h0 : (0 : EReal) ≤ ((57344 : ℝ) : EReal) := by exact_mod_cast (by norm_num : (0 : ℝ) ≤ 57344)
  by_cases ha0 : a = 0
  · rw [mag_mul, le_antisymm (hv.trans ha0.le) (mag_nonneg v), zero_mul]; exact h0
  unfold scaleOf
  rw [if_neg ha0]
  obtain ⟨k, hk⟩ := exists_eq_ciInf_of_finite (f := cand pw κ a)
  rw [← hk]
  unfold cand
  split
  · rename_i hlt
    have hκ0 : (0 : ℝ) < κ := lt_of_lt_of_le (by norm_num) hκ
    have hat : a ≠ ⊤ := by
      rintro rfl
      rw [EReal.top_mul_coe_of_pos hκ0] at hlt
      exact not_top_lt hlt
    have hab : a ≠ ⊥ := fun h => by rw [h] at ha; exact absurd ha (by simp)
    lift a to ℝ using ⟨hat, hab⟩
    have ha' : 0 ≤ a := by exact_mod_cast ha
    rcases hp : pw k with _ | _ | p
    · rw [hp] at hlt; exact absurd hlt (by exact not_lt_bot)
    · have : Ideal.div 1 (⊤ : EReal) = 0 := by simp [Ideal.div]
      erw [this, mul_zero]
      unfold mag
      simpa using h0
    · rw [hp] at hlt
      have hlt' : a * κ < p := EReal.coe_lt_coe_iff.1 (by rw [EReal.coe_mul]; exact hlt)
      have hp0 : 0 < p := lt_of_le_of_lt (mul_nonneg ha' hκ0.le) hlt'
      show mag (v * Ideal.div 1 ((p : ℝ) : EReal)) ≤ _
      rw [Ideal.div_coe hp0.ne', one_mul, mag_mul, mag_of_nonneg (x := ((1 / p : ℝ) : EReal)) (by exact_mod_cast (by positivity : (0:ℝ) ≤ 1 / p))]
      refine (mul_le_mul_of_nonneg_right hv (by exact_mod_cast (by positivity : (0:ℝ) ≤ 1 / p))).trans ?_
      have : a * (1 / p) ≤ 57344 := by
        rw [mul_one_div, div_le_iff₀ hp0]
        nlinarith
      exact_mod_cast this
  · have : Ideal.div 1 (⊤ : EReal) = 0 := by simp [Ideal.div]
    rw [this, mul_zero]
    unfold mag
    simpa using h0

/-- So the clip is the identity there. -/
theorem clip_eq (y : EReal) (h : mag y ≤ ((57344 : ℝ) : EReal)) : min ((57344 : ℝ) : EReal) (max ((-57344 : ℝ) : EReal) y) = y := by
  have h1 : y ≤ ((57344 : ℝ) : EReal) := (le_max_left _ _).trans h
  have h2 : -y ≤ ((57344 : ℝ) : EReal) := (le_max_right _ _).trans h
  have h3 : ((-57344 : ℝ) : EReal) ≤ y := by
    have := EReal.neg_le_neg_iff.2 h2
    rw [neg_neg, ← EReal.coe_neg] at this
    exact this
  rw [max_eq_right h3, min_eq_right h1]

/-- A code of the kernel is the reference's before it is rounded. -/
theorem code_eq (pw : Fin 256 → EReal) (κ : ℝ) (hκ : 1 / 57344 ≤ κ) (x g s a : EReal) (hv : mag (g * (x * s)) ≤ a) :
    x * (g * (s * Ideal.div 1 (scaleOf pw κ a)))
      = min ((57344 : ℝ) : EReal) (max ((-57344 : ℝ) : EReal) (g * (x * s) * Ideal.div 1 (scaleOf pw κ a))) := by
  rw [clip_eq _ (in_range pw κ hκ _ a hv), mul_left_comm x g, ← mul_assoc x s, ← mul_assoc g]

/-! The constants. -/

theorem bits_kappa : Ideal.ofBits .f32 0x37924925#32 = (((9586981 : ℝ) / 549755813888 : ℝ) : EReal) := by
  simp [Ideal.ofBits, Ideal.ieee, -EReal.coe_mul]
  norm_num
theorem kappa_le : (1 : ℝ) / 57344 ≤ 9586981 / 549755813888 := by norm_num
theorem bits_hi : Ideal.ofBits .f32 0x47600000#32 = ((57344 : ℝ) : EReal) := by
  simp [Ideal.ofBits, Ideal.ieee, -EReal.coe_mul]
  norm_num
theorem bits_lo : Ideal.ofBits .f32 0xC7600000#32 = ((-57344 : ℝ) : EReal) := by
  simp [Ideal.ofBits, Ideal.ieee, -EReal.coe_mul]
  norm_num
theorem bits_top : Ideal.ofBits .f32 0x7F800000#32 = (⊤ : EReal) := by simp [Ideal.ofBits, Ideal.ieee]
theorem bits_bot : Ideal.ofBits .f32 0xFF800000#32 = (⊥ : EReal) := by simp [Ideal.ofBits, Ideal.ieee]

end Cert.Scale
end
-- ==== Proof.Red.lean ====
module

public import proofs.«01_k».proof.Proof.Maths
public import Idealize.ShloMosaic.Lib.Pipeline.Value

@[expose] public section

/-! Reductions along one axis over the extended reals, and the scale as a reduction. -/

noncomputable section

namespace Cert.Scale

open Idealize.ShloMosaic

variable {s t : Shape} {a : Fin s.rank}

theorem max_red_le (x : FVec Ideal s .f32) (h : s.Reduces [a] t) (hφ : FKind.Formats .f32) (hacc : 0xFF800000#32 = FKind.maximumf.neutral .f32 hφ)
    (j : t.Idx) (z : EReal) :
    multiReduction .maximumf [a] t x 0xFF800000#32 h hφ hacc j ≤ z ↔ ∀ k : Fin (s.size a), x (h.lift j k) ≤ z := by
  classical
  rw [multiReduction_maximumf_eq_fold, h.fold_filter_drop_single]
  have e : (FloatOps.ofBits (F := Ideal) .f32 0xFF800000#32) = (⊥ : EReal) := bits_bot
  rw [e]
  refine (Finset.fold_max_le (α := Fin (s.size a)) (β := EReal) z).trans ?_
  simp

theorem le_min_red (x : FVec Ideal s .f32) (h : s.Reduces [a] t) (hφ : FKind.Formats .f32) (hacc : 0x7F800000#32 = FKind.minimumf.neutral .f32 hφ)
    (j : t.Idx) (z : EReal) :
    z ≤ multiReduction .minimumf [a] t x 0x7F800000#32 h hφ hacc j ↔ ∀ k : Fin (s.size a), z ≤ x (h.lift j k) := by
  classical
  rw [multiReduction_minimumf_eq_reduceFold]
  have : reduceFold h (FloatOps.minimumf (F := Ideal) (φ := .f32)) (FloatOps.ofBits .f32 0x7F800000#32) x j
      = (Finset.univ : Finset (Fin (s.size a))).fold (min : EReal → EReal → EReal) ⊤ (x ∘ h.lift j) := by
    have e : (FloatOps.ofBits (F := Ideal) .f32 0x7F800000#32) = (⊤ : EReal) := bits_top
    rw [e]
    exact (reduceFold_eq_fold h (min : EReal → EReal → EReal) ⊤ x j).trans (h.fold_filter_drop_single _ _ x j)
  rw [this]
  refine (Finset.le_fold_min (α := Fin (s.size a)) (β := EReal) z).trans ?_
  simp

/-- A choice by a decided comparison. -/
theorem select_ofBool {α : Type} (p : Prop) [Decidable p] (x y : α) : Scalar.select (BitVec.ofBool (decide p)) x y = if p then x else y := by
  by_cases h : p <;> simp [Scalar.select, h]

/-- The power of two of exponent field `k`. -/
def pw (k : Fin 256) : EReal := Ideal.ofBits .f32 (BitVec.ofNat 32 k.val <<< 23)

/-- The constant of the bound. -/
def kap : ℝ := (9586981 : ℝ) / 549755813888

/-- The scale of a row, over the extended reals. -/
def scale (a : EReal) : EReal := scaleOf pw kap a

theorem scale_of_red (A R : EReal) (hR : ∀ z, z ≤ R ↔ ∀ k : Fin 256, z ≤ cand pw kap A k) :
    (if A = 0 then 1 else R) = scale A := by
  have : R = ⨅ k, cand pw kap A k := le_antisymm (le_iInf_iff.2 ((hR R).1 le_rfl)) ((hR _).2 fun k => iInf_le _ k)
  unfold scale scaleOf
  rw [this]

end Cert.Scale
end
-- ==== Proof.KVal.lean ====
module

public import proofs.«01_k».proof.Proof.Pipe
public import proofs.«01_k».proof.Proof.Red

@[expose] public section

/-! The codes and the scales of the kernel over the extended reals, an entry at a time. -/

noncomputable section

namespace Cert.KernelIdeal.Own

open Cert.KernelIdeal Cert.KernelIdeal.Gen Cert.Scale
open Idealize.ShloMosaic Idealize.ShloMosaic.TcCoe
open Idealize.SL Idealize.SL.Sem
open ValueIdx (ix2 ix3)

/-- The value of a code. -/
def cval (b : BitVec 8) : EReal := Ideal.ofBits .fp8e5m2 b

theorem zero_b16 : FloatOps.ofBits (F := Ideal) .bf16 0x0000#16 = (0 : EReal) := Ideal.ofBits_zero_bf16
theorem zero_f32 : FloatOps.ofBits (F := Ideal) .f32 0x00000000#32 = (0 : EReal) := Ideal.ofBits_zero_f32
theorem one_f32 : FloatOps.ofBits (F := Ideal) .f32 0x3F800000#32 = (1 : EReal) := Ideal.ofBits_one_f32

theorem rowMax_le (am : FVec Ideal S32x128 .bf16) (y : S32x128.Idx) (z : EReal) :
    (rowMax am y : EReal) ≤ z ↔ ∀ k : Fin 128, (am (ix2 (n0 := 32) (n1 := 128) (y 0) k) : EReal) ≤ z := by
  unfold rowMax
  rw [broadcastTo_apply _ broadcasts_S32x1_S32x128 y (ix2 (n0 := 32) (n1 := 1) (y 0) 0) (fun a => by
    match a with
    | 0 => rfl
    | 1 => rfl), shapeCast_self]
  rw [shapeCast_apply _ shapeCasts_S32_S32x1 _ (ValueIdx.ix1 (n := 32) (y 0)) (by
    rw [Shape.rowMajor_val_two, Shape.rowMajor_val_one]
    show (y 0).val = (y 0).val * 1 + 0
    omega)]
  refine (max_red_le (extf .f32 am bitsLt_bf16_f32) reduces_S32x128_S32 (.inl rfl) rfl (ValueIdx.ix1 (n := 32) (y 0)) z).trans ?_
  refine forall_congr' fun k => ?_
  have e : reduces_S32x128_S32.lift (ValueIdx.ix1 (n := 32) (y 0)) k = ix2 (n0 := 32) (n1 := 128) (y 0) k := idx_ext2 rfl rfl
  rw [e]
  exact Iff.rfl

variable (D : S2048x7168.Idx → BitVec 8) (S : S1x2048.Idx → EReal) (G : S8x2048.Idx → EReal)

theorem amUp_le (T n : ℕ) (p : S32x128.Idx) (z : EReal) :
    (amUp Ideal D T n p : EReal) ≤ z ↔ 0 ≤ z ∧ ∀ k, k < 4 * n → mag (cval (blkAt D T k p)) ≤ z := by
  induction n with
  | zero =>
    show (FloatOps.ofBits (F := Ideal) .bf16 0x0000#16 : EReal) ≤ z ↔ _
    rw [zero_b16]
    exact ⟨fun h => ⟨h, fun k hk => by omega⟩, fun h => h.1⟩
  | succ n ih =>
    show max (max (max (max (amUp Ideal D T n p : EReal) (mag (cval (blkAt D T (4 * n) p)))) (mag (cval (blkAt D T (4 * n + 1) p))))
      (mag (cval (blkAt D T (4 * n + 2) p)))) (mag (cval (blkAt D T (4 * n + 3) p))) ≤ z ↔ _
    rw [max_le_iff, max_le_iff, max_le_iff, max_le_iff, ih]
    constructor
    · rintro ⟨⟨⟨⟨⟨h0, h⟩, a⟩, b⟩, c⟩, d⟩
      refine ⟨h0, fun k hk => ?_⟩
      rcases (by omega : k < 4 * n ∨ k = 4 * n ∨ k = 4 * n + 1 ∨ k = 4 * n + 2 ∨ k = 4 * n + 3) with e | e | e | e | e
      · exact h k e
      · rw [e]; exact a
      · rw [e]; exact b
      · rw [e]; exact c
      · rw [e]; exact d
    · rintro ⟨h0, h⟩
      exact ⟨⟨⟨⟨⟨h0, fun k hk => h k (by omega)⟩, h _ (by omega)⟩, h _ (by omega)⟩, h _ (by omega)⟩, h _ (by omega)⟩

/-- The codes of a token. -/
def xrow (t : Fin 2048) (d : Fin 7168) : EReal := cval (D (ix2 (n0 := 2048) (n1 := 7168) t d))

theorem arSpec_le (T : ℕ) (y : S128x128.Idx) (t : Fin 2048) (ht : t.val = T + (y 0).val) (z : EReal) :
    (arSpec Ideal D T y : EReal) ≤ z ↔ 0 ≤ z ∧ ∀ d, mag (xrow D t d) ≤ z := by
  unfold arSpec
  rw [rowMax_le]
  have hb : ∀ (k : Fin 128) (n : ℕ) (d : Fin 7168), d.val = 128 * n + k.val →
      blkAt D (T + 32 * ((y 0).val / 32)) n (ix2 (n0 := 32) (n1 := 128) ⟨(y 0).val % 32, Nat.mod_lt _ (by decide)⟩ k)
        = D (ix2 (n0 := 2048) (n1 := 7168) t d) := fun k n d hd => by
    unfold blkAt
    refine congrArg D (idx_ext2 ?_ ?_)
    · show (T + 32 * ((y 0).val / 32) + (y 0).val % 32) % 2048 = t.val
      have := t.2; omega
    · show (128 * n + k.val) % 7168 = d.val
      have := d.2; omega
  constructor
  · intro h
    refine ⟨((amUp_le D _ _ _ _).1 (h 0)).1, fun d => ?_⟩
    have h1 := ((amUp_le D _ _ _ _).1 (h ⟨d.val % 128, Nat.mod_lt _ (by decide)⟩)).2 (d.val / 128) (by have := d.2; omega)
    have e := hb ⟨d.val % 128, Nat.mod_lt _ (by decide)⟩ (d.val / 128) d (by show d.val = 128 * (d.val / 128) + d.val % 128; omega)
    unfold xrow
    rw [← e]
    exact h1
  · rintro ⟨h0, h⟩ k
    refine (amUp_le D _ _ _ _).2 ⟨h0, fun n hn => ?_⟩
    have hk := k.2
    have h1 := h ⟨128 * n + k.val, by omega⟩
    unfold xrow at h1
    rw [← hb k n ⟨128 * n + k.val, by omega⟩ rfl] at h1
    exact h1

theorem amaxes_apply (a : FVec Ideal S128x128 .f32) (s : FVec Ideal S1x128 .f32) (g : FVec Ideal S8x128 .f32) (y : S8x128.Idx) :
    (amaxes a s g y : EReal) = mag ((g y : EReal) * ((a (ix2 (n0 := 128) (n1 := 128) (y 1) 0) : EReal) * (s (ix2 (n0 := 1) (n1 := 128) 0 (y 1)) : EReal))) := by
  unfold amaxes
  rw [shapeCast_self, shapeCast_self]
  have e := broadcastTo_apply (mulf (extractStridedSlice S1x128 ![0, 0]
    (transpose S128x128 [1, 0] a transposes_S128x128_p1_0_S128x128) slices_S128x128_o0_0_S1x128) s) broadcasts_S1x128_S8x128 y (ix2 (n0 := 1) (n1 := 128) 0 (y 1)) (fun a => by
    match a with
    | 0 => rfl
    | 1 => rfl)
  have e2 := extractStridedSlice_apply ![0, 0] (transpose S128x128 [1, 0] a transposes_S128x128_p1_0_S128x128) slices_S128x128_o0_0_S1x128
    (ix2 (n0 := 1) (n1 := 128) 0 (y 1)) (ix2 (n0 := 128) (n1 := 128) 0 (y 1)) (fun a => by
    match a with
    | 0 => rfl
    | 1 => show (y 1).val = 0 + (y 1).val; omega)
  have e3 := transpose_apply [1, 0] a transposes_S128x128_p1_0_S128x128 (ix2 (n0 := 128) (n1 := 128) 0 (y 1)) (ix2 (n0 := 128) (n1 := 128) (y 1) 0) (fun a => by
    match a with
    | 0 => rfl
    | 1 => rfl)
  show mag ((g y : EReal) * (broadcastTo S8x128 _ broadcasts_S1x128_S8x128 y : EReal)) = _
  rw [e]
  show mag ((g y : EReal) * ((extractStridedSlice (s := S128x128) S1x128 ![0, 0] (transpose S128x128 [1, 0] a transposes_S128x128_p1_0_S128x128) slices_S128x128_o0_0_S1x128 (ix2 (n0 := 1) (n1 := 128) 0 (y 1)) : EReal) * _)) = _
  rw [e2, e3]

theorem pow2_apply (y : S256x8x128.Idx) : (pow2 (F := Ideal) y : EReal) = pw (y 0) := by
  show Ideal.ofBits .f32 (iota .tc S256x8x128 32 [0] iota_S256x8x128_d0_w32 y <<< (23#32)) = _
  rw [iota_single_apply]
  rfl

theorem scales_apply (a : FVec Ideal S8x128 .f32) (y : S8x128.Idx) : (scales a y : EReal) = scale (a y) := by
  rw [← scale_of_red (a y) (multiReduction (F := Ideal) (φ := .f32) .minimumf [0] S8x128
      (select (cmpf .ogt pow2 (broadcastTo S256x8x128 (shapeCast S1x8x128
          (mulf a (broadcast S8x128 (Scalar.ofBits .f32 0x37924925#32))) shapeCasts_S8x128_S1x8x128) broadcasts_S1x8x128_S256x8x128))
        pow2 (broadcast S256x8x128 (Scalar.ofBits .f32 0x7F800000#32)))
      0x7F800000#32 reduces_S256x8x128_S8x128 (.inl rfl) rfl y : EReal)]
  · unfold scales
    show Scalar.select (BitVec.ofBool (decide ((a y : EReal) = FloatOps.ofBits (F := Ideal) .f32 0x00000000#32))) (FloatOps.ofBits (F := Ideal) .f32 0x3F800000#32 : EReal) _ = _
    rw [zero_f32, one_f32, select_ofBool]
  · intro z
    refine (le_min_red _ reduces_S256x8x128_S8x128 (.inl rfl) rfl y z).trans ?_
    refine forall_congr' fun k => ?_
    have e : reduces_S256x8x128_S8x128.lift y k = ix3 (n0 := 256) (n1 := 8) (n2 := 128) k (y 0) (y 1) := by
      funext a
      match a with
      | 0 => rfl
      | 1 => rfl
      | 2 => rfl
    rw [e]
    have e1 := broadcastTo_apply (shapeCast S1x8x128
          (mulf a (broadcast S8x128 (Scalar.ofBits .f32 0x37924925#32))) shapeCasts_S8x128_S1x8x128) broadcasts_S1x8x128_S256x8x128
      (ix3 (n0 := 256) (n1 := 8) (n2 := 128) k (y 0) (y 1)) (ix3 (n0 := 1) (n1 := 8) (n2 := 128) 0 (y 0) (y 1)) (fun a => by
        match a with
        | 0 => rfl
        | 1 => rfl
        | 2 => rfl)
    have e2 := shapeCast_apply (mulf a (broadcast S8x128 (Scalar.ofBits .f32 0x37924925#32))) shapeCasts_S8x128_S1x8x128 (ix3 (n0 := 1) (n1 := 8) (n2 := 128) 0 (y 0) (y 1)) y (by
      rw [Shape.rowMajor_val_two, Shape.rowMajor_val_three]
      show (y 0).val * 128 + (y 1).val = (0 * 8 + (y 0).val) * 128 + (y 1).val
      omega)
    have e3 : (mulf a (broadcast S8x128 (Scalar.ofBits .f32 0x37924925#32)) y : EReal) = (a y : EReal) * ((kap : ℝ) : EReal) := congrArg ((a y : EReal) * ·) bits_kappa
    have e4 := pow2_apply (ix3 (n0 := 256) (n1 := 8) (n2 := 128) k (y 0) (y 1))
    show z ≤ Scalar.select (BitVec.ofBool (decide ((broadcastTo S256x8x128 _ broadcasts_S1x8x128_S256x8x128 (ix3 (n0 := 256) (n1 := 8) (n2 := 128) k (y 0) (y 1)) : EReal) < (pow2 (F := Ideal) (ix3 (n0 := 256) (n1 := 8) (n2 := 128) k (y 0) (y 1)) : EReal))))
      (pow2 (F := Ideal) (ix3 (n0 := 256) (n1 := 8) (n2 := 128) k (y 0) (y 1)) : EReal) (FloatOps.ofBits (F := Ideal) .f32 0x7F800000#32 : EReal) ↔ _
    rw [e1, e2, e3, e4, select_ofBool]
    have e5 : (FloatOps.ofBits (F := Ideal) .f32 0x7F800000#32 : EReal) = ⊤ := bits_top
    rw [e5]
    exact Iff.rfl

theorem invs_apply (a : FVec Ideal S8x128 .f32) (y : S8x128.Idx) : (invs a y : EReal) = Ideal.div 1 (scale (a y)) := by
  unfold invs
  show Ideal.div (FloatOps.ofBits (F := Ideal) .f32 0x3F800000#32) (scales a y) = _
  rw [one_f32, scales_apply]

/-- The entry of a row's sum picked by its number. -/
theorem pick_apply (p : IVec S1x128 32) (x : FVec Ideal S8x128 .f32) (y : S1x128.Idx) (k : Fin 8) (hk : k.val = (p y).toNat % 8) :
    (pick p x y : EReal) = (x (ix2 (n0 := 8) (n1 := 128) k (y 1)) : EReal) := by
  unfold pick
  rw [shapeCast_self, shapeCast_apply _ shapeCasts_S128_S1x128 _ (ValueIdx.ix1 (n := 128) (y 1)) (by
    rw [Shape.rowMajor_val_two, Shape.rowMajor_val_one]
    have : (y 0).val < 1 := (y 0).2
    show (y 1).val = (y 0).val * 128 + (y 1).val
    omega)]
  refine (Ideal.multiReduction_add_single (φ := .f32) _ _ reduces_S8x128_S128 (.inl rfl) rfl (ValueIdx.ix1 (n := 128) (y 1))).trans ?_
  have e : ∀ j : Fin 8, reduces_S8x128_S128.lift (ValueIdx.ix1 (n := 128) (y 1)) j = ix2 (n0 := 8) (n1 := 128) j (y 1) := fun j => idx_ext2 rfl rfl
  have key : ∀ j : Fin 8, (select (cmpi .eq (iota .tc S8x128 32 [0] iota_S8x128_d0_w32)
      (broadcastTo S8x128 (andi p (broadcast S1x128 7#32)) broadcasts_S1x128_S8x128))
      x (broadcast S8x128 (Scalar.ofBits (F := Ideal) .f32 0x00000000#32)) (reduces_S8x128_S128.lift (ValueIdx.ix1 (n := 128) (y 1)) j) : EReal)
      = if j = k then (x (ix2 (n0 := 8) (n1 := 128) k (y 1)) : EReal) else 0 := fun j => by
    rw [e]
    have e1 := broadcastTo_apply (andi p (broadcast S1x128 7#32)) broadcasts_S1x128_S8x128 (ix2 (n0 := 8) (n1 := 128) j (y 1)) y (fun a => by
      match a with
      | 0 => have : (y 0).val < 1 := (y 0).2; show (y 0).val = 0; omega
      | 1 => rfl)
    have e2 := iota_single_apply .tc S8x128 32 0 iota_S8x128_d0_w32 (ix2 (n0 := 8) (n1 := 128) j (y 1))
    show Scalar.select (BitVec.ofBool (decide (iota .tc S8x128 32 [0] iota_S8x128_d0_w32 (ix2 (n0 := 8) (n1 := 128) j (y 1)) = broadcastTo S8x128 _ broadcasts_S1x128_S8x128 (ix2 (n0 := 8) (n1 := 128) j (y 1)))))
      (x (ix2 (n0 := 8) (n1 := 128) j (y 1)) : EReal) (FloatOps.ofBits (F := Ideal) .f32 0x00000000#32 : EReal) = _
    rw [e1, e2, select_ofBool, zero_f32]
    have hand : andi p (broadcast S1x128 7#32) y = BitVec.ofNat 32 k.val := by
      show (p y) &&& 7#32 = _
      rw [hk]
      apply BitVec.eq_of_toNat_eq
      rw [BitVec.toNat_and, BitVec.toNat_ofNat (x := (p y).toNat % 8)]
      have := Nat.and_two_pow_sub_one_eq_mod (p y).toNat 3
      show (p y).toNat &&& (2 ^ 3 - 1) = (p y).toNat % 8 % 2 ^ 32
      omega
    rw [hand]
    by_cases h : j = k
    · subst h; rw [if_pos rfl, if_pos rfl]
    · rw [if_neg h, if_neg]
      intro h'
      apply h
      have := congrArg BitVec.toNat h'
      have hj := j.2; have hkk := k.2
      apply Fin.ext
      have hj' : (ix2 (n0 := 8) (n1 := 128) j (y 1) 0).val = j.val := rfl
      rw [BitVec.toNat_ofNat, BitVec.toNat_ofNat, hj'] at this
      omega
  refine (Finset.sum_congr rfl fun j _ => key j).trans ?_
  exact (Finset.sum_ite_eq' Finset.univ k _).trans (if_pos (Finset.mem_univ _))

end Cert.KernelIdeal.Own
end
-- ==== Proof.KEnd.lean ====
module

public import proofs.«01_k».proof.Proof.KVal

@[expose] public section

/-! Each row's codes and scale as the kernel leaves them, in terms of the operands. -/

noncomputable section

namespace Cert.KernelIdeal.Own

open Cert.KernelIdeal Cert.KernelIdeal.Gen Cert.Scale
open Idealize.ShloMosaic Idealize.ShloMosaic.TcCoe
open Idealize.SL Idealize.SL.Sem
open ValueIdx (ix2 ix3)

section
variable (D : S2048x7168.Idx → BitVec 8) (S : S1x2048.Idx → Ideal .f32) (G : S8x2048.Idx → Ideal .f32)

/-- The bound of a row of the table: the magnitude of the gate times the scaled largest code. -/
def boundOf (t : Fin 2048) (k : Fin 8) : EReal :=
  mag ((G (ix2 (n0 := 8) (n1 := 2048) k t) : EReal) * ((arSpec Ideal D (128 * (t.val / 128)) (ix2 (n0 := 128) (n1 := 128) ⟨t.val % 128, Nat.mod_lt _ (by decide)⟩ 0) : EReal) * (S (ix2 (n0 := 1) (n1 := 2048) 0 t) : EReal)))

theorem amaxes_bound (t : Fin 2048) (k : Fin 8) :
    (amaxes (arSpec Ideal D (128 * (t.val / 128)))
      (fun y => S (ix2 (n0 := 1) (n1 := 2048) (y 0) ⟨(128 * (t.val / 128) + (y 1).val) % 2048, Nat.mod_lt _ (by decide)⟩))
      (fun y => G (ix2 (n0 := 8) (n1 := 2048) (y 0) ⟨(128 * (t.val / 128) + (y 1).val) % 2048, Nat.mod_lt _ (by decide)⟩))
      (ix2 (n0 := 8) (n1 := 128) k ⟨t.val % 128, Nat.mod_lt _ (by decide)⟩) : EReal) = boundOf D S G t k := by
  rw [amaxes_apply]
  have e : (⟨(128 * (t.val / 128) + t.val % 128) % 2048, Nat.mod_lt _ (by decide)⟩ : Fin 2048) = t := Fin.ext (by
    show (128 * (t.val / 128) + t.val % 128) % 2048 = t.val
    have := t.2; omega)
  show mag ((G (ix2 (n0 := 8) (n1 := 2048) k ⟨(128 * (t.val / 128) + t.val % 128) % 2048, Nat.mod_lt _ (by decide)⟩) : EReal) *
    ((arSpec Ideal D (128 * (t.val / 128)) (ix2 (n0 := 128) (n1 := 128) ⟨t.val % 128, Nat.mod_lt _ (by decide)⟩ 0) : EReal) *
      (S (ix2 (n0 := 1) (n1 := 2048) 0 ⟨(128 * (t.val / 128) + t.val % 128) % 2048, Nat.mod_lt _ (by decide)⟩) : EReal))) = _
  rw [e]
  rfl

theorem meta_scale (t : Fin 2048) (k : Fin 8) (y : S2048x128.Idx) (h0 : (y 0).val = t.val) (h1 : (y 1).val = 8 + k.val) :
    (metaAll Ideal D S G y : EReal) = scale (boundOf D S G t k) := by
  have ey : y = ix2 (n0 := 2048) (n1 := 128) t ⟨8 + k.val, by have := k.2; omega⟩ := idx_ext2 h0 h1
  rw [ey]
  rw [← amaxes_bound]
  unfold metaAll metaSpec metaRows
  refine (transpose_apply [1, 0] _ transposes_S128x128_p1_0_S128x128 _ (ix2 (n0 := 128) (n1 := 128) ⟨8 + k.val, by have := k.2; omega⟩ ⟨t.val % 128, Nat.mod_lt _ (by decide)⟩) (fun a => by
    match a with
    | 0 => rfl
    | 1 => rfl)).trans ?_
  refine (concatenate_apply_piece (t := S128x128) 0 _ _ (ix2 (n0 := 128) (n1 := 128) ⟨8 + k.val, by have := k.2; omega⟩ ⟨t.val % 128, Nat.mod_lt _ (by decide)⟩) 1 (by show 1 < 6; omega) S8x128 _ rfl rfl 8 rfl
    (ix2 (n0 := 8) (n1 := 128) k ⟨t.val % 128, Nat.mod_lt _ (by decide)⟩) (fun b hb => by
      match b with
      | 0 => exact absurd rfl hb
      | 1 => rfl) rfl).trans ?_
  exact scales_apply _ _

theorem meta_alpha (t : Fin 2048) (k : Fin 8) (y : S2048x128.Idx) (h0 : (y 0).val = t.val) (h1 : (y 1).val = k.val) :
    (metaAll Ideal D S G y : EReal) = (G (ix2 (n0 := 8) (n1 := 2048) k t) : EReal) * ((S (ix2 (n0 := 1) (n1 := 2048) 0 t) : EReal) * Ideal.div 1 (scale (boundOf D S G t k))) := by
  have ey : y = ix2 (n0 := 2048) (n1 := 128) t ⟨k.val, by have := k.2; omega⟩ := idx_ext2 h0 h1
  rw [ey]
  rw [← amaxes_bound]
  unfold metaAll metaSpec metaRows
  refine (transpose_apply [1, 0] _ transposes_S128x128_p1_0_S128x128 _ (ix2 (n0 := 128) (n1 := 128) ⟨k.val, by have := k.2; omega⟩ ⟨t.val % 128, Nat.mod_lt _ (by decide)⟩) (fun a => by
    match a with
    | 0 => rfl
    | 1 => rfl)).trans ?_
  refine (concatenate_apply_piece (t := S128x128) 0 _ _ (ix2 (n0 := 128) (n1 := 128) ⟨k.val, by have := k.2; omega⟩ ⟨t.val % 128, Nat.mod_lt _ (by decide)⟩) 0 (by show 0 < 6; omega) S8x128 _ rfl rfl 0 rfl
    (ix2 (n0 := 8) (n1 := 128) k ⟨t.val % 128, Nat.mod_lt _ (by decide)⟩) (fun b hb => by
      match b with
      | 0 => exact absurd rfl hb
      | 1 => rfl) (Nat.zero_add _)).trans ?_
  rw [← invs_apply]
  rw [shapeCast_self, shapeCast_self]
  have e : (⟨(128 * (t.val / 128) + t.val % 128) % 2048, Nat.mod_lt _ (by decide)⟩ : Fin 2048) = t := Fin.ext (by
    show (128 * (t.val / 128) + t.val % 128) % 2048 = t.val
    have := t.2; omega)
  have e1 := broadcastTo_apply (fun y : S1x128.Idx => S (ix2 (n0 := 1) (n1 := 2048) (y 0) ⟨(128 * (t.val / 128) + (y 1).val) % 2048, Nat.mod_lt _ (by decide)⟩))
    broadcasts_S1x128_S8x128 (ix2 (n0 := 8) (n1 := 128) k ⟨t.val % 128, Nat.mod_lt _ (by decide)⟩) (ix2 (n0 := 1) (n1 := 128) 0 ⟨t.val % 128, Nat.mod_lt _ (by decide)⟩) (fun a => by
      match a with
      | 0 => rfl
      | 1 => rfl)
  have e2 : (fun y : S1x128.Idx => S (ix2 (n0 := 1) (n1 := 2048) (y 0) ⟨(128 * (t.val / 128) + (y 1).val) % 2048, Nat.mod_lt _ (by decide)⟩)) (ix2 (n0 := 1) (n1 := 128) 0 ⟨t.val % 128, Nat.mod_lt _ (by decide)⟩)
      = S (ix2 (n0 := 1) (n1 := 2048) 0 t) := congrArg (fun q => S (ix2 (n0 := 1) (n1 := 2048) 0 q)) e
  show (G (ix2 (n0 := 8) (n1 := 2048) k ⟨(128 * (t.val / 128) + t.val % 128) % 2048, Nat.mod_lt _ (by decide)⟩) : EReal) *
    ((broadcastTo S8x128 _ broadcasts_S1x128_S8x128 _ : EReal) * _) = _
  rw [e1]
  exact congrArg₂ (fun a b : EReal => a * b) (congrArg (fun q => G (ix2 (n0 := 8) (n1 := 2048) k q)) e) (congrArg₂ (fun a b : EReal => a * b) e2 rfl)

variable (M' : S2048x128.Idx → Ideal .f32) (tok : ℕ → ℕ) (p : S1x256.Idx → BitVec 32)

theorem pickScale_apply (m : FVec Ideal S128x128 .f32) (p : IVec S1x128 32) (y : S1x128.Idx) (k : Fin 8) (hk : k.val = (p y).toNat % 8) :
    (pickScale m p y : EReal) = (m (ix2 (n0 := 128) (n1 := 128) (y 1) ⟨8 + k.val, by have := k.2; omega⟩) : EReal) := by
  unfold pickScale
  rw [pick_apply p _ y k hk]
  refine (extractStridedSlice_apply (s := S128x128) ![8, 0] _ slices_S128x128_o8_0_S8x128 _ (ix2 (n0 := 128) (n1 := 128) ⟨8 + k.val, by have := k.2; omega⟩ (y 1)) (fun a => by
    match a with
    | 0 => rfl
    | 1 => exact (Nat.zero_add _).symm)).trans ?_
  exact transpose_apply [1, 0] m transposes_S128x128_p1_0_S128x128 _ _ (fun a => by
    match a with
    | 0 => rfl
    | 1 => rfl)

theorem pickAlpha_apply (m : FVec Ideal S128x128 .f32) (p : IVec S1x128 32) (y : S128x128.Idx) (k : Fin 8) (hk : k.val = (p (ix2 (n0 := 1) (n1 := 128) 0 (y 0))).toNat % 8) :
    (pickAlpha m p y : EReal) = (m (ix2 (n0 := 128) (n1 := 128) (y 0) ⟨k.val, by have := k.2; omega⟩) : EReal) := by
  unfold pickAlpha column
  refine (transpose_apply [1, 0] _ transposes_S128x128_p1_0_S128x128 y (ix2 (n0 := 128) (n1 := 128) (y 1) (y 0)) (fun a => by
    match a with
    | 0 => rfl
    | 1 => rfl)).trans ?_
  rw [shapeCast_self]
  refine (broadcastTo_apply _ broadcasts_S1x128_S128x128 _ (ix2 (n0 := 1) (n1 := 128) 0 (y 0)) (fun a => by
    match a with
    | 0 => rfl
    | 1 => rfl)).trans ?_
  rw [pick_apply p _ _ k hk]
  refine (extractStridedSlice_apply (s := S128x128) ![0, 0] _ slices_S128x128_o0_0_S8x128 _ (ix2 (n0 := 128) (n1 := 128) ⟨k.val, by have := k.2; omega⟩ (y 0)) (fun a => by
    match a with
    | 0 => exact (Nat.zero_add _).symm
    | 1 => exact (Nat.zero_add _).symm)).trans ?_
  exact transpose_apply [1, 0] m transposes_S128x128_p1_0_S128x128 _ _ (fun a => by
    match a with
    | 0 => rfl
    | 1 => rfl)

theorem scBlk_apply (y : S1x256.Idx) (k : Fin 8) (hk : k.val = (p y).toNat % 8) (ht : tok (y 1).val < 2048) :
    (scBlk M' tok p y : EReal) = (M' (ix2 (n0 := 2048) (n1 := 128) ⟨tok (y 1).val, ht⟩ ⟨8 + k.val, by have := k.2; omega⟩) : EReal) := by
  have hy : (y 1).val < 256 := (y 1).2
  have e0 : 128 * ((y 1).val / 128) + (y 1).val % 128 = (y 1).val := by omega
  have ep : pblk p ((y 1).val / 128) (ix2 (n0 := 1) (n1 := 128) (y 0) ⟨(y 1).val % 128, Nat.mod_lt _ (by decide)⟩) = p y := by
    unfold pblk
    exact congrArg p (idx_ext2 rfl (by show (128 * ((y 1).val / 128) + (y 1).val % 128) % 256 = (y 1).val; omega))
  unfold scBlk
  rw [pickScale_apply _ _ _ k (by rw [ep]; exact hk)]
  unfold mblk
  refine congrArg M' (idx_ext2 ?_ rfl)
  show tok (128 * ((y 1).val / 128) + (y 1).val % 128) % 2048 = tok (y 1).val
  rw [e0]; omega

theorem alphaBlk_apply (y : S256x128.Idx) (k : Fin 8) (hk : k.val = (p (ix2 (n0 := 1) (n1 := 256) 0 (y 0))).toNat % 8) (ht : tok (y 0).val < 2048) :
    (alphaBlk M' tok p y : EReal) = (M' (ix2 (n0 := 2048) (n1 := 128) ⟨tok (y 0).val, ht⟩ ⟨k.val, by have := k.2; omega⟩) : EReal) := by
  have hy : (y 0).val < 256 := (y 0).2
  have e0 : 128 * ((y 0).val / 128) + (y 0).val % 128 = (y 0).val := by omega
  have ep : pblk p ((y 0).val / 128) (ix2 (n0 := 1) (n1 := 128) 0 ⟨(y 0).val % 128, Nat.mod_lt _ (by decide)⟩) = p (ix2 (n0 := 1) (n1 := 256) 0 (y 0)) := by
    unfold pblk
    exact congrArg p (idx_ext2 rfl (by show (128 * ((y 0).val / 128) + (y 0).val % 128) % 256 = (y 0).val; omega))
  unfold alphaBlk
  rw [pickAlpha_apply _ _ _ k (by rw [← ep] at hk; exact hk)]
  unfold mblk
  refine congrArg M' (idx_ext2 ?_ rfl)
  show tok (128 * ((y 0).val / 128) + (y 0).val % 128) % 2048 = tok (y 0).val
  rw [e0]; omega
end

section
variable (m : (l : Loc nD τ sig) → Buf (Elt Ideal) l) (c : Dev nD)

theorem cast16_apply {α : Type} (x : S16384.Idx → α) (z : S1x16384.Idx) : shapeCast S1x16384 x shapeCasts_S16384_S1x16384 z = x (ValueIdx.ix1 (n := 16384) (z 1)) :=
  shapeCast_apply _ _ _ _ (by
    rw [Shape.rowMajor_val_two, Shape.rowMajor_val_one]
    have : (z 0).val < 1 := (z 0).2
    show (z 1).val = (z 0).val * 16384 + (z 1).val
    omega)

theorem cast2_apply {α : Type} (x : S2048.Idx → α) (z : S1x2048.Idx) : shapeCast S1x2048 x shapeCasts_S2048_S1x2048 z = x (ValueIdx.ix1 (n := 2048) (z 1)) :=
  shapeCast_apply _ _ _ _ (by
    rw [Shape.rowMajor_val_two, Shape.rowMajor_val_one]
    have : (z 0).val < 1 := (z 0).2
    show (z 1).val = (z 0).val * 2048 + (z 1).val
    omega)

/-- A token's scale and a gate, from the operands. -/
def sVal (T : Fin 2048) : EReal := (m (c.tc.loc main_arg1) : S2048.Idx → Ideal .f32) (ValueIdx.ix1 (n := 2048) T)
def gVal (T : Fin 2048) (K : Fin 8) : EReal := (m (c.tc.loc main_arg4) : S2048x8.Idx → Ideal .f32) (ix2 (n0 := 2048) (n1 := 8) T K)

theorem ord_apply (z : S1x16384.Idx) : (Vm m c main_v0 : S1x16384.Idx → BitVec 32) z = (m (c.tc.loc main_arg5) : S16384.Idx → BitVec 32) (ValueIdx.ix1 (n := 16384) (z 1)) :=
  (show (Vm m c main_v0 : S1x16384.Idx → BitVec 32) z = shapeCast S1x16384 (m (c.tc.loc main_arg5) : S16384.Idx → BitVec 32) shapeCasts_S16384_S1x16384 z from rfl).trans (cast16_apply _ z)

theorem s_apply (T : Fin 2048) : (Vm m c main_v1 : S1x2048.Idx → Ideal .f32) (ix2 (n0 := 1) (n1 := 2048) 0 T) = sVal m c T :=
  (show (Vm m c main_v1 : S1x2048.Idx → Ideal .f32) _ = shapeCast S1x2048 (m (c.tc.loc main_arg1) : S2048.Idx → Ideal .f32) shapeCasts_S2048_S1x2048 _ from rfl).trans (cast2_apply _ _)

theorem g_apply (T : Fin 2048) (K : Fin 8) : (Vm m c main_v3 : S8x2048.Idx → Ideal .f32) (ix2 (n0 := 8) (n1 := 2048) K T) = gVal m c T K := by
  refine (show (Vm m c main_v3 : S8x2048.Idx → Ideal .f32) _ = transpose S8x2048 [1, 0] (m (c.tc.loc main_arg4) : S2048x8.Idx → Ideal .f32) transposes_S2048x8_S8x2048_1_0 _ from rfl).trans ?_
  exact transpose_apply [1, 0] _ _ _ _ (fun a => by
    match a with
    | 0 => rfl
    | 1 => rfl)

/-- The bound of a row, from the operands. -/
def rowBound (t : Fin 2048) (k : Fin 8) : EReal :=
  boundOf (Vm m c main_arg0 : S2048x7168.Idx → BitVec 8) (Vm m c main_v1) (Vm m c main_v3) t k

theorem crd (t : Fin grid0.N) : (grid0.coords t 0).val = t.val := by
  revert t; decide +kernel

/-- Each row's token, number and gate. -/
theorem tok_apply (t : Fin grid0.N) (r : ℕ) (hr : r < 256) (R : Fin 16384) (hR : R.val = 256 * t.val + r) :
    tokAt (Vm m c main_arg5 : S16384.Idx → BitVec 32) (grid0.coords t) r = ((m (c.tc.loc main_arg5) : S16384.Idx → BitVec 32) (ValueIdx.ix1 (n := 16384) R)).toNat / 8 := by
  unfold tokAt wordAt
  rw [crd]
  refine congrArg (fun q => BitVec.toNat ((m (c.tc.loc main_arg5) : S16384.Idx → BitVec 32) q) / 8) (funext fun a => ?_)
  match a with
  | 0 =>
    apply Fin.ext
    show (256 * t.val + r) % 16384 = R.val
    have := R.2; omega

variable (R : Fin 16384) (T : Fin 2048) (K : Fin 8)
  (hp : ((m (c.tc.loc main_arg5) : S16384.Idx → BitVec 32) (ValueIdx.ix1 (n := 16384) R)).toNat = 8 * T.val + K.val)

include hp in
theorem scales_row (z : S1x16384.Idx) (h0 : (z 0).val = 0) (h1 : (z 1).val = R.val) : (scalesV m c z : EReal) = scale (rowBound m c T K) := by
  have hR := R.2; have hT := T.2; have hK := K.2
  have hN : grid0.N = 64 := by decide +kernel
  rw [scalesV_apply m c ⟨R.val / 256, by omega⟩ (ix2 (n0 := 1) (n1 := 256) 0 ⟨R.val % 256, Nat.mod_lt _ (by decide)⟩) z h0 (by show (z 1).val = 256 * (R.val / 256) + R.val % 256; omega)]
  have et := tok_apply m c ⟨R.val / 256, by omega⟩ (R.val % 256) (by omega) R (by show R.val = 256 * (R.val / 256) + R.val % 256; omega)
  rw [hp] at et
  have et' : tokAt (Vm m c main_arg5 : S16384.Idx → BitVec 32) (grid0.coords ⟨R.val / 256, by omega⟩) (R.val % 256) = T.val := by rw [et]; omega
  have ek : (iblk m c 0 (⟨R.val / 256, by omega⟩ : Fin grid0.N) : S1x256.Idx → BitVec 32) (ix2 (n0 := 1) (n1 := 256) 0 ⟨R.val % 256, Nat.mod_lt _ (by decide)⟩)
      = (m (c.tc.loc main_arg5) : S16384.Idx → BitVec 32) (ValueIdx.ix1 (n := 16384) R) :=
    (iblk0_apply m c (⟨R.val / 256, by omega⟩ : Fin grid0.N) _ (ix2 (n0 := 1) (n1 := 16384) 0 R) rfl (by show R.val = 256 * (R.val / 256) + R.val % 256; omega)).trans (ord_apply m c _)
  unfold scAt
  rw [scBlk_apply _ _ _ _ K (by rw [ek, hp]; omega) (by show tokAt _ _ (R.val % 256) < 2048; rw [et']; exact hT)]
  exact meta_scale _ _ _ T K _ et' rfl

include hp in
theorem codes_row (d : Fin 7168) (z : S16384x7168.Idx) (h0 : (z 0).val = R.val) (h1 : (z 1).val = d.val) :
    (codesV m c z : EReal) = xrow (m (c.tc.loc main_arg0) : S2048x7168.Idx → BitVec 8) T d
      * (gVal m c T K * (sVal m c T * Ideal.div 1 (scale (rowBound m c T K)))) := by
  have hR := R.2; have hT := T.2; have hK := K.2
  have hN : grid0.N = 64 := by decide +kernel
  rw [codesV_apply m c ⟨R.val / 256, by omega⟩ (ix2 (n0 := 256) (n1 := 7168) ⟨R.val % 256, Nat.mod_lt _ (by decide)⟩ d) z (by show (z 0).val = 256 * (R.val / 256) + R.val % 256; omega) h1]
  have et := tok_apply m c ⟨R.val / 256, by omega⟩ (R.val % 256) (by omega) R (by show R.val = 256 * (R.val / 256) + R.val % 256; omega)
  rw [hp] at et
  have et' : tokAt (Vm m c main_arg5 : S16384.Idx → BitVec 32) (grid0.coords ⟨R.val / 256, by omega⟩) (R.val % 256) = T.val := by rw [et]; omega
  have ek : (iblk m c 0 (⟨R.val / 256, by omega⟩ : Fin grid0.N) : S1x256.Idx → BitVec 32) (ix2 (n0 := 1) (n1 := 256) 0 ⟨R.val % 256, Nat.mod_lt _ (by decide)⟩)
      = (m (c.tc.loc main_arg5) : S16384.Idx → BitVec 32) (ValueIdx.ix1 (n := 16384) R) :=
    (iblk0_apply m c (⟨R.val / 256, by omega⟩ : Fin grid0.N) _ (ix2 (n0 := 1) (n1 := 16384) 0 R) rfl (by show R.val = 256 * (R.val / 256) + R.val % 256; omega)).trans (ord_apply m c _)
  unfold deAt deBlk
  have ea := alphaBlk_apply (metaV m c) (tokAt (Vm m c main_arg5 : S16384.Idx → BitVec 32) (grid0.coords ⟨R.val / 256, by omega⟩)) (iblk m c 0 (⟨R.val / 256, by omega⟩ : Fin grid0.N) : S1x256.Idx → BitVec 32)
    (ix2 (n0 := 256) (n1 := 128) ⟨R.val % 256, Nat.mod_lt _ (by decide)⟩ ⟨d.val % 128, Nat.mod_lt _ (by decide)⟩) K (by
      refine Eq.trans ?_ (congrArg (fun q => BitVec.toNat q % 8) ek.symm)
      show K.val = BitVec.toNat _ % 8
      rw [hp]; omega) (by show tokAt _ _ (R.val % 256) < 2048; rw [et']; exact hT)
  have eD : (Vm m c main_arg0 : S2048x7168.Idx → BitVec 8) (ix2 (n0 := 2048) (n1 := 7168) ⟨tokAt (Vm m c main_arg5 : S16384.Idx → BitVec 32) (grid0.coords ⟨R.val / 256, by omega⟩) (R.val % 256) % 2048, Nat.mod_lt _ (by decide)⟩ d)
      = (m (c.tc.loc main_arg0) : S2048x7168.Idx → BitVec 8) (ix2 (n0 := 2048) (n1 := 7168) T d) :=
    congrArg (m (c.tc.loc main_arg0) : S2048x7168.Idx → BitVec 8) (idx_ext2 (by show tokAt _ _ (R.val % 256) % 2048 = T.val; rw [et']; omega) rfl)
  have em := meta_alpha (Vm m c main_arg0 : S2048x7168.Idx → BitVec 8) (Vm m c main_v1) (Vm m c main_v3) T K
    (ix2 (n0 := 2048) (n1 := 128) ⟨tokAt (Vm m c main_arg5 : S16384.Idx → BitVec 32) (grid0.coords ⟨R.val / 256, by omega⟩) (R.val % 256), by rw [et']; exact hT⟩ ⟨K.val, by omega⟩) et' rfl
  rw [g_apply, s_apply] at em
  refine Eq.trans (b := cval ((Vm m c main_arg0 : S2048x7168.Idx → BitVec 8) (ix2 (n0 := 2048) (n1 := 7168) ⟨tokAt (Vm m c main_arg5 : S16384.Idx → BitVec 32) (grid0.coords ⟨R.val / 256, by omega⟩) (R.val % 256) % 2048, Nat.mod_lt _ (by decide)⟩ d)) * _) rfl ?_
  rw [eD]
  exact congrArg (cval _ * ·) (ea.trans em)

theorem rowBound_eq (A : EReal) (hA : ∀ z, A ≤ z ↔ ∀ d : Fin 7168, mag (gVal m c T K * (xrow (m (c.tc.loc main_arg0) : S2048x7168.Idx → BitVec 8) T d * sVal m c T)) ≤ z) :
    rowBound m c T K = A := by
  unfold rowBound boundOf
  rw [g_apply, s_apply]
  refine amax_eq (xrow (m (c.tc.loc main_arg0) : S2048x7168.Idx → BitVec 8) T) _ _ _ A (fun z => ?_) hA
  exact arSpec_le _ _ _ T (by show T.val = 128 * (T.val / 128) + T.val % 128; omega) z
end

end Cert.KernelIdeal.Own
end
-- ==== Proof.RHost.lean ====
module

public import proofs.«01_k».proof.Proof.Gen.ReferenceIdeal.Frame
public import Idealize.ShloMosaic.Lib.Routing.Ops
public import Idealize.ShloMosaic.Lib.Routing.OpsSet
public import Idealize.ShloMosaic.Lib.Pipeline.Value
public import Idealize.ShloMosaic.Lib.Routing.Words
public import Idealize.ShloMosaic.Lib.StableHlo.RunRead

@[expose] public section

/-! The rows the reference gathers before it scales them. -/

noncomputable section

namespace Cert.ReferenceIdeal.Own

open Cert.ReferenceIdeal Cert.ReferenceIdeal.Gen
open Idealize.ShloMosaic Idealize.ShloMosaic.TcCoe
open Idealize.SL Idealize.SL.Sem
open ValueIdx (ix1 ix2)

variable {F : FTy → Type} [FloatOps F]

def bc (n : BitVec 32) : IVec S16384 32 := broadcastInDim S16384 ![] bcast_S_S16384 (constantI S_ 32 n)

/-- The token of each row. -/
def wTok (O : IVec S16384 32) : IVec S16384 32 :=
  select (andi (cmpi .ne (signi O) (broadcastInDim S16384 ![] bcast_S_S16384 (signi (constantI S_ 32 8#32)))) (cmpi .ne (Host.remsi O (bc 8#32)) (bc 0#32)))
    (subi (Host.divsi O (bc 8#32)) (bc 1#32)) (Host.divsi O (bc 8#32))

/-- A row number counted from the end where it is negative. -/
def wrap (x : IVec S16384 32) (n : BitVec 32) : IVec S16384x1 32 :=
  broadcastInDim S16384x1 ![0] bcast_S16384_S16384x1_0 (select (cmpi .slt x (bc 0#32)) (addi x (bc n)) x)

variable (m : (ℓ : Loc nD τ sig) → Buf (Elt F) ℓ) (c : Dev nD)

theorem V_dy : (V m c main_v7 : S16384x7168.Idx → BitVec 8)
    = Host.gather gather_S2048x7168_S16384x1_S16384x7168_1_0_n_n_0_1_17168 (m ((c : Thread nD τ).loc main_arg0) : S2048x7168.Idx → BitVec 8) (wrap (wTok (m ((c : Thread nD τ).loc main_arg5) : S16384.Idx → BitVec 32)) 2048#32) := by
  after_reads_simp
  rfl
theorem V_s : (V m c main_v23 : S16384x1.Idx → F .f32)
    = broadcastInDim S16384x1 ![0] bcast_S16384_S16384x1_0 (Host.gather gather_S2048_S16384x1_S16384_n_0_n_n_0_1_1 (m ((c : Thread nD τ).loc main_arg1) : S2048.Idx → F .f32) (wrap (wTok (m ((c : Thread nD τ).loc main_arg5) : S16384.Idx → BitVec 32)) 2048#32)) := by
  after_reads_simp
  rfl
theorem V_g : (V m c main_v24 : S16384x1.Idx → F .f32)
    = broadcastInDim S16384x1 ![0] bcast_S16384_S16384x1_0 (Host.gather gather_S16384_S16384x1_S16384_n_0_n_n_0_1_1 (shapeCast S16384 (m ((c : Thread nD τ).loc main_arg4) : S2048x8.Idx → F .f32) shapeCasts_S2048x8_S16384) (wrap (m ((c : Thread nD τ).loc main_arg5) : S16384.Idx → BitVec 32) 16384#32)) := by
  after_reads_simp
  rfl

theorem tok_word (w : BitVec 32) (hw : w.toNat < 16384) :
    Scalar.select (IntOp.andi (IntOp.cmpi .ne (if w = 0 then 0 else if w.msb then -1 else 1) (if (8#32) = 0 then 0 else if (8#32).msb then -1 else 1 : BitVec 32)) (IntOp.cmpi .ne (IntOp.remsi .host w 8#32) 0#32))
      (IntOp.subi (IntOp.divsi .host w 8#32) 1#32) (IntOp.divsi .host w 8#32) = BitVec.ofNat 32 (w.toNat / 8) := by
  have hd : IntOp.divsi .host w 8#32 = BitVec.ofNat 32 (w.toNat / 8) := by
    have h := Routing.divsi_word .host (a := w.toNat) (b := 8) (by omega) (by omega) (by omega)
    rw [BitVec.ofNat_toNat, BitVec.setWidth_eq] at h
    exact h
  have e8 : (if (8#32) = 0 then 0 else if (8#32).msb then -1 else 1 : BitVec 32) = 1 := by decide
  rw [e8, hd]
  by_cases h0 : w = 0
  · subst h0
    have : IntOp.remsi .host (0 : BitVec 32) 8#32 = 0#32 := by
      unfold IntOp.remsi
      rw [if_neg (by decide)]
      decide
    rw [this]
    have e2 : IntOp.cmpi .ne 0#32 0#32 = 0#1 := by decide
    rw [e2]
    unfold Scalar.select IntOp.andi
    rw [if_neg]
    rw [if_pos rfl]; decide
  · have hm : w.msb = false := by
      rw [BitVec.msb_eq_false_iff_two_mul_lt]; omega
    rw [if_neg h0, hm]
    have e2 : IntOp.cmpi .ne (if false = true then -1 else 1 : BitVec 32) 1 = 0#1 := by decide
    rw [e2]
    unfold Scalar.select IntOp.andi
    rw [if_neg]
    intro h
    rw [BitVec.zero_and] at h
    exact absurd h (by decide)

theorem wrap_word (w n : BitVec 32) (hw : w.toNat < 16384) : Scalar.select (IntOp.cmpi .slt w 0#32) (IntOp.addi w n) w = w := by
  have hs : w.slt 0#32 = false := by
    rw [BitVec.slt_eq_decide, decide_eq_false_iff_not, BitVec.toInt_eq_toNat_cond]
    have e0 : (0#32).toInt = 0 := by decide
    rw [e0, if_pos (by omega)]; omega
  unfold Scalar.select
  rw [if_neg]
  show ¬ BitVec.ofBool (w.slt 0#32) = 1
  rw [hs]; decide

theorem wTok_apply (O : IVec S16384 32) (y : S16384.Idx) (hO : (O y).toNat < 16384) : wTok O y = BitVec.ofNat 32 ((O y).toNat / 8) := tok_word (O y) hO

theorem wrap_apply (x : IVec S16384 32) (n : BitVec 32) (R : Fin 16384) (hx : (x (ix1 (n := 16384) R)).toNat < 16384) :
    wrap x n (ix2 (n0 := 16384) (n1 := 1) R 0) = x (ix1 (n := 16384) R) := by
  unfold wrap
  rw [broadcastInDim_apply _ _ _ _ (ix1 (n := 16384) R) (fun a => by match a with | 0 => rfl)]
  exact wrap_word _ _ hx

section
variable (R : Fin 16384) (T : Fin 2048) (K : Fin 8)
  (hp : ((m ((c : Thread nD τ).loc main_arg5) : S16384.Idx → BitVec 32) (ix1 (n := 16384) R)).toNat = 8 * T.val + K.val)

include hp in
theorem tok_row : wrap (wTok (m ((c : Thread nD τ).loc main_arg5) : S16384.Idx → BitVec 32)) 2048#32 (ix2 (n0 := 16384) (n1 := 1) R 0) = BitVec.ofNat 32 T.val := by
  have hT := T.2; have hK := K.2
  have e := wTok_apply (m ((c : Thread nD τ).loc main_arg5) : S16384.Idx → BitVec 32) (ix1 (n := 16384) R) (by rw [hp]; omega)
  rw [hp, show (8 * T.val + K.val) / 8 = T.val by omega] at e
  rw [wrap_apply _ _ R (by rw [e, BitVec.toNat_ofNat]; omega), e]

include hp in
theorem dy_row (d : Fin 7168) : (V m c main_v7 : S16384x7168.Idx → BitVec 8) (ix2 (n0 := 16384) (n1 := 7168) R d)
    = (m ((c : Thread nD τ).loc main_arg0) : S2048x7168.Idx → BitVec 8) (ix2 (n0 := 2048) (n1 := 7168) T d) := by
  rw [V_dy]
  exact Routing.gather_row gather_S2048x7168_S16384x1_S16384x7168_1_0_n_n_0_1_17168 rfl rfl rfl rfl rfl _ _ R d T (tok_row m c R T K hp) (by decide)

include hp in
theorem s_row : (V m c main_v23 : S16384x1.Idx → F .f32) (ix2 (n0 := 16384) (n1 := 1) R 0)
    = (m ((c : Thread nD τ).loc main_arg1) : S2048.Idx → F .f32) (ix1 (n := 2048) T) := by
  rw [V_s, broadcastInDim_apply _ _ _ _ (ix1 (n := 16384) R) (fun a => by match a with | 0 => rfl)]
  exact Routing.gather_take1 gather_S2048_S16384x1_S16384_n_0_n_n_0_1_1 rfl rfl rfl rfl _ _ R T (tok_row m c R T K hp) (by decide)

theorem cast_gates {α : Type} (x : S2048x8.Idx → α) (P : Fin 16384) (T : Fin 2048) (K : Fin 8) (hP : P.val = 8 * T.val + K.val) :
    shapeCast S16384 x shapeCasts_S2048x8_S16384 (ix1 (n := 16384) P) = x (ix2 (n0 := 2048) (n1 := 8) T K) :=
  shapeCast_apply _ _ _ _ (by
    rw [Shape.rowMajor_val_two, Shape.rowMajor_val_one]
    show T.val * 8 + K.val = P.val
    omega)

include hp in
theorem g_row : (V m c main_v24 : S16384x1.Idx → F .f32) (ix2 (n0 := 16384) (n1 := 1) R 0)
    = (m ((c : Thread nD τ).loc main_arg4) : S2048x8.Idx → F .f32) (ix2 (n0 := 2048) (n1 := 8) T K) := by
  have hT := T.2; have hK := K.2
  rw [V_g, broadcastInDim_apply _ _ _ _ (ix1 (n := 16384) R) (fun a => by match a with | 0 => rfl)]
  refine (Routing.gather_take1 gather_S16384_S16384x1_S16384_n_0_n_n_0_1_1 rfl rfl rfl rfl _ _ R ⟨8 * T.val + K.val, by omega⟩ ?_ (by decide)).trans (cast_gates _ _ T K rfl)
  refine (wrap_apply _ _ R (by rw [hp]; omega)).trans (BitVec.eq_of_toNat_eq ?_)
  rw [hp, BitVec.toNat_ofNat]
  show 8 * T.val + K.val = (8 * T.val + K.val) % 2 ^ 32
  omega
end

end Cert.ReferenceIdeal.Own
end
-- ==== Proof.RArr.lean ====
module

public import proofs.«01_k».proof.Proof.Gen.ReferenceIdeal.Frame
public import Idealize.ShloMosaic.Lib.Pipeline.Value

@[expose] public section

/-! The reference's two results as arrays. -/

noncomputable section

namespace Cert.ReferenceIdeal.Own

open Cert.ReferenceIdeal Cert.ReferenceIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg) (c : Dev nD)

/-- The one grid point. -/
def t₀ : Fin cfg0.N := ⟨0, by decide +kernel⟩

theorem z7 : (![0, 0] : Fin S16384x7168.rank → Nat) = fun _ => 0 := funext fun a => by fin_cases a <;> rfl
theorem z1 : (![0, 0] : Fin S16384x1.rank → Nat) = fun _ => 0 := funext fun a => by fin_cases a <;> rfl
theorem zt : (![0, 0] : Fin S1x16384.rank → Nat) = fun _ => 0 := funext fun a => by fin_cases a <;> rfl

theorem out3_eq (x0 : Vec F S16384x7168 .i8) (x1 x2 : Vec F S16384x1 .f32) :
    out0_3 (F := F) x0 x1 x2 = k0_pay1 (k0_pay5 x0 x2 x1) := by
  unfold out0_3
  rw [View.canon_unit_zero z7, View.ld_unit_zero z7, View.ld_unit_zero z1, View.ld_unit_zero z1]

theorem out4_eq (x0 : Vec F S16384x7168 .i8) (x1 x2 : Vec F S16384x1 .f32) :
    out0_4 (F := F) x0 x1 x2 = k0_pay4 x0 x2 x1 := by
  unfold out0_4
  rw [View.canon_unit_zero zt, View.ld_unit_zero z7, View.ld_unit_zero z1, View.ld_unit_zero z1]

theorem iblk0 : iblk m c 0 t₀ = V m c main_v7 := by
  have hz : (fun a => (win0_0.index t₀) a * main_v7.ty.shape.size a) = fun _ => 0 := funext fun a => by fin_cases a <;> decide +kernel
  exact Memref.read_access_unit_zero (Elt F) main_v7 hz (fun a => by fin_cases a <;> decide +kernel) _
theorem iblk1 : iblk m c 1 t₀ = V m c main_v23 := by
  have hz : (fun a => (win0_1.index t₀) a * main_v23.ty.shape.size a) = fun _ => 0 := funext fun a => by fin_cases a <;> decide +kernel
  exact Memref.read_access_unit_zero (Elt F) main_v23 hz (fun a => by fin_cases a <;> decide +kernel) _
theorem iblk2 : iblk m c 2 t₀ = V m c main_v24 := by
  have hz : (fun a => (win0_2.index t₀) a * main_v24.ty.shape.size a) = fun _ => 0 := funext fun a => by fin_cases a <;> decide +kernel
  exact Memref.read_access_unit_zero (Elt F) main_v24 hz (fun a => by fin_cases a <;> decide +kernel) _

/-! What the one grid point leaves of each result. -/

theorem last3 : ((cfg0.win 3).blk t₀).view.read (Elt F) ((dats m 0 c).arrAt 3 cfg0.N) = (cfg0.win 3).cut (grid0.coords t₀) (out0_3 (iblk m c 0 t₀) (iblk m c 1 t₀) (iblk m c 2 t₀)) := by
  rw [show cfg0.N = (t₀ : Fin cfg0.N).val + 1 from by decide +kernel, (dats m 0 c).arrAt_succ 3 t₀,
    show (cfg0.win 3).flush t₀ = true from by decide +kernel, if_pos rfl]
  refine (View.read_write_univ _ _).trans ?_
  show (cfg0.win 3).cut (grid0.coords t₀) ((dats m 0 c).after 3 t₀) = _
  rw [after0_3]

theorem arr3 : (dats m 0 c).arrAt 3 cfg0.N = k0_pay1 (k0_pay5 (V m c main_v7) (V m c main_v24) (V m c main_v23)) := by
  have ho := last3 m c
  have hz : (fun a => (win0_3.index t₀) a * main_v25_0.ty.shape.size a) = fun _ => 0 := funext fun a => by fin_cases a <;> decide +kernel
  have hr := fun f => Memref.read_access_unit_zero (Elt F) main_v25_0 hz (fun a => by fin_cases a <;> decide +kernel) f
  rw [hr] at ho
  rw [ho, out3_eq, iblk0, iblk1, iblk2]
  rfl

theorem last4 : ((cfg0.win 4).blk t₀).view.read (Elt F) ((dats m 0 c).arrAt 4 cfg0.N) = (cfg0.win 4).cut (grid0.coords t₀) (out0_4 (iblk m c 0 t₀) (iblk m c 1 t₀) (iblk m c 2 t₀)) := by
  rw [show cfg0.N = (t₀ : Fin cfg0.N).val + 1 from by decide +kernel, (dats m 0 c).arrAt_succ 4 t₀,
    show (cfg0.win 4).flush t₀ = true from by decide +kernel, if_pos rfl]
  refine (View.read_write_univ _ _).trans ?_
  show (cfg0.win 4).cut (grid0.coords t₀) ((dats m 0 c).after 4 t₀) = _
  rw [after0_4]

theorem arr4 : (dats m 0 c).arrAt 4 cfg0.N = k0_pay4 (V m c main_v7) (V m c main_v24) (V m c main_v23) := by
  have ho := last4 m c
  have hz : (fun a => (win0_4.index t₀) a * main_v25_1.ty.shape.size a) = fun _ => 0 := funext fun a => by fin_cases a <;> decide +kernel
  have hr := fun f => Memref.read_access_unit_zero (Elt F) main_v25_1 hz (fun a => by fin_cases a <;> decide +kernel) f
  rw [hr] at ho
  rw [ho, out4_eq, iblk0, iblk1, iblk2]
  rfl

/-- The reference's run, with the results named and the operands as they were. -/
theorem run_blocks : θ_run defs (onTc (τ := τ) (main (F := F))) ⟨m, fun _ => 0, ρ⟩ fun r => ∀ c : Dev nD,
      r.2.mem ((c : Thread nD τ).loc main_v25_0) = (dats m 0 c).arrAt 3 cfg0.N
      ∧ r.2.mem ((c : Thread nD τ).loc main_v25_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 3,
      (h c).1 4,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.ReferenceIdeal.Own
end
-- ==== Proof.Pow.lean ====
module

public import proofs.«01_k».proof.Proof.Red

@[expose] public section

/-! The least power of two of the format above a bound, by its exponent: one more than the floor of the bound's
logarithm, no less than the least exponent, and infinity above the greatest. -/

noncomputable section

namespace Cert.Scale

open Idealize.ShloMosaic

/-- The powers of two of the format, by their exponent fields. -/
theorem pw_zero : pw 0 = 0 := by simp [pw, Ideal.ofBits, Ideal.ieee]

theorem pw_last : pw 255 = ⊤ := by simp [pw, Ideal.ofBits, Ideal.ieee]

theorem ieee_pow (b : BitVec 32) (k : ℕ) (h0 : 0 < k) (h1 : k < 255) (hs : (b.extractLsb' 31 1 == 1#1) = false) (he : (b.extractLsb' 23 8).toNat = k)
    (hf : (b.extractLsb' 0 23).toNat = 0) : Ideal.ieee 8 23 b = (((2 : ℝ) ^ ((k : ℤ) - 127) : ℝ) : EReal) := by
  have e : (2 : ℝ) ^ ((k : ℤ) - 127) = (1 : ℝ) * ((2 ^ 23 + 0 : ℕ) : ℝ) * (2 : ℝ) ^ ((k : ℤ) - (2 ^ (8 - 1) - 1) - (23 : ℕ)) := by
    rw [show ((k : ℤ) - 127) = 23 + ((k : ℤ) - (2 ^ (8 - 1) - 1) - (23 : ℕ)) by norm_num, zpow_add₀ (by norm_num : (2 : ℝ) ≠ 0)]
    norm_num
  rw [e]
  unfold Ideal.ieee
  show (if (b.extractLsb' 23 8).toNat = 2 ^ 8 - 1 then _ else if (b.extractLsb' 23 8).toNat = 0 then _ else _) = _
  rw [he, if_neg (by omega), if_neg (by omega), hf]
  show (((if (b.extractLsb' 31 1 == 1#1) = true then (-1 : ℝ) else 1) * _ * _ : ℝ) : EReal) = _
  rw [hs]
  rfl

theorem pw_bits : ∀ k : Fin 256, ((BitVec.ofNat 32 k.val <<< 23).extractLsb' 31 1 == 1#1) = false ∧ ((BitVec.ofNat 32 k.val <<< 23).extractLsb' 23 8).toNat = k.val
    ∧ ((BitVec.ofNat 32 k.val <<< 23).extractLsb' 0 23).toNat = 0 := by decide +kernel

theorem pw_mid (k : Fin 256) (h0 : 0 < k.val) (h1 : k.val < 255) : pw k = (((2 : ℝ) ^ ((k.val : ℤ) - 127) : ℝ) : EReal) :=
  ieee_pow _ k.val h0 h1 (pw_bits k).1 (pw_bits k).2.1 (pw_bits k).2.2

theorem kap_pos : (0 : ℝ) < kap := by unfold kap; norm_num

/-- The exponent of the scale of a row whose largest magnitude is `a`. -/
def expo (a : EReal) : EReal := Ideal.liftRound Int.floor (Ideal.div (Ideal.log (a * ((kap : ℝ) : EReal))) (Ideal.log ((2 : ℝ) : EReal))) + 1

/-- The scale by its exponent. -/
def scaleExp (a : EReal) : EReal :=
  if a = 0 then 1 else if ((127 : ℝ) : EReal) < expo a then ⊤ else Ideal.exp2 (max (expo a) ((-126 : ℝ) : EReal))

theorem log_two : Ideal.log ((2 : ℝ) : EReal) = ((Real.log 2 : ℝ) : EReal) := by
  rw [Ideal.log_coe, if_neg (by norm_num)]

theorem expo_coe (r : ℝ) (hr : 0 < r) : expo ((r : ℝ) : EReal) = (((⌊Real.log (r * kap) / Real.log 2⌋ + 1 : ℤ) : ℝ) : EReal) := by
  have ht : 0 < r * kap := mul_pos hr kap_pos
  have hl : Real.log 2 ≠ 0 := (Real.log_pos (by norm_num)).ne'
  unfold expo
  rw [log_two, ← EReal.coe_mul, Ideal.log_coe, if_neg (not_le.2 ht), Ideal.div_coe hl, ← EReal.coe_mul, Ideal.liftRound_coe, mul_one_div]
  push_cast
  rfl

theorem expo_top : expo ⊤ = ⊤ := by
  have hl : (0 : ℝ) < Real.log 2 := Real.log_pos (by norm_num)
  unfold expo
  rw [EReal.top_mul_coe_of_pos kap_pos, Ideal.log_top, log_two, Ideal.div_coe hl.ne', EReal.top_mul_coe_of_pos (by positivity), Ideal.liftRound_top]
  exact EReal.top_add_coe 1

/-- The floor of the logarithm brackets the bound. -/
theorem bracket (t : ℝ) (ht : 0 < t) : (2 : ℝ) ^ ⌊Real.log t / Real.log 2⌋ ≤ t ∧ t < (2 : ℝ) ^ (⌊Real.log t / Real.log 2⌋ + 1) := by
  have hl : (0 : ℝ) < Real.log 2 := Real.log_pos (by norm_num)
  have hp : ∀ n : ℤ, (0 : ℝ) < (2 : ℝ) ^ n := fun n => zpow_pos (by norm_num) n
  constructor
  · rw [← Real.log_le_log_iff (hp _) ht, Real.log_zpow, ← le_div_iff₀ hl]
    exact Int.floor_le _
  · rw [← Real.log_lt_log_iff ht (hp _), Real.log_zpow, ← div_lt_iff₀ hl]
    push_cast
    exact Int.lt_floor_add_one _

theorem pow_lt (n k : ℤ) : (2 : ℝ) ^ n < (2 : ℝ) ^ k ↔ n < k := zpow_lt_zpow_iff_right₀ (by norm_num)
theorem pow_le (n k : ℤ) : (2 : ℝ) ^ n ≤ (2 : ℝ) ^ k ↔ n ≤ k := zpow_le_zpow_iff_right₀ (by norm_num)

/-- The two statements of the scale agree. -/
theorem scaleExp_eq (a : EReal) (ha : 0 ≤ a) : scaleExp a = scale a := by
  unfold scaleExp scale scaleOf
  by_cases h0 : a = 0
  · rw [if_pos h0, if_pos h0]
  rw [if_neg h0, if_neg h0]
  induction a with
  | bot => exact absurd ha (by simp)
  | top =>
    rw [expo_top, if_pos (EReal.coe_lt_top _)]
    symm
    refine iInf_eq_top.2 fun k => ?_
    unfold cand
    rw [EReal.top_mul_coe_of_pos kap_pos, if_neg not_top_lt]
  | coe r =>
    have hr : 0 < r := lt_of_le_of_ne (by exact_mod_cast ha) (fun h => h0 (by rw [← h]; rfl))
    have ht : 0 < r * kap := mul_pos hr kap_pos
    rw [expo_coe r hr]
    obtain ⟨hlo, hhi⟩ := bracket (r * kap) ht
    generalize ⌊Real.log (r * kap) / Real.log 2⌋ = n at hlo hhi ⊢
    have hc : ∀ k : Fin 256, k.val ≠ 255 → n + 1 ≤ (k.val : ℤ) - 127 ∨ cand pw kap ((r : ℝ) : EReal) k = ⊤ := fun k hk => by
      by_cases hz : k.val = 0
      · right
        have : k = 0 := Fin.ext hz
        unfold cand
        rw [this, pw_zero, if_neg]
        rw [← EReal.coe_mul, not_lt]
        exact_mod_cast ht.le
      have hm := pw_mid k (by omega) (by have := k.2; omega)
      by_cases hlt : r * kap < (2 : ℝ) ^ ((k.val : ℤ) - 127)
      · left
        have := (pow_lt _ _).1 (lt_of_le_of_lt hlo hlt)
        omega
      · right
        unfold cand
        rw [hm, if_neg]
        rw [← EReal.coe_mul, EReal.coe_lt_coe_iff]
        exact hlt
    have hlast : ∀ k : Fin 256, k.val = 255 → cand pw kap ((r : ℝ) : EReal) k = ⊤ := fun k hk => by
      have : k = 255 := Fin.ext hk
      unfold cand
      rw [this, pw_last, ite_self]
    by_cases hbig : (127 : ℤ) < n + 1
    · rw [if_pos (by rw [EReal.coe_lt_coe_iff]; exact_mod_cast hbig)]
      symm
      refine iInf_eq_top.2 fun k => ?_
      by_cases hk : k.val = 255
      · exact hlast k hk
      · rcases hc k hk with h | h
        · have := k.2; omega
        · exact h
    · rw [if_neg (by rw [EReal.coe_lt_coe_iff, not_lt]; exact_mod_cast not_lt.1 hbig)]
      have hmax : max (((n + 1 : ℤ) : ℝ) : EReal) ((-126 : ℝ) : EReal) = (((max (n + 1) (-126) : ℤ) : ℝ) : EReal) := by
        rcases le_total (n + 1) (-126) with h | h
        · rw [max_eq_right h, max_eq_right]
          · norm_num
          · rw [EReal.coe_le_coe_iff]; exact_mod_cast h
        · rw [max_eq_left h, max_eq_left]
          rw [EReal.coe_le_coe_iff]; exact_mod_cast h
      have hexp : Ideal.exp2 (((max (n + 1) (-126) : ℤ) : ℝ) : EReal) = (((2 : ℝ) ^ (max (n + 1) (-126)) : ℝ) : EReal) := by
        rw [Ideal.exp2_coe]
        exact congrArg _ (Real.rpow_intCast 2 _)
      rw [hmax, hexp]
      have he1 : n + 1 ≤ max (n + 1) (-126) := le_max_left _ _
      have he2 : -126 ≤ max (n + 1) (-126) := le_max_right _ _
      have he3 : max (n + 1) (-126) ≤ 127 := max_le (by omega) (by omega)
      generalize hE : max (n + 1) (-126) = e at he1 he2 he3 ⊢
      refine le_antisymm (le_iInf fun k => ?_) ?_
      · by_cases hk : k.val = 255
        · rw [hlast k hk]; exact le_top
        · rcases hc k hk with h | h
          · unfold cand
            split
            · rename_i hlt
              have hz : k.val ≠ 0 := fun hz => by
                have : k = 0 := Fin.ext hz
                rw [this, pw_zero, ← EReal.coe_mul] at hlt
                exact absurd hlt (not_lt.2 (by exact_mod_cast ht.le))
              rw [pw_mid k (by omega) (by have := k.2; omega), EReal.coe_le_coe_iff, pow_le, ← hE]
              exact max_le h (by omega)
            · exact le_top
          · rw [h]; exact le_top
      · have hk : (e + 127).toNat < 256 := by omega
        refine (iInf_le _ (⟨(e + 127).toNat, hk⟩ : Fin 256)).trans ?_
        have hm := pw_mid ⟨(e + 127).toNat, hk⟩ (by show 0 < (e + 127).toNat; omega) (by show (e + 127).toNat < 255; omega)
        have hv : (((e + 127).toNat : ℕ) : ℤ) - 127 = e := by omega
        have hm' : pw ⟨(e + 127).toNat, hk⟩ = (((2 : ℝ) ^ e : ℝ) : EReal) := by rw [hm]; exact congrArg (fun q : ℤ => (((2 : ℝ) ^ q : ℝ) : EReal)) hv
        unfold cand
        rw [hm', if_pos]
        rw [← EReal.coe_mul, EReal.coe_lt_coe_iff]
        exact lt_of_lt_of_le hhi ((pow_le _ _).2 he1)

end Cert.Scale
end
-- ==== Proof.RVal.lean ====
module

public import proofs.«01_k».proof.Proof.Gen.ReferenceIdeal.Frame
public import proofs.«01_k».proof.Proof.Pow

@[expose] public section

/-! The reference's codes and scales over the extended reals, a row at a time. -/

noncomputable section

namespace Cert.ReferenceIdeal.Own

open Cert.ReferenceIdeal Cert.ReferenceIdeal.Gen Cert.Scale
open Idealize.ShloMosaic Idealize.ShloMosaic.TcCoe
open Idealize.SL Idealize.SL.Sem
open ValueIdx (ix1 ix2)

theorem ext2 {n0 n1 : ℕ} {x y : (⟨2, ![n0, n1]⟩ : Shape).Idx} (h0 : (x 0).val = (y 0).val) (h1 : (x 1).val = (y 1).val) : x = y := by
  funext a
  match a with
  | 0 => exact Fin.ext h0
  | 1 => exact Fin.ext h1

theorem unit_apply {s : Shape} (a r : FVec Ideal s .f32) (y : s.Idx) :
    (select (cmpf .oeq a (broadcast s (Scalar.ofBits (F := Ideal) .f32 0x00000000#32))) (broadcast s (Scalar.ofBits (F := Ideal) .f32 0x3F800000#32)) r y : EReal)
      = if (a y : EReal) = 0 then 1 else (r y : EReal) := by
  show Scalar.select (BitVec.ofBool (decide ((a y : EReal) = FloatOps.ofBits (F := Ideal) .f32 0x00000000#32))) (FloatOps.ofBits (F := Ideal) .f32 0x3F800000#32 : EReal) (r y : EReal) = _
  have h0 : FloatOps.ofBits (F := Ideal) .f32 0x00000000#32 = (0 : EReal) := Ideal.ofBits_zero_f32
  have h1 : FloatOps.ofBits (F := Ideal) .f32 0x3F800000#32 = (1 : EReal) := Ideal.ofBits_one_f32
  rw [h0, h1, select_ofBool]

theorem inv_apply {s : Shape} (x : FVec Ideal s .f32) (y : s.Idx) :
    (divf (broadcast s (Scalar.ofBits (F := Ideal) .f32 0x3F800000#32)) x y : EReal) = Ideal.div 1 (x y : EReal) := by
  show Ideal.div (FloatOps.ofBits (F := Ideal) .f32 0x3F800000#32) (x y : EReal) = _
  have h1 : FloatOps.ofBits (F := Ideal) .f32 0x3F800000#32 = (1 : EReal) := Ideal.ofBits_one_f32
  rw [h1]

variable (X : Vec Ideal S16384x7168 .i8) (G S : Vec Ideal S16384x1 .f32)

/-- An entry of a row, scaled. -/
def entry (R : Fin 16384) (d : Fin 7168) : EReal :=
  (G (ix2 (n0 := 16384) (n1 := 1) R 0) : EReal) * (Ideal.ofBits .fp8e5m2 (X (ix2 (n0 := 16384) (n1 := 7168) R d)) * (S (ix2 (n0 := 16384) (n1 := 1) R 0) : EReal))

theorem col7 (x : FVec Ideal S16384x1 .f32) (R : Fin 16384) (d : Fin 7168) :
    broadcastTo S16384x7168 x broadcasts_S16384x1_S16384x7168 (ix2 (n0 := 16384) (n1 := 7168) R d) = x (ix2 (n0 := 16384) (n1 := 1) R 0) :=
  broadcastTo_apply x broadcasts_S16384x1_S16384x7168 _ _ (fun a => by
    match a with
    | 0 => rfl
    | 1 => rfl)

theorem pay2_apply (R : Fin 16384) (d : Fin 7168) : (k0_pay2 X G S (ix2 (n0 := 16384) (n1 := 7168) R d) : EReal) = entry X G S R d := by
  unfold k0_pay2 entry
  rw [shapeCast_self, shapeCast_self, shapeCast_self]
  exact congrArg₂ (fun a b : EReal => a * (Ideal.ofBits .fp8e5m2 (X (ix2 (n0 := 16384) (n1 := 7168) R d)) * b)) (col7 G R d) (col7 S R d)

/-- The largest magnitude of each row. -/
def top : FVec Ideal S16384x1 .f32 :=
  shapeCast S16384x1 (multiReduction .maximumf [1] S16384 (absf (k0_pay2 X G S)) 0xFF800000#32 reduces_S16384x7168_S16384 (.inl rfl) rfl) shapeCasts_S16384_S16384x1

theorem cast1 (x : FVec Ideal S16384 .f32) (R : Fin 16384) : shapeCast S16384x1 x shapeCasts_S16384_S16384x1 (ix2 (n0 := 16384) (n1 := 1) R 0) = x (ix1 (n := 16384) R) :=
  shapeCast_apply _ _ _ _ (by
    rw [Shape.rowMajor_val_two, Shape.rowMajor_val_one]
    show R.val = R.val * 1 + 0
    omega)

theorem top_le (R : Fin 16384) (z : EReal) : (top X G S (ix2 (n0 := 16384) (n1 := 1) R 0) : EReal) ≤ z ↔ ∀ d : Fin 7168, mag (entry X G S R d) ≤ z := by
  unfold top
  rw [cast1]
  refine (max_red_le (absf (k0_pay2 X G S)) reduces_S16384x7168_S16384 (.inl rfl) rfl (ix1 (n := 16384) R) z).trans ?_
  refine forall_congr' fun k => ?_
  have e : reduces_S16384x7168_S16384.lift (ix1 (n := 16384) R) k = ix2 (n0 := 16384) (n1 := 7168) R k := ext2 rfl rfl
  rw [e]
  exact Iff.of_eq (congrArg (fun v : EReal => mag v ≤ z) (pay2_apply X G S R k))

/-- The exponent of the scale. -/
def exps {s : Shape} (a : FVec Ideal s .f32) : FVec Ideal s .f32 :=
  addf (floor (divf (log (mulf a (broadcast s (Scalar.ofBits (F := Ideal) .f32 0x37924925#32)))) (log (broadcast s (Scalar.ofBits (F := Ideal) .f32 0x40000000#32)))))
    (broadcast s (Scalar.ofBits (F := Ideal) .f32 0x3F800000#32))

/-- The scale, one where the row is zero. -/
def scaled {s : Shape} (a : FVec Ideal s .f32) : FVec Ideal s .f32 :=
  select (cmpf .oeq a (broadcast s (Scalar.ofBits (F := Ideal) .f32 0x00000000#32))) (broadcast s (Scalar.ofBits (F := Ideal) .f32 0x3F800000#32))
    (select (cmpf .ogt (exps a) (broadcast s (Scalar.ofBits (F := Ideal) .f32 0x42FE0000#32))) (broadcast s (Scalar.ofBits (F := Ideal) .f32 0x7F800000#32))
      (exp2 (maximumf (exps a) (broadcast s (Scalar.ofBits (F := Ideal) .f32 0xC2FC0000#32)))))

theorem bits_two : Ideal.ofBits .f32 0x40000000#32 = ((2 : ℝ) : EReal) := by
  simp [Ideal.ofBits, Ideal.ieee, -EReal.coe_mul]
  norm_num
theorem bits_127 : Ideal.ofBits .f32 0x42FE0000#32 = ((127 : ℝ) : EReal) := by
  simp [Ideal.ofBits, Ideal.ieee, -EReal.coe_mul]
  norm_num
theorem bits_m126 : Ideal.ofBits .f32 0xC2FC0000#32 = ((-126 : ℝ) : EReal) := by
  simp [Ideal.ofBits, Ideal.ieee, -EReal.coe_mul]
  norm_num

theorem exps_apply {s : Shape} (a : FVec Ideal s .f32) (y : s.Idx) : (exps a y : EReal) = expo (a y) := by
  show Ideal.liftRound Int.floor (Ideal.div (Ideal.log ((a y : EReal) * Ideal.ofBits .f32 0x37924925#32)) (Ideal.log (Ideal.ofBits .f32 0x40000000#32))) + Ideal.ofBits .f32 0x3F800000#32 = _
  have h1 : Ideal.ofBits .f32 0x3F800000#32 = (1 : EReal) := Ideal.ofBits_one_f32
  rw [bits_kappa, bits_two, h1]
  rfl

theorem scaled_apply {s : Shape} (a : FVec Ideal s .f32) (y : s.Idx) : (scaled a y : EReal) = scaleExp (a y) := by
  unfold scaled
  rw [unit_apply]
  refine if_congr Iff.rfl rfl ?_
  show Scalar.select (BitVec.ofBool (decide (Ideal.ofBits .f32 0x42FE0000#32 < (exps a y : EReal)))) (Ideal.ofBits .f32 0x7F800000#32 : EReal)
    (Ideal.exp2 (max (exps a y : EReal) (Ideal.ofBits .f32 0xC2FC0000#32))) = _
  rw [bits_127, bits_top, bits_m126, select_ofBool, exps_apply]

theorem pay3_eq : k0_pay3 X G S = scaled (top X G S) := rfl

theorem pay3_apply (R : Fin 16384) : (k0_pay3 X G S (ix2 (n0 := 16384) (n1 := 1) R 0) : EReal) = scale (top X G S (ix2 (n0 := 16384) (n1 := 1) R 0)) := by
  refine ((congrFun (pay3_eq X G S) _).trans (scaled_apply _ _)).trans (scaleExp_eq _ ?_)
  exact (mag_nonneg _).trans ((top_le X G S R _).1 le_rfl 0)

theorem pay4_apply (R : Fin 16384) : (k0_pay4 X G S (ix2 (n0 := 1) (n1 := 16384) 0 R) : EReal) = scale (top X G S (ix2 (n0 := 16384) (n1 := 1) R 0)) := by
  unfold k0_pay4
  exact (transpose_apply [1, 0] (k0_pay3 X G S) transposes_S16384x1_p1_0_S1x16384 _ (ix2 (n0 := 16384) (n1 := 1) R 0) (fun a => by
    match a with
    | 0 => rfl
    | 1 => rfl)).trans (pay3_apply X G S R)

theorem pay1_apply (R : Fin 16384) (d : Fin 7168) :
    (k0_pay1 (k0_pay5 X G S) (ix2 (n0 := 16384) (n1 := 7168) R d) : EReal)
      = min ((57344 : ℝ) : EReal) (max ((-57344 : ℝ) : EReal) (entry X G S R d * Ideal.div 1 (scale (top X G S (ix2 (n0 := 16384) (n1 := 1) R 0))))) := by
  have e : (k0_pay5 X G S (ix2 (n0 := 16384) (n1 := 7168) R d) : EReal) = entry X G S R d * Ideal.div 1 (scale (top X G S (ix2 (n0 := 16384) (n1 := 1) R 0))) := by
    unfold k0_pay5
    have e0 := pay2_apply X G S R d
    have e1 := col7 (divf (broadcast S16384x1 (Scalar.ofBits (F := Ideal) .f32 0x3F800000#32)) (k0_pay3 X G S)) R d
    have e2 : (divf (broadcast S16384x1 (Scalar.ofBits (F := Ideal) .f32 0x3F800000#32)) (k0_pay3 X G S) (ix2 (n0 := 16384) (n1 := 1) R 0) : EReal)
        = Ideal.div 1 (scale (top X G S (ix2 (n0 := 16384) (n1 := 1) R 0))) := (inv_apply _ _).trans (congrArg (Ideal.div 1) (pay3_apply X G S R))
    exact congrArg₂ (fun a b : EReal => a * b) e0 (e1.trans e2)
  unfold k0_pay1
  show min (Ideal.ofBits .f32 0x47600000#32) (max (Ideal.ofBits .f32 0xC7600000#32) (k0_pay5 X G S (ix2 (n0 := 16384) (n1 := 7168) R d) : EReal)) = _
  rw [e, bits_hi, bits_lo]

end Cert.ReferenceIdeal.Own
end
-- ==== Proof.Value.lean ====
module

public import proofs.«01_k».proof.Defs
public import proofs.«01_k».proof.Proof.Frames
public import proofs.«01_k».proof.Proof.KEnd
public import proofs.«01_k».proof.Proof.RHost
public import proofs.«01_k».proof.Proof.RArr
public import proofs.«01_k».proof.Proof.RVal
public import proofs.«01_k».proof.Proof.Gen.KernelIdeal
public import proofs.«01_k».proof.Proof.Gen.ReferenceIdeal
public import proofs.«01_k».proof.Proof.Gen.Pre_rows_in_range

@[expose] public section

/-! The kernel's codes and scales are the reference's. -/

noncomputable section

namespace Cert.Proof

open Idealize.ShloMosaic Idealize.ShloMosaic.TcCoe Idealize.SL.Sem
open Cert.Scale
open ValueIdx (ix1 ix2)

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The arguments agree. -/
def Same : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

section
variable (h : Same m m' c) (R : Fin 16384) (T : Fin 2048) (K : Fin 8)
  (hp : ((m ((c.tc : Thread Cert.KernelIdeal.nD Cert.KernelIdeal.τ).loc Cert.KernelIdeal.main_arg5) : KernelIdeal.S16384.Idx → BitVec 32) (ix1 (n := 16384) R)).toNat = 8 * T.val + K.val)

include h hp in
theorem hp' : ((m' ((c.tc : Thread Cert.ReferenceIdeal.nD Cert.ReferenceIdeal.τ).loc Cert.ReferenceIdeal.main_arg5) : ReferenceIdeal.S16384.Idx → BitVec 32) (ix1 (n := 16384) R)).toNat = 8 * T.val + K.val := by
  rw [h.2.2.2]
  exact hp

include h hp in
theorem entry_eq (d : Fin 7168) :
    ReferenceIdeal.Own.entry (ReferenceIdeal.Gen.V m' c ReferenceIdeal.main_v7) (ReferenceIdeal.Gen.V m' c ReferenceIdeal.main_v24) (ReferenceIdeal.Gen.V m' c ReferenceIdeal.main_v23) R d
      = KernelIdeal.Own.gVal m c T K * (KernelIdeal.Own.xrow (m ((c.tc : Thread Cert.KernelIdeal.nD Cert.KernelIdeal.τ).loc Cert.KernelIdeal.main_arg0) : KernelIdeal.S2048x7168.Idx → BitVec 8) T d * KernelIdeal.Own.sVal m c T) := by
  have e0 := ReferenceIdeal.Own.dy_row m' c R T K (hp' m m' c h R T K hp) d
  have e1 := ReferenceIdeal.Own.s_row m' c R T K (hp' m m' c h R T K hp)
  have e4 := ReferenceIdeal.Own.g_row m' c R T K (hp' m m' c h R T K hp)
  rw [h.1] at e0
  rw [h.2.1] at e1
  rw [h.2.2.1] at e4
  unfold ReferenceIdeal.Own.entry
  refine congrArg₂ (fun a b : EReal => a * b) e4 (congrArg₂ (fun a b : EReal => a * b) (congrArg (Ideal.ofBits .fp8e5m2) e0) e1)

/-- The largest magnitude of a row of the reference. -/
def topOf (R : Fin 16384) : EReal :=
  ReferenceIdeal.Own.top (ReferenceIdeal.Gen.V m' c ReferenceIdeal.main_v7) (ReferenceIdeal.Gen.V m' c ReferenceIdeal.main_v24) (ReferenceIdeal.Gen.V m' c ReferenceIdeal.main_v23) (ix2 (n0 := 16384) (n1 := 1) R 0)

include h hp in
theorem topOf_le (z : EReal) : topOf m' c R ≤ z ↔ ∀ d : Fin 7168, mag (KernelIdeal.Own.gVal m c T K * (KernelIdeal.Own.xrow (m ((c.tc : Thread Cert.KernelIdeal.nD Cert.KernelIdeal.τ).loc Cert.KernelIdeal.main_arg0) : KernelIdeal.S2048x7168.Idx → BitVec 8) T d * KernelIdeal.Own.sVal m c T)) ≤ z := by
  unfold topOf
  rw [ReferenceIdeal.Own.top_le]
  refine forall_congr' fun d => ?_
  rw [entry_eq m m' c h R T K hp d]

include h hp in
theorem bound_eq : KernelIdeal.Own.rowBound m c T K = topOf m' c R := KernelIdeal.Own.rowBound_eq m c T K _ (topOf_le m m' c h R T K hp)

include h hp in
theorem scale_at : (KernelIdeal.Own.scalesV m c (ix2 (n0 := 1) (n1 := 16384) 0 R) : EReal)
    = ReferenceIdeal.Gen.k0_pay4 (ReferenceIdeal.Gen.V m' c ReferenceIdeal.main_v7) (ReferenceIdeal.Gen.V m' c ReferenceIdeal.main_v24) (ReferenceIdeal.Gen.V m' c ReferenceIdeal.main_v23) (ix2 (n0 := 1) (n1 := 16384) 0 R) := by
  refine (KernelIdeal.Own.scales_row m c R T K hp _ rfl rfl).trans ?_
  rw [bound_eq m m' c h R T K hp]
  exact (ReferenceIdeal.Own.pay4_apply _ _ _ R).symm

include h hp in
theorem code_at (d : Fin 7168) : (KernelIdeal.Own.codesV m c (ix2 (n0 := 16384) (n1 := 7168) R d) : EReal)
    = ReferenceIdeal.Gen.k0_pay1 (ReferenceIdeal.Gen.k0_pay5 (ReferenceIdeal.Gen.V m' c ReferenceIdeal.main_v7) (ReferenceIdeal.Gen.V m' c ReferenceIdeal.main_v24) (ReferenceIdeal.Gen.V m' c ReferenceIdeal.main_v23)) (ix2 (n0 := 16384) (n1 := 7168) R d) := by
  refine (KernelIdeal.Own.codes_row m c R T K hp d _ rfl rfl).trans ?_
  refine Eq.trans ?_ (ReferenceIdeal.Own.pay1_apply _ _ _ R d).symm
  rw [bound_eq m m' c h R T K hp, entry_eq m m' c h R T K hp d]
  exact code_eq pw kap kappa_le _ _ _ (topOf m' c R) ((topOf_le m m' c h R T K hp _).1 le_rfl d)
end

section
variable (h : Same m m' c) (hr : ∀ R : Fin 16384, ((m ((c.tc : Thread Cert.KernelIdeal.nD Cert.KernelIdeal.τ).loc Cert.KernelIdeal.main_arg5) : KernelIdeal.S16384.Idx → BitVec 32) (ix1 (n := 16384) R)).toNat < 16384)

include h hr in
theorem codes_eq : (ReferenceIdeal.Gen.dats m' 0 c).arrAt 3 ReferenceIdeal.cfg0.N = KernelIdeal.Own.codesV m c := by
  rw [ReferenceIdeal.Own.arr3]
  funext z
  have hz := hr (z 0)
  have ez : z = ix2 (n0 := 16384) (n1 := 7168) (z 0) (z 1) := ReferenceIdeal.Own.ext2 rfl rfl
  rw [ez]
  exact (code_at m m' c h (z 0) ⟨_ / 8, by omega⟩ ⟨_ % 8, Nat.mod_lt _ (by decide)⟩ (Nat.div_add_mod _ 8).symm (z 1)).symm

include h hr in
theorem scales_eq : (ReferenceIdeal.Gen.dats m' 0 c).arrAt 4 ReferenceIdeal.cfg0.N = KernelIdeal.Own.scalesV m c := by
  rw [ReferenceIdeal.Own.arr4]
  funext z
  have hz := hr (z 1)
  have z0 : (z 0).val < 1 := (z 0).2
  have ez : z = ix2 (n0 := 1) (n1 := 16384) 0 (z 1) := ReferenceIdeal.Own.ext2 (by show (z 0).val = 0; omega) rfl
  rw [ez]
  exact (scale_at m m' c h (z 1) ⟨_ / 8, by omega⟩ ⟨_ % 8, Nat.mod_lt _ (by decide)⟩ (Nat.div_add_mod _ 8).symm).symm
end

theorem algebraic : Cert.algebraic_KernelIdeal_ReferenceIdeal (hKernelIdeal := Cert.KernelIdeal.Gen.facts) (hReferenceIdeal := Cert.ReferenceIdeal.Gen.facts) (hPre_rows_in_range := Cert.Pre_rows_in_range.Gen.facts) := by
  intro m g m' g' hm h
  have hr : ∀ (c : Dev Cert.KernelIdeal.nD) (y : KernelIdeal.S16384.Idx), ((m ((c.tc : Thread Cert.KernelIdeal.nD Cert.KernelIdeal.τ).loc Cert.KernelIdeal.main_arg5) : KernelIdeal.S16384.Idx → BitVec 32) y).toNat < 16384 :=
    fun c y => rows_lt _ _ _ _ _ _ (hm c) y
  have hs : ∀ c, Same m m' c := fun c => ⟨(h c).1, (h c).2.1, (h c).2.2.2.2.1, (h c).2.2.2.2.2⟩
  refine ⟨fun c => KernelIdeal.Own.codesV m c, fun c => KernelIdeal.Own.scalesV m c, ?_, ?_⟩
  · exact (θ_run _ _ _).mono (fun r hv c => ⟨(hv c).1.1, (hv c).1.2, (hv c).2⟩) (KernelIdeal.Own.value_run m g hr)
  · exact (θ_run _ _ _).mono (fun r hv c => ⟨(hv c).1.trans (codes_eq m m' c (hs c) (fun R => hr c _)), (hv c).2.1.trans (scales_eq m m' c (hs c) (fun R => hr c _)), (hv c).2.2⟩)
      (ReferenceIdeal.Own.run_blocks m' g')

end Cert.Proof
end
-- ==== Proof.lean ====
module

public import proofs.«01_k».proof.Defs
public import proofs.«01_k».proof.Proof.Frames
public import proofs.«01_k».proof.Proof.Value
public import proofs.«01_k».proof.Proof.Gen.Kernel
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Frame
public import proofs.«01_k».proof.Proof.Gen.Pre_rows_in_range

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_rows_in_range.Gen.facts,
    frame_Kernel, frame_KernelIdeal, frame_ReferenceIdeal, trivial, algebraic⟩

end Cert.Proof

end
